-- ==== Defs.lean ====
def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dwt (m : (ℓ : Loc Cert.Dwt.nD Cert.Dwt.τ Cert.Dwt.sig) → Buf (Elt Bits) ℓ) : Prop :=
  True

def Pre_DwtIdeal (m : (ℓ : Loc Cert.DwtIdeal.nD Cert.DwtIdeal.τ Cert.DwtIdeal.sig) → Buf (Elt Ideal) ℓ) : Prop :=
  True

def Pre_DwtRefIdeal (m : (ℓ : Loc Cert.DwtRefIdeal.nD Cert.DwtRefIdeal.τ Cert.DwtRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite [hPre_finite : Cert.Pre_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).1 = (fun _ => 1#1)
    ∧ (Cert.Pre_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite [hPre_finite : Cert.Pre_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).1 = (fun _ => 1#1)
    ∧ (Cert.Pre_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2 = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_PairIn (m : (ℓ : Loc Cert.PairIn.nD Cert.PairIn.τ Cert.PairIn.sig) → Buf (Elt Bits) ℓ) : Prop :=
  True

def Pre_PairInIdeal (m : (ℓ : Loc Cert.PairInIdeal.nD Cert.PairInIdeal.τ Cert.PairInIdeal.sig) → Buf (Elt Ideal) ℓ) : Prop :=
  True

def Pre_PairInRefIdeal (m : (ℓ : Loc Cert.PairInRefIdeal.nD Cert.PairInRefIdeal.τ Cert.PairInRefIdeal.sig) → Buf (Elt Ideal) ℓ) : Prop :=
  True

def Pre_PairInRef (m : (ℓ : Loc Cert.PairInRef.nD Cert.PairInRef.τ Cert.PairInRef.sig) → Buf (Elt Bits) ℓ) : Prop :=
  True

def Pre_PairOut (m : (ℓ : Loc Cert.PairOut.nD Cert.PairOut.τ Cert.PairOut.sig) → Buf (Elt Bits) ℓ) : Prop :=
  True

def Pre_PairOutIdeal (m : (ℓ : Loc Cert.PairOutIdeal.nD Cert.PairOutIdeal.τ Cert.PairOutIdeal.sig) → Buf (Elt Ideal) ℓ) : Prop :=
  True

def Pre_PairOutRefIdeal (m : (ℓ : Loc Cert.PairOutRefIdeal.nD Cert.PairOutRefIdeal.τ Cert.PairOutRefIdeal.sig) → Buf (Elt Ideal) ℓ) : Prop :=
  True

def Pre_PairOutRef (m : (ℓ : Loc Cert.PairOutRef.nD Cert.PairOutRef.τ Cert.PairOutRef.sig) → Buf (Elt Bits) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Dwt [hDwt : Cert.Dwt.Facts] : Prop :=
  ∀ (m : (ℓ : Loc Cert.Dwt.nD Cert.Dwt.τ Cert.Dwt.sig) → Buf (Elt Bits) ℓ) (g : Dev Cert.Dwt.nD → PrngReg), Pre_Dwt m →
    θ_run (Cert.Dwt.defs (F := Bits)) (onTc (τ := Cert.Dwt.τ) (Cert.Dwt.main (F := Bits))) ⟨m, fun _ => 0, g⟩ (fun r => (∀ c : Dev Cert.Dwt.nD,
      r.2.mem ((c.tc : Thread Cert.Dwt.nD Cert.Dwt.τ).loc Cert.Dwt.main_arg0) = m ((c.tc : Thread Cert.Dwt.nD Cert.Dwt.τ).loc Cert.Dwt.main_arg0)
      ∧ r.2.mem ((c.tc : Thread Cert.Dwt.nD Cert.Dwt.τ).loc Cert.Dwt.main_arg1) = m ((c.tc : Thread Cert.Dwt.nD Cert.Dwt.τ).loc Cert.Dwt.main_arg1))
      ∧ r.2.sem = fun _ => 0)

def quiescent_DwtIdeal [hDwtIdeal : Cert.DwtIdeal.Facts] : Prop :=
  ∀ (m : (ℓ : Loc Cert.DwtIdeal.nD Cert.DwtIdeal.τ Cert.DwtIdeal.sig) → Buf (Elt Ideal) ℓ) (g : Dev Cert.DwtIdeal.nD → PrngReg), Pre_DwtIdeal m →
    θ_run (Cert.DwtIdeal.defs (F := Ideal)) (onTc (τ := Cert.DwtIdeal.τ) (Cert.DwtIdeal.main (F := Ideal))) ⟨m, fun _ => 0, g⟩ (fun r => (∀ c : Dev Cert.DwtIdeal.nD,
      r.2.mem ((c.tc : Thread Cert.DwtIdeal.nD Cert.DwtIdeal.τ).loc Cert.DwtIdeal.main_arg0) = m ((c.tc : Thread Cert.DwtIdeal.nD Cert.DwtIdeal.τ).loc Cert.DwtIdeal.main_arg0)
      ∧ r.2.mem ((c.tc : Thread Cert.DwtIdeal.nD Cert.DwtIdeal.τ).loc Cert.DwtIdeal.main_arg1) = m ((c.tc : Thread Cert.DwtIdeal.nD Cert.DwtIdeal.τ).loc Cert.DwtIdeal.main_arg1))
      ∧ r.2.sem = fun _ => 0)

def quiescent_DwtRefIdeal [hDwtRefIdeal : Cert.DwtRefIdeal.Facts] : Prop :=
  ∀ (m : (ℓ : Loc Cert.DwtRefIdeal.nD Cert.DwtRefIdeal.τ Cert.DwtRefIdeal.sig) → Buf (Elt Ideal) ℓ) (g : Dev Cert.DwtRefIdeal.nD → PrngReg), Pre_DwtRefIdeal m →
    θ_run (Cert.DwtRefIdeal.defs (F := Ideal)) (onTc (τ := Cert.DwtRefIdeal.τ) (Cert.DwtRefIdeal.main (F := Ideal))) ⟨m, fun _ => 0, g⟩ (fun r => (∀ c : Dev Cert.DwtRefIdeal.nD,
      r.2.mem ((c.tc : Thread Cert.DwtRefIdeal.nD Cert.DwtRefIdeal.τ).loc Cert.DwtRefIdeal.main_arg0) = m ((c.tc : Thread Cert.DwtRefIdeal.nD Cert.DwtRefIdeal.τ).loc Cert.DwtRefIdeal.main_arg0)
      ∧ r.2.mem ((c.tc : Thread Cert.DwtRefIdeal.nD Cert.DwtRefIdeal.τ).loc Cert.DwtRefIdeal.main_arg1) = m ((c.tc : Thread Cert.DwtRefIdeal.nD Cert.DwtRefIdeal.τ).loc Cert.DwtRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite [hLnBwdIdeal : Cert.LnBwdIdeal.Facts] [hPre_finite : Cert.Pre_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnBwdRefIdeal_pre_finite [hLnBwdRefIdeal : Cert.LnBwdRefIdeal.Facts] [hPre_finite : Cert.Pre_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5)
      ∧ r.2.mem ((c.tc : Thread Cert.AdamwIn.nD Cert.AdamwIn.τ).loc Cert.AdamwIn.main_arg6) = m ((c.tc : Thread Cert.AdamwIn.nD Cert.AdamwIn.τ).loc Cert.AdamwIn.main_arg6)
      ∧ r.2.mem ((c.tc : Thread Cert.AdamwIn.nD Cert.AdamwIn.τ).loc Cert.AdamwIn.main_arg7) = m ((c.tc : Thread Cert.AdamwIn.nD Cert.AdamwIn.τ).loc Cert.AdamwIn.main_arg7)
      ∧ r.2.mem ((c.tc : Thread Cert.AdamwIn.nD Cert.AdamwIn.τ).loc Cert.AdamwIn.main_arg8) = m ((c.tc : Thread Cert.AdamwIn.nD Cert.AdamwIn.τ).loc Cert.AdamwIn.main_arg8))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
      ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6)
      ∧ r.2.mem ((c.tc : Thread Cert.AdamwInIdeal.nD Cert.AdamwInIdeal.τ).loc Cert.AdamwInIdeal.main_arg7) = m ((c.tc : Thread Cert.AdamwInIdeal.nD Cert.AdamwInIdeal.τ).loc Cert.AdamwInIdeal.main_arg7)
      ∧ r.2.mem ((c.tc : Thread Cert.AdamwInIdeal.nD Cert.AdamwInIdeal.τ).loc Cert.AdamwInIdeal.main_arg8) = m ((c.tc : Thread Cert.AdamwInIdeal.nD Cert.AdamwInIdeal.τ).loc Cert.AdamwInIdeal.main_arg8))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4)
      ∧ r.2.mem ((c.tc : Thread Cert.AdamwInRefIdeal.nD Cert.AdamwInRefIdeal.τ).loc Cert.AdamwInRefIdeal.main_arg5) = m ((c.tc : Thread Cert.AdamwInRefIdeal.nD Cert.AdamwInRefIdeal.τ).loc Cert.AdamwInRefIdeal.main_arg5)
      ∧ r.2.mem ((c.tc : Thread Cert.AdamwInRefIdeal.nD Cert.AdamwInRefIdeal.τ).loc Cert.AdamwInRefIdeal.main_arg6) = m ((c.tc : Thread Cert.AdamwInRefIdeal.nD Cert.AdamwInRefIdeal.τ).loc Cert.AdamwInRefIdeal.main_arg6)
      ∧ r.2.mem ((c.tc : Thread Cert.AdamwInRefIdeal.nD Cert.AdamwInRefIdeal.τ).loc Cert.AdamwInRefIdeal.main_arg7) = m ((c.tc : Thread Cert.AdamwInRefIdeal.nD Cert.AdamwInRefIdeal.τ).loc Cert.AdamwInRefIdeal.main_arg7)
      ∧ r.2.mem ((c.tc : Thread Cert.AdamwInRefIdeal.nD Cert.AdamwInRefIdeal.τ).loc Cert.AdamwInRefIdeal.main_arg8) = m ((c.tc : Thread Cert.AdamwInRefIdeal.nD Cert.AdamwInRefIdeal.τ).loc Cert.AdamwInRefIdeal.main_arg8))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4)
      ∧ r.2.mem ((c.tc : Thread Cert.AdamwOut.nD Cert.AdamwOut.τ).loc Cert.AdamwOut.main_arg5) = m ((c.tc : Thread Cert.AdamwOut.nD Cert.AdamwOut.τ).loc Cert.AdamwOut.main_arg5)
      ∧ r.2.mem ((c.tc : Thread Cert.AdamwOut.nD Cert.AdamwOut.τ).loc Cert.AdamwOut.main_arg6) = m ((c.tc : Thread Cert.AdamwOut.nD Cert.AdamwOut.τ).loc Cert.AdamwOut.main_arg6)
      ∧ r.2.mem ((c.tc : Thread Cert.AdamwOut.nD Cert.AdamwOut.τ).loc Cert.AdamwOut.main_arg7) = m ((c.tc : Thread Cert.AdamwOut.nD Cert.AdamwOut.τ).loc Cert.AdamwOut.main_arg7)
      ∧ r.2.mem ((c.tc : Thread Cert.AdamwOut.nD Cert.AdamwOut.τ).loc Cert.AdamwOut.main_arg8) = m ((c.tc : Thread Cert.AdamwOut.nD Cert.AdamwOut.τ).loc Cert.AdamwOut.main_arg8))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
      ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5)
      ∧ r.2.mem ((c.tc : Thread Cert.AdamwOutIdeal.nD Cert.AdamwOutIdeal.τ).loc Cert.AdamwOutIdeal.main_arg6) = m ((c.tc : Thread Cert.AdamwOutIdeal.nD Cert.AdamwOutIdeal.τ).loc Cert.AdamwOutIdeal.main_arg6)
      ∧ r.2.mem ((c.tc : Thread Cert.AdamwOutIdeal.nD Cert.AdamwOutIdeal.τ).loc Cert.AdamwOutIdeal.main_arg7) = m ((c.tc : Thread Cert.AdamwOutIdeal.nD Cert.AdamwOutIdeal.τ).loc Cert.AdamwOutIdeal.main_arg7)
      ∧ r.2.mem ((c.tc : Thread Cert.AdamwOutIdeal.nD Cert.AdamwOutIdeal.τ).loc Cert.AdamwOutIdeal.main_arg8) = m ((c.tc : Thread Cert.AdamwOutIdeal.nD Cert.AdamwOutIdeal.τ).loc Cert.AdamwOutIdeal.main_arg8))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4)
      ∧ r.2.mem ((c.tc : Thread Cert.AdamwOutRefIdeal.nD Cert.AdamwOutRefIdeal.τ).loc Cert.AdamwOutRefIdeal.main_arg5) = m ((c.tc : Thread Cert.AdamwOutRefIdeal.nD Cert.AdamwOutRefIdeal.τ).loc Cert.AdamwOutRefIdeal.main_arg5)
      ∧ r.2.mem ((c.tc : Thread Cert.AdamwOutRefIdeal.nD Cert.AdamwOutRefIdeal.τ).loc Cert.AdamwOutRefIdeal.main_arg6) = m ((c.tc : Thread Cert.AdamwOutRefIdeal.nD Cert.AdamwOutRefIdeal.τ).loc Cert.AdamwOutRefIdeal.main_arg6)
      ∧ r.2.mem ((c.tc : Thread Cert.AdamwOutRefIdeal.nD Cert.AdamwOutRefIdeal.τ).loc Cert.AdamwOutRefIdeal.main_arg7) = m ((c.tc : Thread Cert.AdamwOutRefIdeal.nD Cert.AdamwOutRefIdeal.τ).loc Cert.AdamwOutRefIdeal.main_arg7)
      ∧ r.2.mem ((c.tc : Thread Cert.AdamwOutRefIdeal.nD Cert.AdamwOutRefIdeal.τ).loc Cert.AdamwOutRefIdeal.main_arg8) = m ((c.tc : Thread Cert.AdamwOutRefIdeal.nD Cert.AdamwOutRefIdeal.τ).loc Cert.AdamwOutRefIdeal.main_arg8))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_PairIn [hPairIn : Cert.PairIn.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1))
      ∧ r.2.sem = fun _ => 0)

def quiescent_PairInIdeal [hPairInIdeal : Cert.PairInIdeal.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ r.2.sem = fun _ => 0)

def quiescent_PairInRefIdeal [hPairInRefIdeal : Cert.PairInRefIdeal.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1))
      ∧ r.2.sem = fun _ => 0)

def quiescent_PairInRef [hPairInRef : Cert.PairInRef.Facts] : Prop :=
  ∀ (m : (ℓ : Loc Cert.PairInRef.nD Cert.PairInRef.τ Cert.PairInRef.sig) → Buf (Elt Bits) ℓ) (g : Dev Cert.PairInRef.nD → PrngReg), Pre_PairInRef m →
    θ_run (Cert.PairInRef.defs (F := Bits)) (onTc (τ := Cert.PairInRef.τ) (Cert.PairInRef.main (F := Bits))) ⟨m, fun _ => 0, g⟩ (fun r => (∀ c : Dev Cert.PairInRef.nD,
      r.2.mem ((c.tc : Thread Cert.PairInRef.nD Cert.PairInRef.τ).loc Cert.PairInRef.main_arg0) = m ((c.tc : Thread Cert.PairInRef.nD Cert.PairInRef.τ).loc Cert.PairInRef.main_arg0)
      ∧ r.2.mem ((c.tc : Thread Cert.PairInRef.nD Cert.PairInRef.τ).loc Cert.PairInRef.main_arg1) = m ((c.tc : Thread Cert.PairInRef.nD Cert.PairInRef.τ).loc Cert.PairInRef.main_arg1))
      ∧ r.2.sem = fun _ => 0)

def quiescent_PairOut [hPairOut : Cert.PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1))
      ∧ r.2.sem = fun _ => 0)

def quiescent_PairOutIdeal [hPairOutIdeal : Cert.PairOutIdeal.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1))
      ∧ r.2.sem = fun _ => 0)

def quiescent_PairOutRef [hPairOutRef : Cert.PairOutRef.Facts] : Prop :=
  ∀ (m : (ℓ : Loc Cert.PairOutRef.nD Cert.PairOutRef.τ Cert.PairOutRef.sig) → Buf (Elt Bits) ℓ) (g : Dev Cert.PairOutRef.nD → PrngReg), Pre_PairOutRef m →
    θ_run (Cert.PairOutRef.defs (F := Bits)) (onTc (τ := Cert.PairOutRef.τ) (Cert.PairOutRef.main (F := Bits))) ⟨m, fun _ => 0, g⟩ (fun r => (∀ c : Dev Cert.PairOutRef.nD,
      r.2.mem ((c.tc : Thread Cert.PairOutRef.nD Cert.PairOutRef.τ).loc Cert.PairOutRef.main_arg0) = m ((c.tc : Thread Cert.PairOutRef.nD Cert.PairOutRef.τ).loc Cert.PairOutRef.main_arg0)
      ∧ r.2.mem ((c.tc : Thread Cert.PairOutRef.nD Cert.PairOutRef.τ).loc Cert.PairOutRef.main_arg1) = m ((c.tc : Thread Cert.PairOutRef.nD Cert.PairOutRef.τ).loc Cert.PairOutRef.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12))
      ∧ r.2.sem = fun _ => 0)

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v1)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v1) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v3) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v6) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Dwt_DwtIdeal : Prop :=
  True

def algebraic_DwtIdeal_DwtRefIdeal [hDwtIdeal : Cert.DwtIdeal.Facts] [hDwtRefIdeal : Cert.DwtRefIdeal.Facts] : Prop :=
  ∀ (m : (ℓ : Loc Cert.DwtIdeal.nD Cert.DwtIdeal.τ Cert.DwtIdeal.sig) → Buf (Elt Ideal) ℓ) (g : Dev Cert.DwtIdeal.nD → PrngReg)
    (m' : (ℓ : Loc Cert.DwtRefIdeal.nD Cert.DwtRefIdeal.τ Cert.DwtRefIdeal.sig) → Buf (Elt Ideal) ℓ) (g' : Dev Cert.DwtRefIdeal.nD → PrngReg), Pre_DwtIdeal m →
    (∀ c : Dev Cert.DwtIdeal.nD,
      m' ((c.tc : Thread Cert.DwtRefIdeal.nD Cert.DwtRefIdeal.τ).loc Cert.DwtRefIdeal.main_arg0) = m ((c.tc : Thread Cert.DwtIdeal.nD Cert.DwtIdeal.τ).loc Cert.DwtIdeal.main_arg0)
      ∧ m' ((c.tc : Thread Cert.DwtRefIdeal.nD Cert.DwtRefIdeal.τ).loc Cert.DwtRefIdeal.main_arg1) = m ((c.tc : Thread Cert.DwtIdeal.nD Cert.DwtIdeal.τ).loc Cert.DwtIdeal.main_arg1)) →
    ∃ (v0 : (c : Dev Cert.DwtIdeal.nD) → Buf (Elt Ideal) ((c.tc : Thread Cert.DwtIdeal.nD Cert.DwtIdeal.τ).loc Cert.DwtIdeal.main_v1)),
      θ_run (Cert.DwtIdeal.defs (F := Ideal)) (onTc (τ := Cert.DwtIdeal.τ) (Cert.DwtIdeal.main (F := Ideal))) ⟨m, fun _ => 0, g⟩ (fun r => ∀ c : Dev Cert.DwtIdeal.nD,
          r.2.mem ((c.tc : Thread Cert.DwtIdeal.nD Cert.DwtIdeal.τ).loc Cert.DwtIdeal.main_v1) = v0 c
          ∧ r.2.mem ((c.tc : Thread Cert.DwtIdeal.nD Cert.DwtIdeal.τ).loc Cert.DwtIdeal.main_arg0) = m ((c.tc : Thread Cert.DwtIdeal.nD Cert.DwtIdeal.τ).loc Cert.DwtIdeal.main_arg0)
          ∧ r.2.mem ((c.tc : Thread Cert.DwtIdeal.nD Cert.DwtIdeal.τ).loc Cert.DwtIdeal.main_arg1) = m ((c.tc : Thread Cert.DwtIdeal.nD Cert.DwtIdeal.τ).loc Cert.DwtIdeal.main_arg1))
      ∧ θ_run (Cert.DwtRefIdeal.defs (F := Ideal)) (onTc (τ := Cert.DwtRefIdeal.τ) (Cert.DwtRefIdeal.main (F := Ideal))) ⟨m', fun _ => 0, g'⟩ (fun r => ∀ c : Dev Cert.DwtRefIdeal.nD,
          r.2.mem ((c.tc : Thread Cert.DwtRefIdeal.nD Cert.DwtRefIdeal.τ).loc Cert.DwtRefIdeal.main_v7) = v0 c
          ∧ r.2.mem ((c.tc : Thread Cert.DwtRefIdeal.nD Cert.DwtRefIdeal.τ).loc Cert.DwtRefIdeal.main_arg0) = m' ((c.tc : Thread Cert.DwtRefIdeal.nD Cert.DwtRefIdeal.τ).loc Cert.DwtRefIdeal.main_arg0)
          ∧ r.2.mem ((c.tc : Thread Cert.DwtRefIdeal.nD Cert.DwtRefIdeal.τ).loc Cert.DwtRefIdeal.main_arg1) = m' ((c.tc : Thread Cert.DwtRefIdeal.nD Cert.DwtRefIdeal.τ).loc Cert.DwtRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v8) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_LnBwd_LnBwdIdeal : Prop :=
  True

def algebraic_LnBwdIdeal_LnBwdRefIdeal_pre_finite [hLnBwdIdeal : Cert.LnBwdIdeal.Facts] [hLnBwdRefIdeal : Cert.LnBwdRefIdeal.Facts] [hPre_finite : Cert.Pre_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v2_0)) (v1 : (c : Dev Cert.LnBwdIdeal.nD) → Buf (Elt Ideal) ((c.tc : Thread Cert.LnBwdIdeal.nD Cert.LnBwdIdeal.τ).loc Cert.LnBwdIdeal.main_v2_1)) (v2 : (c : Dev Cert.LnBwdIdeal.nD) → Buf (Elt Ideal) ((c.tc : Thread Cert.LnBwdIdeal.nD Cert.LnBwdIdeal.τ).loc Cert.LnBwdIdeal.main_v2_2)) (v3 : (c : Dev Cert.LnBwdIdeal.nD) → Buf (Elt Ideal) ((c.tc : Thread Cert.LnBwdIdeal.nD Cert.LnBwdIdeal.τ).loc Cert.LnBwdIdeal.main_v2_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v2_0) = v0 c
          ∧ r.2.mem ((c.tc : Thread Cert.LnBwdIdeal.nD Cert.LnBwdIdeal.τ).loc Cert.LnBwdIdeal.main_v2_1) = v1 c
          ∧ r.2.mem ((c.tc : Thread Cert.LnBwdIdeal.nD Cert.LnBwdIdeal.τ).loc Cert.LnBwdIdeal.main_v2_2) = v2 c
          ∧ r.2.mem ((c.tc : Thread Cert.LnBwdIdeal.nD Cert.LnBwdIdeal.τ).loc Cert.LnBwdIdeal.main_v2_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v63) = v0 c
          ∧ r.2.mem ((c.tc : Thread Cert.LnBwdRefIdeal.nD Cert.LnBwdRefIdeal.τ).loc Cert.LnBwdRefIdeal.main_v64) = v1 c
          ∧ r.2.mem ((c.tc : Thread Cert.LnBwdRefIdeal.nD Cert.LnBwdRefIdeal.τ).loc Cert.LnBwdRefIdeal.main_v65) = v2 c
          ∧ r.2.mem ((c.tc : Thread Cert.LnBwdRefIdeal.nD Cert.LnBwdRefIdeal.τ).loc Cert.LnBwdRefIdeal.main_v66) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v3_0)) (v1 : (c : Dev Cert.LnFwdIdeal.nD) → Buf (Elt Ideal) ((c.tc : Thread Cert.LnFwdIdeal.nD Cert.LnFwdIdeal.τ).loc Cert.LnFwdIdeal.main_v3_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v3_0) = v0 c
          ∧ r.2.mem ((c.tc : Thread Cert.LnFwdIdeal.nD Cert.LnFwdIdeal.τ).loc Cert.LnFwdIdeal.main_v3_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v23) = v0 c
          ∧ r.2.mem ((c.tc : Thread Cert.LnFwdRefIdeal.nD Cert.LnFwdRefIdeal.τ).loc Cert.LnFwdRefIdeal.main_v24) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v38) = v0 c
          ∧ r.2.mem ((c.tc : Thread Cert.LossRefIdeal.nD Cert.LossRefIdeal.τ).loc Cert.LossRefIdeal.main_v39) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)
      ∧ m' ((c.tc : Thread Cert.AdamwInRefIdeal.nD Cert.AdamwInRefIdeal.τ).loc Cert.AdamwInRefIdeal.main_arg5) = m ((c.tc : Thread Cert.AdamwInIdeal.nD Cert.AdamwInIdeal.τ).loc Cert.AdamwInIdeal.main_arg5)
      ∧ m' ((c.tc : Thread Cert.AdamwInRefIdeal.nD Cert.AdamwInRefIdeal.τ).loc Cert.AdamwInRefIdeal.main_arg6) = m ((c.tc : Thread Cert.AdamwInIdeal.nD Cert.AdamwInIdeal.τ).loc Cert.AdamwInIdeal.main_arg6)
      ∧ m' ((c.tc : Thread Cert.AdamwInRefIdeal.nD Cert.AdamwInRefIdeal.τ).loc Cert.AdamwInRefIdeal.main_arg7) = m ((c.tc : Thread Cert.AdamwInIdeal.nD Cert.AdamwInIdeal.τ).loc Cert.AdamwInIdeal.main_arg7)
      ∧ m' ((c.tc : Thread Cert.AdamwInRefIdeal.nD Cert.AdamwInRefIdeal.τ).loc Cert.AdamwInRefIdeal.main_arg8) = m ((c.tc : Thread Cert.AdamwInIdeal.nD Cert.AdamwInIdeal.τ).loc Cert.AdamwInIdeal.main_arg8)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
          ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6)
          ∧ r.2.mem ((c.tc : Thread Cert.AdamwInIdeal.nD Cert.AdamwInIdeal.τ).loc Cert.AdamwInIdeal.main_arg7) = m ((c.tc : Thread Cert.AdamwInIdeal.nD Cert.AdamwInIdeal.τ).loc Cert.AdamwInIdeal.main_arg7)
          ∧ r.2.mem ((c.tc : Thread Cert.AdamwInIdeal.nD Cert.AdamwInIdeal.τ).loc Cert.AdamwInIdeal.main_arg8) = m ((c.tc : Thread Cert.AdamwInIdeal.nD Cert.AdamwInIdeal.τ).loc Cert.AdamwInIdeal.main_arg8))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v34) = v0 c
          ∧ r.2.mem ((c.tc : Thread Cert.AdamwInRefIdeal.nD Cert.AdamwInRefIdeal.τ).loc Cert.AdamwInRefIdeal.main_v36) = v1 c
          ∧ r.2.mem ((c.tc : Thread Cert.AdamwInRefIdeal.nD Cert.AdamwInRefIdeal.τ).loc Cert.AdamwInRefIdeal.main_v38) = v2 c
          ∧ r.2.mem ((c.tc : Thread Cert.AdamwInRefIdeal.nD Cert.AdamwInRefIdeal.τ).loc Cert.AdamwInRefIdeal.main_v40) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4)
          ∧ r.2.mem ((c.tc : Thread Cert.AdamwInRefIdeal.nD Cert.AdamwInRefIdeal.τ).loc Cert.AdamwInRefIdeal.main_arg5) = m' ((c.tc : Thread Cert.AdamwInRefIdeal.nD Cert.AdamwInRefIdeal.τ).loc Cert.AdamwInRefIdeal.main_arg5)
          ∧ r.2.mem ((c.tc : Thread Cert.AdamwInRefIdeal.nD Cert.AdamwInRefIdeal.τ).loc Cert.AdamwInRefIdeal.main_arg6) = m' ((c.tc : Thread Cert.AdamwInRefIdeal.nD Cert.AdamwInRefIdeal.τ).loc Cert.AdamwInRefIdeal.main_arg6)
          ∧ r.2.mem ((c.tc : Thread Cert.AdamwInRefIdeal.nD Cert.AdamwInRefIdeal.τ).loc Cert.AdamwInRefIdeal.main_arg7) = m' ((c.tc : Thread Cert.AdamwInRefIdeal.nD Cert.AdamwInRefIdeal.τ).loc Cert.AdamwInRefIdeal.main_arg7)
          ∧ r.2.mem ((c.tc : Thread Cert.AdamwInRefIdeal.nD Cert.AdamwInRefIdeal.τ).loc Cert.AdamwInRefIdeal.main_arg8) = m' ((c.tc : Thread Cert.AdamwInRefIdeal.nD Cert.AdamwInRefIdeal.τ).loc Cert.AdamwInRefIdeal.main_arg8))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)
      ∧ m' ((c.tc : Thread Cert.AdamwOutRefIdeal.nD Cert.AdamwOutRefIdeal.τ).loc Cert.AdamwOutRefIdeal.main_arg5) = m ((c.tc : Thread Cert.AdamwOutIdeal.nD Cert.AdamwOutIdeal.τ).loc Cert.AdamwOutIdeal.main_arg5)
      ∧ m' ((c.tc : Thread Cert.AdamwOutRefIdeal.nD Cert.AdamwOutRefIdeal.τ).loc Cert.AdamwOutRefIdeal.main_arg6) = m ((c.tc : Thread Cert.AdamwOutIdeal.nD Cert.AdamwOutIdeal.τ).loc Cert.AdamwOutIdeal.main_arg6)
      ∧ m' ((c.tc : Thread Cert.AdamwOutRefIdeal.nD Cert.AdamwOutRefIdeal.τ).loc Cert.AdamwOutRefIdeal.main_arg7) = m ((c.tc : Thread Cert.AdamwOutIdeal.nD Cert.AdamwOutIdeal.τ).loc Cert.AdamwOutIdeal.main_arg7)
      ∧ m' ((c.tc : Thread Cert.AdamwOutRefIdeal.nD Cert.AdamwOutRefIdeal.τ).loc Cert.AdamwOutRefIdeal.main_arg8) = m ((c.tc : Thread Cert.AdamwOutIdeal.nD Cert.AdamwOutIdeal.τ).loc Cert.AdamwOutIdeal.main_arg8)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
          ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5)
          ∧ r.2.mem ((c.tc : Thread Cert.AdamwOutIdeal.nD Cert.AdamwOutIdeal.τ).loc Cert.AdamwOutIdeal.main_arg6) = m ((c.tc : Thread Cert.AdamwOutIdeal.nD Cert.AdamwOutIdeal.τ).loc Cert.AdamwOutIdeal.main_arg6)
          ∧ r.2.mem ((c.tc : Thread Cert.AdamwOutIdeal.nD Cert.AdamwOutIdeal.τ).loc Cert.AdamwOutIdeal.main_arg7) = m ((c.tc : Thread Cert.AdamwOutIdeal.nD Cert.AdamwOutIdeal.τ).loc Cert.AdamwOutIdeal.main_arg7)
          ∧ r.2.mem ((c.tc : Thread Cert.AdamwOutIdeal.nD Cert.AdamwOutIdeal.τ).loc Cert.AdamwOutIdeal.main_arg8) = m ((c.tc : Thread Cert.AdamwOutIdeal.nD Cert.AdamwOutIdeal.τ).loc Cert.AdamwOutIdeal.main_arg8))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v34) = v0 c
          ∧ r.2.mem ((c.tc : Thread Cert.AdamwOutRefIdeal.nD Cert.AdamwOutRefIdeal.τ).loc Cert.AdamwOutRefIdeal.main_v36) = v1 c
          ∧ r.2.mem ((c.tc : Thread Cert.AdamwOutRefIdeal.nD Cert.AdamwOutRefIdeal.τ).loc Cert.AdamwOutRefIdeal.main_v38) = v2 c
          ∧ r.2.mem ((c.tc : Thread Cert.AdamwOutRefIdeal.nD Cert.AdamwOutRefIdeal.τ).loc Cert.AdamwOutRefIdeal.main_v40) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4)
          ∧ r.2.mem ((c.tc : Thread Cert.AdamwOutRefIdeal.nD Cert.AdamwOutRefIdeal.τ).loc Cert.AdamwOutRefIdeal.main_arg5) = m' ((c.tc : Thread Cert.AdamwOutRefIdeal.nD Cert.AdamwOutRefIdeal.τ).loc Cert.AdamwOutRefIdeal.main_arg5)
          ∧ r.2.mem ((c.tc : Thread Cert.AdamwOutRefIdeal.nD Cert.AdamwOutRefIdeal.τ).loc Cert.AdamwOutRefIdeal.main_arg6) = m' ((c.tc : Thread Cert.AdamwOutRefIdeal.nD Cert.AdamwOutRefIdeal.τ).loc Cert.AdamwOutRefIdeal.main_arg6)
          ∧ r.2.mem ((c.tc : Thread Cert.AdamwOutRefIdeal.nD Cert.AdamwOutRefIdeal.τ).loc Cert.AdamwOutRefIdeal.main_arg7) = m' ((c.tc : Thread Cert.AdamwOutRefIdeal.nD Cert.AdamwOutRefIdeal.τ).loc Cert.AdamwOutRefIdeal.main_arg7)
          ∧ r.2.mem ((c.tc : Thread Cert.AdamwOutRefIdeal.nD Cert.AdamwOutRefIdeal.τ).loc Cert.AdamwOutRefIdeal.main_arg8) = m' ((c.tc : Thread Cert.AdamwOutRefIdeal.nD Cert.AdamwOutRefIdeal.τ).loc Cert.AdamwOutRefIdeal.main_arg8))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v0) = v0 c
          ∧ r.2.mem ((c.tc : Thread Cert.AdamwRefIdeal.nD Cert.AdamwRefIdeal.τ).loc Cert.AdamwRefIdeal.main_v24) = v1 c
          ∧ r.2.mem ((c.tc : Thread Cert.AdamwRefIdeal.nD Cert.AdamwRefIdeal.τ).loc Cert.AdamwRefIdeal.main_v5) = v2 c
          ∧ r.2.mem ((c.tc : Thread Cert.AdamwRefIdeal.nD Cert.AdamwRefIdeal.τ).loc Cert.AdamwRefIdeal.main_v11) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_PairIn_PairInIdeal : Prop :=
  True

def algebraic_PairInIdeal_PairInRefIdeal [hPairInIdeal : Cert.PairInIdeal.Facts] [hPairInRefIdeal : Cert.PairInRefIdeal.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInRefIdeal.nD Cert.PairInRefIdeal.τ Cert.PairInRefIdeal.sig) → Buf (Elt Ideal) ℓ) (g' : Dev Cert.PairInRefIdeal.nD → PrngReg), Pre_PairInIdeal m →
    (∀ c : Dev Cert.PairInIdeal.nD,
      m' ((c.tc : Thread Cert.PairInRefIdeal.nD Cert.PairInRefIdeal.τ).loc Cert.PairInRefIdeal.main_arg0) = m ((c.tc : Thread Cert.PairInIdeal.nD Cert.PairInIdeal.τ).loc Cert.PairInIdeal.main_arg0)
      ∧ m' ((c.tc : Thread Cert.PairInRefIdeal.nD Cert.PairInRefIdeal.τ).loc Cert.PairInRefIdeal.main_arg1) = m ((c.tc : Thread Cert.PairInIdeal.nD Cert.PairInIdeal.τ).loc Cert.PairInIdeal.main_arg1)) →
    ∃ (v0 : (c : Dev Cert.PairInIdeal.nD) → Buf (Elt Ideal) ((c.tc : Thread Cert.PairInIdeal.nD Cert.PairInIdeal.τ).loc Cert.PairInIdeal.main_v0)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v0) = v0 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ θ_run (Cert.PairInRefIdeal.defs (F := Ideal)) (onTc (τ := Cert.PairInRefIdeal.τ) (Cert.PairInRefIdeal.main (F := Ideal))) ⟨m', fun _ => 0, g'⟩ (fun r => ∀ c : Dev Cert.PairInRefIdeal.nD,
          r.2.mem ((c.tc : Thread Cert.PairInRefIdeal.nD Cert.PairInRefIdeal.τ).loc Cert.PairInRefIdeal.main_v4) = v0 c
          ∧ r.2.mem ((c.tc : Thread Cert.PairInRefIdeal.nD Cert.PairInRefIdeal.τ).loc Cert.PairInRefIdeal.main_arg0) = m' ((c.tc : Thread Cert.PairInRefIdeal.nD Cert.PairInRefIdeal.τ).loc Cert.PairInRefIdeal.main_arg0)
          ∧ r.2.mem ((c.tc : Thread Cert.PairInRefIdeal.nD Cert.PairInRefIdeal.τ).loc Cert.PairInRefIdeal.main_arg1) = m' ((c.tc : Thread Cert.PairInRefIdeal.nD Cert.PairInRefIdeal.τ).loc Cert.PairInRefIdeal.main_arg1))

def bitexact_PairIn_PairInRef [hPairIn : Cert.PairIn.Facts] [hPairInRef : Cert.PairInRef.Facts] : Prop :=
  ∀ (m : (ℓ : Loc Cert.PairIn.nD Cert.PairIn.τ Cert.PairIn.sig) → Buf (Elt Bits) ℓ) (g : Dev Cert.PairIn.nD → PrngReg)
    (m' : (ℓ : Loc Cert.PairInRef.nD Cert.PairInRef.τ Cert.PairInRef.sig) → Buf (Elt Bits) ℓ) (g' : Dev Cert.PairInRef.nD → PrngReg), Pre_PairIn m →
    (∀ c : Dev Cert.PairIn.nD,
      m' ((c.tc : Thread Cert.PairInRef.nD Cert.PairInRef.τ).loc Cert.PairInRef.main_arg0) = m ((c.tc : Thread Cert.PairIn.nD Cert.PairIn.τ).loc Cert.PairIn.main_arg0)
      ∧ m' ((c.tc : Thread Cert.PairInRef.nD Cert.PairInRef.τ).loc Cert.PairInRef.main_arg1) = m ((c.tc : Thread Cert.PairIn.nD Cert.PairIn.τ).loc Cert.PairIn.main_arg1)) →
    ∃ (v0 : (c : Dev Cert.PairIn.nD) → Buf (Elt Bits) ((c.tc : Thread Cert.PairIn.nD Cert.PairIn.τ).loc Cert.PairIn.main_v0)),
      θ_run (Cert.PairIn.defs (F := Bits)) (onTc (τ := Cert.PairIn.τ) (Cert.PairIn.main (F := Bits))) ⟨m, fun _ => 0, g⟩ (fun r => ∀ c : Dev Cert.PairIn.nD,
          r.2.mem ((c.tc : Thread Cert.PairIn.nD Cert.PairIn.τ).loc Cert.PairIn.main_v0) = v0 c
          ∧ r.2.mem ((c.tc : Thread Cert.PairIn.nD Cert.PairIn.τ).loc Cert.PairIn.main_arg0) = m ((c.tc : Thread Cert.PairIn.nD Cert.PairIn.τ).loc Cert.PairIn.main_arg0)
          ∧ r.2.mem ((c.tc : Thread Cert.PairIn.nD Cert.PairIn.τ).loc Cert.PairIn.main_arg1) = m ((c.tc : Thread Cert.PairIn.nD Cert.PairIn.τ).loc Cert.PairIn.main_arg1))
      ∧ θ_run (Cert.PairInRef.defs (F := Bits)) (onTc (τ := Cert.PairInRef.τ) (Cert.PairInRef.main (F := Bits))) ⟨m', fun _ => 0, g'⟩ (fun r => ∀ c : Dev Cert.PairInRef.nD,
          r.2.mem ((c.tc : Thread Cert.PairInRef.nD Cert.PairInRef.τ).loc Cert.PairInRef.main_v4) = v0 c
          ∧ r.2.mem ((c.tc : Thread Cert.PairInRef.nD Cert.PairInRef.τ).loc Cert.PairInRef.main_arg0) = m' ((c.tc : Thread Cert.PairInRef.nD Cert.PairInRef.τ).loc Cert.PairInRef.main_arg0)
          ∧ r.2.mem ((c.tc : Thread Cert.PairInRef.nD Cert.PairInRef.τ).loc Cert.PairInRef.main_arg1) = m' ((c.tc : Thread Cert.PairInRef.nD Cert.PairInRef.τ).loc Cert.PairInRef.main_arg1))

def preserves_PairOut_PairOutIdeal : Prop :=
  True

def algebraic_PairOutIdeal_PairOutRefIdeal [hPairOutIdeal : Cert.PairOutIdeal.Facts] [hPairOutRefIdeal : Cert.PairOutRefIdeal.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)) →
    ∃ (v0 : (c : Dev Cert.PairOutIdeal.nD) → Buf (Elt Ideal) ((c.tc : Thread Cert.PairOutIdeal.nD Cert.PairOutIdeal.τ).loc Cert.PairOutIdeal.main_v0)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v0) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v4) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1))

def bitexact_PairOut_PairOutRef [hPairOut : Cert.PairOut.Facts] [hPairOutRef : Cert.PairOutRef.Facts] : Prop :=
  ∀ (m : (ℓ : Loc Cert.PairOut.nD Cert.PairOut.τ Cert.PairOut.sig) → Buf (Elt Bits) ℓ) (g : Dev Cert.PairOut.nD → PrngReg)
    (m' : (ℓ : Loc Cert.PairOutRef.nD Cert.PairOutRef.τ Cert.PairOutRef.sig) → Buf (Elt Bits) ℓ) (g' : Dev Cert.PairOutRef.nD → PrngReg), Pre_PairOut m →
    (∀ c : Dev Cert.PairOut.nD,
      m' ((c.tc : Thread Cert.PairOutRef.nD Cert.PairOutRef.τ).loc Cert.PairOutRef.main_arg0) = m ((c.tc : Thread Cert.PairOut.nD Cert.PairOut.τ).loc Cert.PairOut.main_arg0)
      ∧ m' ((c.tc : Thread Cert.PairOutRef.nD Cert.PairOutRef.τ).loc Cert.PairOutRef.main_arg1) = m ((c.tc : Thread Cert.PairOut.nD Cert.PairOut.τ).loc Cert.PairOut.main_arg1)) →
    ∃ (v0 : (c : Dev Cert.PairOut.nD) → Buf (Elt Bits) ((c.tc : Thread Cert.PairOut.nD Cert.PairOut.τ).loc Cert.PairOut.main_v0)),
      θ_run (Cert.PairOut.defs (F := Bits)) (onTc (τ := Cert.PairOut.τ) (Cert.PairOut.main (F := Bits))) ⟨m, fun _ => 0, g⟩ (fun r => ∀ c : Dev Cert.PairOut.nD,
          r.2.mem ((c.tc : Thread Cert.PairOut.nD Cert.PairOut.τ).loc Cert.PairOut.main_v0) = v0 c
          ∧ r.2.mem ((c.tc : Thread Cert.PairOut.nD Cert.PairOut.τ).loc Cert.PairOut.main_arg0) = m ((c.tc : Thread Cert.PairOut.nD Cert.PairOut.τ).loc Cert.PairOut.main_arg0)
          ∧ r.2.mem ((c.tc : Thread Cert.PairOut.nD Cert.PairOut.τ).loc Cert.PairOut.main_arg1) = m ((c.tc : Thread Cert.PairOut.nD Cert.PairOut.τ).loc Cert.PairOut.main_arg1))
      ∧ θ_run (Cert.PairOutRef.defs (F := Bits)) (onTc (τ := Cert.PairOutRef.τ) (Cert.PairOutRef.main (F := Bits))) ⟨m', fun _ => 0, g'⟩ (fun r => ∀ c : Dev Cert.PairOutRef.nD,
          r.2.mem ((c.tc : Thread Cert.PairOutRef.nD Cert.PairOutRef.τ).loc Cert.PairOutRef.main_v4) = v0 c
          ∧ r.2.mem ((c.tc : Thread Cert.PairOutRef.nD Cert.PairOutRef.τ).loc Cert.PairOutRef.main_arg0) = m' ((c.tc : Thread Cert.PairOutRef.nD Cert.PairOutRef.τ).loc Cert.PairOutRef.main_arg0)
          ∧ r.2.mem ((c.tc : Thread Cert.PairOutRef.nD Cert.PairOutRef.τ).loc Cert.PairOutRef.main_arg1) = m' ((c.tc : Thread Cert.PairOutRef.nD Cert.PairOutRef.τ).loc Cert.PairOutRef.main_arg1))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)) →
    ∃ (v0 : (c : Dev Cert.MixerIdeal.nD) → Buf (Elt Ideal) ((c.tc : Thread Cert.MixerIdeal.nD Cert.MixerIdeal.τ).loc Cert.MixerIdeal.main_v34)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v34) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v44) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12))

def Claim : Prop :=
  ∃ (hDmix : Cert.Dmix.Facts) (hDmixIdeal : Cert.DmixIdeal.Facts) (hDmixRefIdeal : Cert.DmixRefIdeal.Facts) (hDwo : Cert.Dwo.Facts) (hDwoIdeal : Cert.DwoIdeal.Facts) (hDwoRefIdeal : Cert.DwoRefIdeal.Facts) (hDwt : Cert.Dwt.Facts) (hDwtIdeal : Cert.DwtIdeal.Facts) (hDwtRefIdeal : Cert.DwtRefIdeal.Facts) (hDx : Cert.Dx.Facts) (hDxIdeal : Cert.DxIdeal.Facts) (hDxRefIdeal : Cert.DxRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hLnBwd : Cert.LnBwd.Facts) (hLnBwdIdeal : Cert.LnBwdIdeal.Facts) (hLnBwdRefIdeal : Cert.LnBwdRefIdeal.Facts) (hLnFwd : Cert.LnFwd.Facts) (hLnFwdIdeal : Cert.LnFwdIdeal.Facts) (hLnFwdRefIdeal : Cert.LnFwdRefIdeal.Facts) (hLoss : Cert.Loss.Facts) (hLossIdeal : Cert.LossIdeal.Facts) (hLossRefIdeal : Cert.LossRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hAdamw : Cert.Adamw.Facts) (hAdamwIdeal : Cert.AdamwIdeal.Facts) (hAdamwRefIdeal : Cert.AdamwRefIdeal.Facts) (hPairIn : Cert.PairIn.Facts) (hPairInIdeal : Cert.PairInIdeal.Facts) (hPairInRefIdeal : Cert.PairInRefIdeal.Facts) (hPairInRef : Cert.PairInRef.Facts) (hPairOut : Cert.PairOut.Facts) (hPairOutIdeal : Cert.PairOutIdeal.Facts) (hPairOutRefIdeal : Cert.PairOutRefIdeal.Facts) (hPairOutRef : Cert.PairOutRef.Facts) (hMixer : Cert.Mixer.Facts) (hMixerIdeal : Cert.MixerIdeal.Facts) (hMixerRefIdeal : Cert.MixerRefIdeal.Facts) (hPre_finite : Cert.Pre_finite.Facts),
    quiescent_Dmix (hDmix := hDmix)
    ∧ quiescent_DmixIdeal (hDmixIdeal := hDmixIdeal)
    ∧ quiescent_DmixRefIdeal (hDmixRefIdeal := hDmixRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dwt (hDwt := hDwt)
    ∧ quiescent_DwtIdeal (hDwtIdeal := hDwtIdeal)
    ∧ quiescent_DwtRefIdeal (hDwtRefIdeal := hDwtRefIdeal)
    ∧ quiescent_Dx (hDx := hDx)
    ∧ quiescent_DxIdeal (hDxIdeal := hDxIdeal)
    ∧ quiescent_DxRefIdeal (hDxRefIdeal := hDxRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_LnBwd (hLnBwd := hLnBwd)
    ∧ quiescent_LnBwdIdeal (hLnBwdIdeal := hLnBwdIdeal)
    ∧ quiescent_LnBwdIdeal_pre_finite (hLnBwdIdeal := hLnBwdIdeal) (hPre_finite := hPre_finite)
    ∧ quiescent_LnBwdRefIdeal (hLnBwdRefIdeal := hLnBwdRefIdeal)
    ∧ quiescent_LnBwdRefIdeal_pre_finite (hLnBwdRefIdeal := hLnBwdRefIdeal) (hPre_finite := hPre_finite)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_Loss (hLoss := hLoss)
    ∧ quiescent_LossIdeal (hLossIdeal := hLossIdeal)
    ∧ quiescent_LossRefIdeal (hLossRefIdeal := hLossRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_PairIn (hPairIn := hPairIn)
    ∧ quiescent_PairInIdeal (hPairInIdeal := hPairInIdeal)
    ∧ quiescent_PairInRefIdeal (hPairInRefIdeal := hPairInRefIdeal)
    ∧ quiescent_PairInRef (hPairInRef := hPairInRef)
    ∧ quiescent_PairOut (hPairOut := hPairOut)
    ∧ quiescent_PairOutIdeal (hPairOutIdeal := hPairOutIdeal)
    ∧ quiescent_PairOutRefIdeal (hPairOutRefIdeal := hPairOutRefIdeal)
    ∧ quiescent_PairOutRef (hPairOutRef := hPairOutRef)
    ∧ quiescent_Mixer (hMixer := hMixer)
    ∧ quiescent_MixerIdeal (hMixerIdeal := hMixerIdeal)
    ∧ quiescent_MixerRefIdeal (hMixerRefIdeal := hMixerRefIdeal)
    ∧ preserves_Dmix_DmixIdeal
    ∧ algebraic_DmixIdeal_DmixRefIdeal (hDmixIdeal := hDmixIdeal) (hDmixRefIdeal := hDmixRefIdeal)
    ∧ preserves_Dwo_DwoIdeal
    ∧ algebraic_DwoIdeal_DwoRefIdeal (hDwoIdeal := hDwoIdeal) (hDwoRefIdeal := hDwoRefIdeal)
    ∧ preserves_Dwt_DwtIdeal
    ∧ algebraic_DwtIdeal_DwtRefIdeal (hDwtIdeal := hDwtIdeal) (hDwtRefIdeal := hDwtRefIdeal)
    ∧ preserves_Dx_DxIdeal
    ∧ algebraic_DxIdeal_DxRefIdeal (hDxIdeal := hDxIdeal) (hDxRefIdeal := hDxRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_LnBwd_LnBwdIdeal
    ∧ algebraic_LnBwdIdeal_LnBwdRefIdeal_pre_finite (hLnBwdIdeal := hLnBwdIdeal) (hLnBwdRefIdeal := hLnBwdRefIdeal) (hPre_finite := hPre_finite)
    ∧ preserves_LnFwd_LnFwdIdeal
    ∧ algebraic_LnFwdIdeal_LnFwdRefIdeal (hLnFwdIdeal := hLnFwdIdeal) (hLnFwdRefIdeal := hLnFwdRefIdeal)
    ∧ preserves_Loss_LossIdeal
    ∧ algebraic_LossIdeal_LossRefIdeal (hLossIdeal := hLossIdeal) (hLossRefIdeal := hLossRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_Adamw_AdamwIdeal
    ∧ algebraic_AdamwIdeal_AdamwRefIdeal (hAdamwIdeal := hAdamwIdeal) (hAdamwRefIdeal := hAdamwRefIdeal)
    ∧ preserves_PairIn_PairInIdeal
    ∧ algebraic_PairInIdeal_PairInRefIdeal (hPairInIdeal := hPairInIdeal) (hPairInRefIdeal := hPairInRefIdeal)
    ∧ bitexact_PairIn_PairInRef (hPairIn := hPairIn) (hPairInRef := hPairInRef)
    ∧ preserves_PairOut_PairOutIdeal
    ∧ algebraic_PairOutIdeal_PairOutRefIdeal (hPairOutIdeal := hPairOutIdeal) (hPairOutRefIdeal := hPairOutRefIdeal)
    ∧ bitexact_PairOut_PairOutRef (hPairOut := hPairOut) (hPairOutRef := hPairOutRef)
    ∧ preserves_Mixer_MixerIdeal
    ∧ algebraic_MixerIdeal_MixerRefIdeal (hMixerIdeal := hMixerIdeal) (hMixerRefIdeal := hMixerRefIdeal)
-- ==== Pre_finite.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  bcast_S_S4096 : S_.BroadcastsInDim S4096 (![] : Fin 0 → Fin S4096.rank)

variable [Facts]

def fn {F : FTy → Type} [FloatOps F] (main_arg0 : FVec F S4096x4096 .f32) (main_arg1 : FVec F S4096x4096 .f32) (main_arg2 : FVec F S4096 .f32) : IVec S4096x4096 1 × IVec S4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096 .f32 := Host.absf main_arg2
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  (main_v2, main_v5)
-- ==== Dmix.lean ====
abbrev S4096x4096 : Shape := ⟨2, ![4096, 4096]⟩
abbrev S1024x4096 : Shape := ⟨2, ![1024, 4096]⟩
abbrev S1024x1024 : Shape := ⟨2, ![1024, 1024]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .bf16⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwo.lean ====
abbrev S4096x4096 : Shape := ⟨2, ![4096, 4096]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwt.lean ====
abbrev S4096x10752 : Shape := ⟨2, ![4096, 10752]⟩
abbrev S4096x4096 : Shape := ⟨2, ![4096, 4096]⟩
abbrev S_ : Shape := ⟨0, ![]⟩
abbrev S8x128 : Shape := ⟨2, ![8, 128]⟩
abbrev S10752x4096 : Shape := ⟨2, ![10752, 4096]⟩
abbrev S4096x1536 : Shape := ⟨2, ![4096, 1536]⟩
abbrev S4096x512 : Shape := ⟨2, ![4096, 512]⟩
abbrev S1536x512 : Shape := ⟨2, ![1536, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x10752, .bf16⟩
  | .hbm, ⟨1, _⟩ => ⟨S4096x4096, .bf16⟩
  | .hbm, ⟨2, _⟩ => ⟨S_, .f32⟩
  | .hbm, ⟨3, _⟩ => ⟨S8x128, .f32⟩
  | .hbm, ⟨4, _⟩ => ⟨S10752x4096, .bf16⟩
  | .local _ .vmem, ⟨0, _⟩ => ⟨S4096x1536, .bf16⟩
  | .local _ .vmem, ⟨1, _⟩ => ⟨S4096x1536, .bf16⟩
  | .local _ .vmem, ⟨2, _⟩ => ⟨S4096x512, .bf16⟩
  | .local _ .vmem, ⟨3, _⟩ => ⟨S4096x512, .bf16⟩
  | .local _ .vmem, ⟨4, _⟩ => ⟨S8x128, .f32⟩
  | .local _ .vmem, ⟨5, _⟩ => ⟨S1536x512, .bf16⟩
  | .local _ .vmem, ⟨6, _⟩ => ⟨S1536x512, .bf16⟩
  | .local _ .vmem, ⟨7, _⟩ => ⟨S8x128, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwtRefIdeal.lean ====
abbrev S4096x10752 : Shape := ⟨2, ![4096, 10752]⟩
abbrev S4096x4096 : Shape := ⟨2, ![4096, 4096]⟩
abbrev S_ : Shape := ⟨0, ![]⟩
abbrev S10752x4096 : Shape := ⟨2, ![10752, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x4096, .bf16⟩
  | .hbm, ⟨2, _⟩ => ⟨S_, .f32⟩
  | .hbm, ⟨3, _⟩ => ⟨S4096x10752, .f32⟩
  | .hbm, ⟨4, _⟩ => ⟨S4096x4096, .f32⟩
  | .hbm, ⟨5, _⟩ => ⟨S4096x10752, .f32⟩
  | .hbm, ⟨6, _⟩ => ⟨S4096x10752, .f32⟩
  | .hbm, ⟨7, _⟩ => ⟨S10752x4096, .f32⟩
  | .hbm, ⟨8, _⟩ => ⟨S4096x10752, .f32⟩
  | .hbm, ⟨9, _⟩ => ⟨S10752x4096, .f32⟩
  | .hbm, ⟨10, _⟩ => ⟨S10752x4096, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dx.lean ====
abbrev S4096x10752 : Shape := ⟨2, ![4096, 10752]⟩
abbrev S4096x4096 : Shape := ⟨2, ![4096, 4096]⟩
abbrev S10752x4096 : Shape := ⟨2, ![10752, 4096]⟩
abbrev S_ : Shape := ⟨0, ![]⟩
abbrev S8x128 : Shape := ⟨2, ![8, 128]⟩
abbrev S1024x3584 : Shape := ⟨2, ![1024, 3584]⟩
abbrev S3584x1024 : Shape := ⟨2, ![3584, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x10752, .bf16⟩
  | .hbm, ⟨1, _⟩ => ⟨S4096x10752, .f32⟩
  | .hbm, ⟨2, _⟩ => ⟨S4096x4096, .f32⟩
  | .hbm, ⟨3, _⟩ => ⟨S10752x4096, .f32⟩
  | .hbm, ⟨4, _⟩ => ⟨S10752x4096, .bf16⟩
  | .hbm, ⟨5, _⟩ => ⟨S_, .f32⟩
  | .hbm, ⟨6, _⟩ => ⟨S8x128, .f32⟩
  | .hbm, ⟨7, _⟩ => ⟨S4096x4096, .f32⟩
  | .local _ .vmem, ⟨0, _⟩ => ⟨S1024x3584, .bf16⟩
  | .local _ .vmem, ⟨1, _⟩ => ⟨S1024x3584, .bf16⟩
  | .local _ .vmem, ⟨2, _⟩ => ⟨S3584x1024, .bf16⟩
  | .local _ .vmem, ⟨3, _⟩ => ⟨S3584x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DxRefIdeal.lean ====
abbrev S4096x10752 : Shape := ⟨2, ![4096, 10752]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x10752, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x10752, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x10752, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== In.lean ====
abbrev S4096x4096 : Shape := ⟨2, ![4096, 4096]⟩
abbrev S4096x10752 : Shape := ⟨2, ![4096, 10752]⟩
abbrev S10752x4096 : Shape := ⟨2, ![10752, 4096]⟩
abbrev S_ : Shape := ⟨0, ![]⟩
abbrev S8x128 : Shape := ⟨2, ![8, 128]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x10752, .f32⟩
  | .hbm, ⟨2, _⟩ => ⟨S10752x4096, .f32⟩
  | .hbm, ⟨3, _⟩ => ⟨S10752x4096, .bf16⟩
  | .hbm, ⟨4, _⟩ => ⟨S4096x4096, .bf16⟩
  | .hbm, ⟨5, _⟩ => ⟨S_, .f32⟩
  | .hbm, ⟨6, _⟩ => ⟨S8x128, .f32⟩
  | .hbm, ⟨7, _⟩ => ⟨S4096x10752, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S8x128, .f32⟩
  | .local _ .vmem, ⟨5, _⟩ => ⟨S1024x512, .f32⟩
  | .local _ .vmem, ⟨6, _⟩ => ⟨S1024x512, .f32⟩
  | .local _ .vmem, ⟨7, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 21, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InRefIdeal.lean ====
abbrev S4096x4096 : Shape := ⟨2, ![4096, 4096]⟩
abbrev S4096x10752 : Shape := ⟨2, ![4096, 10752]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x10752, .f32⟩
  | .hbm, ⟨2, _⟩ => ⟨S4096x10752, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== LnBwd.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S_, .f32⟩
  | .hbm, ⟨5, _⟩ => ⟨S8x128, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S8x128, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S1x4096, .f32⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S1x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S_, .f32⟩
  | .hbm, ⟨46, _⟩ => ⟨S4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x4096, .f32⟩
  | .hbm, ⟨60, _⟩ => ⟨S4096x4096, .f32⟩
  | .hbm, ⟨61, _⟩ => ⟨S4096x1, .f32⟩
  | .hbm, ⟨62, _⟩ => ⟨S4096x4096, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x4096, .f32⟩
  | .hbm, ⟨85, _⟩ => ⟨S4096x4096, .f32⟩
  | .hbm, ⟨86, _⟩ => ⟨S4096x4096, .bf16⟩
  | .hbm, ⟨87, _⟩ => ⟨S1x4096, .f32⟩
  | .hbm, ⟨88, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== LnFwd.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S8x128, .f32⟩
  | .hbm, ⟨7, _⟩ => ⟨S4096x4096, .f32⟩
  | .hbm, ⟨8, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S8x128, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFwdRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Loss.lean ====
abbrev S4096x4096 : Shape := ⟨2, ![4096, 4096]⟩
abbrev S4096 : Shape := ⟨1, ![4096]⟩
abbrev S1x4096 : Shape := ⟨2, ![1, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩

abbrev nBuf : Space → Nat
  | .hbm => 8
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S1x1, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x4096, .f32⟩
  | .hbm, ⟨55, _⟩ => ⟨S4096x4096, .f32⟩
  | .hbm, ⟨56, _⟩ => ⟨S1x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== AdamwIn.lean ====
abbrev S4x1344x4096 : Shape := ⟨3, ![4, 1344, 4096]⟩
abbrev S3x1344x4096 : Shape := ⟨3, ![3, 1344, 4096]⟩
abbrev S1x112x4096 : Shape := ⟨3, ![1, 112, 4096]⟩
abbrev S3x112x4096 : Shape := ⟨3, ![3, 112, 4096]⟩

abbrev nBuf : Space → Nat
  | .hbm => 13
  | .vmem => 18
  | .smem => 0
  | _ => 0

abbrev bufTy : (tb : Table) → Fin (tcTables nBuf tb) → BufTy
  | .hbm, ⟨0, _⟩ => ⟨S4x1344x4096, .f32⟩
  | .hbm, ⟨1, _⟩ => ⟨S4x1344x4096, .f32⟩
  | .hbm, ⟨2, _⟩ => ⟨S4x1344x4096, .f32⟩
  | .hbm, ⟨3, _⟩ => ⟨S4x1344x4096, .bf16⟩
  | .hbm, ⟨4, _⟩ => ⟨S3x1344x4096, .bf16⟩
  | .hbm, ⟨5, _⟩ => ⟨S4x1344x4096, .f32⟩
  | .hbm, ⟨6, _⟩ => ⟨S4x1344x4096, .f32⟩
  | .hbm, ⟨7, _⟩ => ⟨S4x1344x4096, .f32⟩
  | .hbm, ⟨8, _⟩ => ⟨S4x1344x4096, .f32⟩
  | .hbm, ⟨9, _⟩ => ⟨S4x1344x4096, .f32⟩
  | .hbm, ⟨10, _⟩ => ⟨S4x1344x4096, .f32⟩
  | .hbm, ⟨11, _⟩ => ⟨S4x1344x4096, .f32⟩
  | .hbm, ⟨12, _⟩ => ⟨S4x1344x4096, .f32⟩
  | .local _ .vmem, ⟨0, _⟩ => ⟨S1x112x4096, .f32⟩
  | .local _ .vmem, ⟨1, _⟩ => ⟨S1x112x4096, .f32⟩
  | .local _ .vmem, ⟨2, _⟩ => ⟨S1x112x4096, .f32⟩
  | .local _ .vmem, ⟨3, _⟩ => ⟨S1x112x4096, .f32⟩
  | .local _ .vmem, ⟨4, _⟩ => ⟨S1x112x4096, .f32⟩
  | .local _ .vmem, ⟨5, _⟩ => ⟨S1x112x4096, .f32⟩
  | .local _ .vmem, ⟨6, _⟩ => ⟨S1x112x4096, .bf16⟩
  | .local _ .vmem, ⟨7, _⟩ => ⟨S1x112x4096, .bf16⟩
  | .local _ .vmem, ⟨8, _⟩ => ⟨S3x112x4096, .bf16⟩
  | .local _ .vmem, ⟨9, _⟩ => ⟨S3x112x4096, .bf16⟩
  | .local _ .vmem, ⟨10, _⟩ => ⟨S1x112x4096, .f32⟩
  | .local _ .vmem, ⟨11, _⟩ => ⟨S1x112x4096, .f32⟩
  | .local _ .vmem, ⟨12, _⟩ => ⟨S1x112x4096, .f32⟩
  | .local _ .vmem, ⟨13, _⟩ => ⟨S1x112x4096, .f32⟩
  | .local _ .vmem, ⟨14, _⟩ => ⟨S1x112x4096, .f32⟩
  | .local _ .vmem, ⟨15, _⟩ => ⟨S1x112x4096, .f32⟩
  | .local _ .vmem, ⟨16, _⟩ => ⟨S1x112x4096, .f32⟩
  | .local _ .vmem, ⟨17, _⟩ => ⟨S1x112x4096, .f32⟩
  | _, _ => ⟨S4x1344x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x112x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x112x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x112x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x112x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x112x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x112x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x112x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x112x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x112x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwInRefIdeal.lean ====
abbrev S4x1344x4096 : Shape := ⟨3, ![4, 1344, 4096]⟩
abbrev S3x1344x4096 : Shape := ⟨3, ![3, 1344, 4096]⟩
abbrev S1x1344x4096 : Shape := ⟨3, ![1, 1344, 4096]⟩
abbrev S_ : Shape := ⟨0, ![]⟩
abbrev S1344x4096 : Shape := ⟨2, ![1344, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x1344x4096, .f32⟩
  | .hbm, ⟨1, _⟩ => ⟨S4x1344x4096, .f32⟩
  | .hbm, ⟨2, _⟩ => ⟨S4x1344x4096, .f32⟩
  | .hbm, ⟨3, _⟩ => ⟨S4x1344x4096, .bf16⟩
  | .hbm, ⟨4, _⟩ => ⟨S3x1344x4096, .bf16⟩
  | .hbm, ⟨5, _⟩ => ⟨S4x1344x4096, .f32⟩
  | .hbm, ⟨6, _⟩ => ⟨S4x1344x4096, .f32⟩
  | .hbm, ⟨7, _⟩ => ⟨S4x1344x4096, .f32⟩
  | .hbm, ⟨8, _⟩ => ⟨S4x1344x4096, .f32⟩
  | .hbm, ⟨9, _⟩ => ⟨S1x1344x4096, .f32⟩
  | .hbm, ⟨10, _⟩ => ⟨S1x1344x4096, .bf16⟩
  | .hbm, ⟨11, _⟩ => ⟨S1x1344x4096, .f32⟩
  | .hbm, ⟨12, _⟩ => ⟨S3x1344x4096, .f32⟩
  | .hbm, ⟨13, _⟩ => ⟨S_, .f32⟩
  | .hbm, ⟨14, _⟩ => ⟨S1344x4096, .f32⟩
  | .hbm, ⟨15, _⟩ => ⟨S1x1344x4096, .f32⟩
  | .hbm, ⟨16, _⟩ => ⟨S1x1344x4096, .f32⟩
  | .hbm, ⟨17, _⟩ => ⟨S1x1344x4096, .f32⟩
  | .hbm, ⟨18, _⟩ => ⟨S1x1344x4096, .f32⟩
  | .hbm, ⟨19, _⟩ => ⟨S_, .f32⟩
  | .hbm, ⟨20, _⟩ => ⟨S1x1344x4096, .f32⟩
  | .hbm, ⟨21, _⟩ => ⟨S1x1344x4096, .f32⟩
  | .hbm, ⟨22, _⟩ => ⟨S_, .f32⟩
  | .hbm, ⟨23, _⟩ => ⟨S1x1344x4096, .f32⟩
  | .hbm, ⟨24, _⟩ => ⟨S1x1344x4096, .f32⟩
  | .hbm, ⟨25, _⟩ => ⟨S1x1344x4096, .f32⟩
  | .hbm, ⟨26, _⟩ => ⟨S_, .f32⟩
  | .hbm, ⟨27, _⟩ => ⟨S1x1344x4096, .f32⟩
  | .hbm, ⟨28, _⟩ => ⟨S1x1344x4096, .f32⟩
  | .hbm, ⟨29, _⟩ => ⟨S1x1344x4096, .f32⟩
  | .hbm, ⟨30, _⟩ => ⟨S_, .f32⟩
  | .hbm, ⟨31, _⟩ => ⟨S1x1344x4096, .f32⟩
  | .hbm, ⟨32, _⟩ => ⟨S1x1344x4096, .f32⟩
  | .hbm, ⟨33, _⟩ => ⟨S1x1344x4096, .f32⟩
  | .hbm, ⟨34, _⟩ => ⟨S_, .f32⟩
  | .hbm, ⟨35, _⟩ => ⟨S1x1344x4096, .f32⟩
  | .hbm, ⟨36, _⟩ => ⟨S1x1344x4096, .f32⟩
  | .hbm, ⟨37, _⟩ => ⟨S_, .f32⟩
  | .hbm, ⟨38, _⟩ => ⟨S1x1344x4096, .f32⟩
  | .hbm, ⟨39, _⟩ => ⟨S1x1344x4096, .f32⟩
  | .hbm, ⟨40, _⟩ => ⟨S1x1344x4096, .f32⟩
  | .hbm, ⟨41, _⟩ => ⟨S_, .f32⟩
  | .hbm, ⟨42, _⟩ => ⟨S1x1344x4096, .f32⟩
  | .hbm, ⟨43, _⟩ => ⟨S1x1344x4096, .f32⟩
  | .hbm, ⟨44, _⟩ => ⟨S1x1344x4096, .f32⟩
  | .hbm, ⟨45, _⟩ => ⟨S_, .f32⟩
  | .hbm, ⟨46, _⟩ => ⟨S1x1344x4096, .f32⟩
  | .hbm, ⟨47, _⟩ => ⟨S1x1344x4096, .f32⟩
  | .hbm, ⟨48, _⟩ => ⟨S1x1344x4096, .f32⟩
  | .hbm, ⟨49, _⟩ => ⟨S_, .f32⟩
  | .hbm, ⟨50, _⟩ => ⟨S1x1344x4096, .f32⟩
  | .hbm, ⟨51, _⟩ => ⟨S1x1344x4096, .f32⟩
  | .hbm, ⟨52, _⟩ => ⟨S3x1344x4096, .f32⟩
  | .hbm, ⟨53, _⟩ => ⟨S4x1344x4096, .f32⟩
  | .hbm, ⟨54, _⟩ => ⟨S3x1344x4096, .f32⟩
  | .hbm, ⟨55, _⟩ => ⟨S4x1344x4096, .f32⟩
  | .hbm, ⟨56, _⟩ => ⟨S3x1344x4096, .f32⟩
  | .hbm, ⟨57, _⟩ => ⟨S4x1344x4096, .f32⟩
  | .hbm, ⟨58, _⟩ => ⟨S3x1344x4096, .f32⟩
  | .hbm, ⟨59, _⟩ => ⟨S4x1344x4096, .f32⟩
  | _, _ => ⟨S4x1344x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== AdamwOut.lean ====
abbrev S4x512x4096 : Shape := ⟨3, ![4, 512, 4096]⟩
abbrev S3x512x4096 : Shape := ⟨3, ![3, 512, 4096]⟩
abbrev S1x128x4096 : Shape := ⟨3, ![1, 128, 4096]⟩
abbrev S3x128x4096 : Shape := ⟨3, ![3, 128, 4096]⟩

abbrev nBuf : Space → Nat
  | .hbm => 13
  | .vmem => 18
  | .smem => 0
  | _ => 0

abbrev bufTy : (tb : Table) → Fin (tcTables nBuf tb) → BufTy
  | .hbm, ⟨0, _⟩ => ⟨S4x512x4096, .f32⟩
  | .hbm, ⟨1, _⟩ => ⟨S4x512x4096, .f32⟩
  | .hbm, ⟨2, _⟩ => ⟨S4x512x4096, .f32⟩
  | .hbm, ⟨3, _⟩ => ⟨S4x512x4096, .bf16⟩
  | .hbm, ⟨4, _⟩ => ⟨S3x512x4096, .bf16⟩
  | .hbm, ⟨5, _⟩ => ⟨S4x512x4096, .f32⟩
  | .hbm, ⟨6, _⟩ => ⟨S4x512x4096, .f32⟩
  | .hbm, ⟨7, _⟩ => ⟨S4x512x4096, .f32⟩
  | .hbm, ⟨8, _⟩ => ⟨S4x512x4096, .f32⟩
  | .hbm, ⟨9, _⟩ => ⟨S4x512x4096, .f32⟩
  | .hbm, ⟨10, _⟩ => ⟨S4x512x4096, .f32⟩
  | .hbm, ⟨11, _⟩ => ⟨S4x512x4096, .f32⟩
  | .hbm, ⟨12, _⟩ => ⟨S4x512x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .bf16⟩
  | .local _ .vmem, ⟨7, _⟩ => ⟨S1x128x4096, .bf16⟩
  | .local _ .vmem, ⟨8, _⟩ => ⟨S3x128x4096, .bf16⟩
  | .local _ .vmem, ⟨9, _⟩ => ⟨S3x128x4096, .bf16⟩
  | .local _ .vmem, ⟨10, _⟩ => ⟨S1x128x4096, .f32⟩
  | .local _ .vmem, ⟨11, _⟩ => ⟨S1x128x4096, .f32⟩
  | .local _ .vmem, ⟨12, _⟩ => ⟨S1x128x4096, .f32⟩
  | .local _ .vmem, ⟨13, _⟩ => ⟨S1x128x4096, .f32⟩
  | .local _ .vmem, ⟨14, _⟩ => ⟨S1x128x4096, .f32⟩
  | .local _ .vmem, ⟨15, _⟩ => ⟨S1x128x4096, .f32⟩
  | .local _ .vmem, ⟨16, _⟩ => ⟨S1x128x4096, .f32⟩
  | .local _ .vmem, ⟨17, _⟩ => ⟨S1x128x4096, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwOutRefIdeal.lean ====
abbrev S4x512x4096 : Shape := ⟨3, ![4, 512, 4096]⟩
abbrev S3x512x4096 : Shape := ⟨3, ![3, 512, 4096]⟩
abbrev S1x512x4096 : Shape := ⟨3, ![1, 512, 4096]⟩
abbrev S_ : Shape := ⟨0, ![]⟩
abbrev S512x4096 : Shape := ⟨2, ![512, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x512x4096, .f32⟩
  | .hbm, ⟨2, _⟩ => ⟨S4x512x4096, .f32⟩
  | .hbm, ⟨3, _⟩ => ⟨S4x512x4096, .bf16⟩
  | .hbm, ⟨4, _⟩ => ⟨S3x512x4096, .bf16⟩
  | .hbm, ⟨5, _⟩ => ⟨S4x512x4096, .f32⟩
  | .hbm, ⟨6, _⟩ => ⟨S4x512x4096, .f32⟩
  | .hbm, ⟨7, _⟩ => ⟨S4x512x4096, .f32⟩
  | .hbm, ⟨8, _⟩ => ⟨S4x512x4096, .f32⟩
  | .hbm, ⟨9, _⟩ => ⟨S1x512x4096, .f32⟩
  | .hbm, ⟨10, _⟩ => ⟨S1x512x4096, .bf16⟩
  | .hbm, ⟨11, _⟩ => ⟨S1x512x4096, .f32⟩
  | .hbm, ⟨12, _⟩ => ⟨S3x512x4096, .f32⟩
  | .hbm, ⟨13, _⟩ => ⟨S_, .f32⟩
  | .hbm, ⟨14, _⟩ => ⟨S512x4096, .f32⟩
  | .hbm, ⟨15, _⟩ => ⟨S1x512x4096, .f32⟩
  | .hbm, ⟨16, _⟩ => ⟨S1x512x4096, .f32⟩
  | .hbm, ⟨17, _⟩ => ⟨S1x512x4096, .f32⟩
  | .hbm, ⟨18, _⟩ => ⟨S1x512x4096, .f32⟩
  | .hbm, ⟨19, _⟩ => ⟨S_, .f32⟩
  | .hbm, ⟨20, _⟩ => ⟨S1x512x4096, .f32⟩
  | .hbm, ⟨21, _⟩ => ⟨S1x512x4096, .f32⟩
  | .hbm, ⟨22, _⟩ => ⟨S_, .f32⟩
  | .hbm, ⟨23, _⟩ => ⟨S1x512x4096, .f32⟩
  | .hbm, ⟨24, _⟩ => ⟨S1x512x4096, .f32⟩
  | .hbm, ⟨25, _⟩ => ⟨S1x512x4096, .f32⟩
  | .hbm, ⟨26, _⟩ => ⟨S_, .f32⟩
  | .hbm, ⟨27, _⟩ => ⟨S1x512x4096, .f32⟩
  | .hbm, ⟨28, _⟩ => ⟨S1x512x4096, .f32⟩
  | .hbm, ⟨29, _⟩ => ⟨S1x512x4096, .f32⟩
  | .hbm, ⟨30, _⟩ => ⟨S_, .f32⟩
  | .hbm, ⟨31, _⟩ => ⟨S1x512x4096, .f32⟩
  | .hbm, ⟨32, _⟩ => ⟨S1x512x4096, .f32⟩
  | .hbm, ⟨33, _⟩ => ⟨S1x512x4096, .f32⟩
  | .hbm, ⟨34, _⟩ => ⟨S_, .f32⟩
  | .hbm, ⟨35, _⟩ => ⟨S1x512x4096, .f32⟩
  | .hbm, ⟨36, _⟩ => ⟨S1x512x4096, .f32⟩
  | .hbm, ⟨37, _⟩ => ⟨S_, .f32⟩
  | .hbm, ⟨38, _⟩ => ⟨S1x512x4096, .f32⟩
  | .hbm, ⟨39, _⟩ => ⟨S1x512x4096, .f32⟩
  | .hbm, ⟨40, _⟩ => ⟨S1x512x4096, .f32⟩
  | .hbm, ⟨41, _⟩ => ⟨S_, .f32⟩
  | .hbm, ⟨42, _⟩ => ⟨S1x512x4096, .f32⟩
  | .hbm, ⟨43, _⟩ => ⟨S1x512x4096, .f32⟩
  | .hbm, ⟨44, _⟩ => ⟨S1x512x4096, .f32⟩
  | .hbm, ⟨45, _⟩ => ⟨S_, .f32⟩
  | .hbm, ⟨46, _⟩ => ⟨S1x512x4096, .f32⟩
  | .hbm, ⟨47, _⟩ => ⟨S1x512x4096, .f32⟩
  | .hbm, ⟨48, _⟩ => ⟨S1x512x4096, .f32⟩
  | .hbm, ⟨49, _⟩ => ⟨S_, .f32⟩
  | .hbm, ⟨50, _⟩ => ⟨S1x512x4096, .f32⟩
  | .hbm, ⟨51, _⟩ => ⟨S1x512x4096, .f32⟩
  | .hbm, ⟨52, _⟩ => ⟨S3x512x4096, .f32⟩
  | .hbm, ⟨53, _⟩ => ⟨S4x512x4096, .f32⟩
  | .hbm, ⟨54, _⟩ => ⟨S3x512x4096, .f32⟩
  | .hbm, ⟨55, _⟩ => ⟨S4x512x4096, .f32⟩
  | .hbm, ⟨56, _⟩ => ⟨S3x512x4096, .f32⟩
  | .hbm, ⟨57, _⟩ => ⟨S4x512x4096, .f32⟩
  | .hbm, ⟨58, _⟩ => ⟨S3x512x4096, .f32⟩
  | .hbm, ⟨59, _⟩ => ⟨S4x512x4096, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Adamw.lean ====
abbrev S1120x1024 : Shape := ⟨2, ![1120, 1024]⟩
abbrev S8x1120x1024 : Shape := ⟨3, ![8, 1120, 1024]⟩
abbrev S224x1024 : Shape := ⟨2, ![224, 1024]⟩
abbrev S8x224x1024 : Shape := ⟨3, ![8, 224, 1024]⟩
abbrev S1x224x1024 : Shape := ⟨3, ![1, 224, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1120x1024, .f32⟩
  | .hbm, ⟨1, _⟩ => ⟨S8x1120x1024, .f32⟩
  | .hbm, ⟨2, _⟩ => ⟨S1120x1024, .f32⟩
  | .hbm, ⟨3, _⟩ => ⟨S1120x1024, .f32⟩
  | .hbm, ⟨4, _⟩ => ⟨S1120x1024, .f32⟩
  | .hbm, ⟨5, _⟩ => ⟨S1120x1024, .f32⟩
  | .hbm, ⟨6, _⟩ => ⟨S1120x1024, .f32⟩
  | .hbm, ⟨7, _⟩ => ⟨S1120x1024, .f32⟩
  | .local _ .vmem, ⟨0, _⟩ => ⟨S224x1024, .f32⟩
  | .local _ .vmem, ⟨1, _⟩ => ⟨S224x1024, .f32⟩
  | .local _ .vmem, ⟨2, _⟩ => ⟨S8x224x1024, .f32⟩
  | .local _ .vmem, ⟨3, _⟩ => ⟨S8x224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | .local _ .vmem, ⟨14, _⟩ => ⟨S224x1024, .f32⟩
  | .local _ .vmem, ⟨15, _⟩ => ⟨S224x1024, .f32⟩
  | _, _ => ⟨S1120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1120x1024 : Shape := ⟨2, ![1120, 1024]⟩
abbrev S8x1120x1024 : Shape := ⟨3, ![8, 1120, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1120x1024, .f32⟩
  | .hbm, ⟨1, _⟩ => ⟨S8x1120x1024, .f32⟩
  | .hbm, ⟨2, _⟩ => ⟨S1120x1024, .f32⟩
  | .hbm, ⟨3, _⟩ => ⟨S1120x1024, .f32⟩
  | .hbm, ⟨4, _⟩ => ⟨S_, .f32⟩
  | .hbm, ⟨5, _⟩ => ⟨S1120x1024, .f32⟩
  | .hbm, ⟨6, _⟩ => ⟨S_, .f32⟩
  | .hbm, ⟨7, _⟩ => ⟨S1120x1024, .f32⟩
  | .hbm, ⟨8, _⟩ => ⟨S1120x1024, .f32⟩
  | .hbm, ⟨9, _⟩ => ⟨S_, .f32⟩
  | .hbm, ⟨10, _⟩ => ⟨S1120x1024, .f32⟩
  | .hbm, ⟨11, _⟩ => ⟨S1120x1024, .f32⟩
  | .hbm, ⟨12, _⟩ => ⟨S1120x1024, .f32⟩
  | .hbm, ⟨13, _⟩ => ⟨S_, .f32⟩
  | .hbm, ⟨14, _⟩ => ⟨S1120x1024, .f32⟩
  | .hbm, ⟨15, _⟩ => ⟨S1120x1024, .f32⟩
  | .hbm, ⟨16, _⟩ => ⟨S1120x1024, .f32⟩
  | .hbm, ⟨17, _⟩ => ⟨S_, .f32⟩
  | .hbm, ⟨18, _⟩ => ⟨S1120x1024, .f32⟩
  | .hbm, ⟨19, _⟩ => ⟨S1120x1024, .f32⟩
  | .hbm, ⟨20, _⟩ => ⟨S1120x1024, .f32⟩
  | .hbm, ⟨21, _⟩ => ⟨S_, .f32⟩
  | .hbm, ⟨22, _⟩ => ⟨S1120x1024, .f32⟩
  | .hbm, ⟨23, _⟩ => ⟨S1120x1024, .f32⟩
  | .hbm, ⟨24, _⟩ => ⟨S_, .f32⟩
  | .hbm, ⟨25, _⟩ => ⟨S1120x1024, .f32⟩
  | .hbm, ⟨26, _⟩ => ⟨S1120x1024, .f32⟩
  | .hbm, ⟨27, _⟩ => ⟨S1120x1024, .f32⟩
  | .hbm, ⟨28, _⟩ => ⟨S_, .f32⟩
  | .hbm, ⟨29, _⟩ => ⟨S1120x1024, .f32⟩
  | .hbm, ⟨30, _⟩ => ⟨S1120x1024, .f32⟩
  | .hbm, ⟨31, _⟩ => ⟨S1120x1024, .f32⟩
  | .hbm, ⟨32, _⟩ => ⟨S_, .f32⟩
  | .hbm, ⟨33, _⟩ => ⟨S1120x1024, .f32⟩
  | .hbm, ⟨34, _⟩ => ⟨S1120x1024, .f32⟩
  | .hbm, ⟨35, _⟩ => ⟨S1120x1024, .f32⟩
  | .hbm, ⟨36, _⟩ => ⟨S_, .f32⟩
  | .hbm, ⟨37, _⟩ => ⟨S1120x1024, .f32⟩
  | .hbm, ⟨38, _⟩ => ⟨S1120x1024, .f32⟩
  | _, _ => ⟨S1120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== PairIn.lean ====
abbrev S8x1344x4096 : Shape := ⟨3, ![8, 1344, 4096]⟩
abbrev S4x1344x4096 : Shape := ⟨3, ![4, 1344, 4096]⟩
abbrev S1x224x4096 : Shape := ⟨3, ![1, 224, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8x1344x4096, .bf16⟩
  | .hbm, ⟨1, _⟩ => ⟨S4x1344x4096, .bf16⟩
  | .hbm, ⟨2, _⟩ => ⟨S4x1344x4096, .bf16⟩
  | .local _ .vmem, ⟨0, _⟩ => ⟨S1x224x4096, .bf16⟩
  | .local _ .vmem, ⟨1, _⟩ => ⟨S1x224x4096, .bf16⟩
  | .local _ .vmem, ⟨2, _⟩ => ⟨S1x224x4096, .bf16⟩
  | .local _ .vmem, ⟨3, _⟩ => ⟨S1x224x4096, .bf16⟩
  | .local _ .vmem, ⟨4, _⟩ => ⟨S1x224x4096, .bf16⟩
  | .local _ .vmem, ⟨5, _⟩ => ⟨S1x224x4096, .bf16⟩
  | _, _ => ⟨S8x1344x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x224x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInRefIdeal.lean ====
abbrev S8x1344x4096 : Shape := ⟨3, ![8, 1344, 4096]⟩
abbrev S4x1344x4096 : Shape := ⟨3, ![4, 1344, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x1344x4096, .bf16⟩
  | .hbm, ⟨1, _⟩ => ⟨S4x1344x4096, .bf16⟩
  | .hbm, ⟨2, _⟩ => ⟨S4x1344x4096, .bf16⟩
  | .hbm, ⟨3, _⟩ => ⟨S4x1344x4096, .f32⟩
  | .hbm, ⟨4, _⟩ => ⟨S4x1344x4096, .f32⟩
  | .hbm, ⟨5, _⟩ => ⟨S4x1344x4096, .f32⟩
  | .hbm, ⟨6, _⟩ => ⟨S4x1344x4096, .bf16⟩
  | _, _ => ⟨S8x1344x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PairInRef.lean ====
abbrev S8x1344x4096 : Shape := ⟨3, ![8, 1344, 4096]⟩
abbrev S4x1344x4096 : Shape := ⟨3, ![4, 1344, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x1344x4096, .bf16⟩
  | .hbm, ⟨1, _⟩ => ⟨S4x1344x4096, .bf16⟩
  | .hbm, ⟨2, _⟩ => ⟨S4x1344x4096, .bf16⟩
  | .hbm, ⟨3, _⟩ => ⟨S4x1344x4096, .f32⟩
  | .hbm, ⟨4, _⟩ => ⟨S4x1344x4096, .f32⟩
  | .hbm, ⟨5, _⟩ => ⟨S4x1344x4096, .f32⟩
  | .hbm, ⟨6, _⟩ => ⟨S4x1344x4096, .bf16⟩
  | _, _ => ⟨S8x1344x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PairOut.lean ====
abbrev S8x512x4096 : Shape := ⟨3, ![8, 512, 4096]⟩
abbrev S4x512x4096 : Shape := ⟨3, ![4, 512, 4096]⟩
abbrev S1x256x4096 : Shape := ⟨3, ![1, 256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8x512x4096, .bf16⟩
  | .hbm, ⟨1, _⟩ => ⟨S4x512x4096, .bf16⟩
  | .hbm, ⟨2, _⟩ => ⟨S4x512x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutRef.lean ====
abbrev S8x512x4096 : Shape := ⟨3, ![8, 512, 4096]⟩
abbrev S4x512x4096 : Shape := ⟨3, ![4, 512, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S4x512x4096, .bf16⟩
  | .hbm, ⟨2, _⟩ => ⟨S4x512x4096, .bf16⟩
  | .hbm, ⟨3, _⟩ => ⟨S4x512x4096, .f32⟩
  | .hbm, ⟨4, _⟩ => ⟨S4x512x4096, .f32⟩
  | .hbm, ⟨5, _⟩ => ⟨S4x512x4096, .f32⟩
  | .hbm, ⟨6, _⟩ => ⟨S4x512x4096, .bf16⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mixer.lean ====
abbrev S4096x10752 : Shape := ⟨2, ![4096, 10752]⟩
abbrev S3x1024 : Shape := ⟨2, ![3, 1024]⟩
abbrev S4x1024 : Shape := ⟨2, ![4, 1024]⟩
abbrev S1024 : Shape := ⟨1, ![1024]⟩
abbrev S8x128x128 : Shape := ⟨3, ![8, 128, 128]⟩
abbrev S2048 : Shape := ⟨1, ![2048]⟩
abbrev S32 : Shape := ⟨1, ![32]⟩
abbrev S1x1024 : Shape := ⟨2, ![1, 1024]⟩
abbrev S1x2048 : Shape := ⟨2, ![1, 2048]⟩
abbrev S32x1 : Shape := ⟨2, ![32, 1]⟩
abbrev S32x128 : Shape := ⟨2, ![32, 128]⟩
abbrev S_ : Shape := ⟨0, ![]⟩
abbrev S1024x1 : Shape := ⟨2, ![1024, 1]⟩
abbrev S256 : Shape := ⟨1, ![256]⟩
abbrev S1x256 : Shape := ⟨2, ![1, 256]⟩
abbrev S1024x256 : Shape := ⟨2, ![1024, 256]⟩
abbrev S1x1024x256 : Shape := ⟨3, ![1, 1024, 256]⟩
abbrev S2x1024x256 : Shape := ⟨3, ![2, 1024, 256]⟩
abbrev S4096x4096 : Shape := ⟨2, ![4096, 4096]⟩
abbrev S32x8x1024 : Shape := ⟨3, ![32, 8, 1024]⟩
abbrev S128x10752 : Shape := ⟨2, ![128, 10752]⟩
abbrev S128x4096 : Shape := ⟨2, ![128, 4096]⟩
abbrev S1x8x1024 : Shape := ⟨3, ![1, 8, 1024]⟩
abbrev S128x256 : Shape := ⟨2, ![128, 256]⟩
abbrev S8x1024 : Shape := ⟨2, ![8, 1024]⟩
abbrev S1x128 : Shape := ⟨2, ![1, 128]⟩
abbrev S1x128x128 : Shape := ⟨3, ![1, 128, 128]⟩
abbrev S128x128 : Shape := ⟨2, ![128, 128]⟩
abbrev S8x128 : Shape := ⟨2, ![8, 128]⟩
abbrev S120x128 : Shape := ⟨2, ![120, 128]⟩
abbrev S128 : Shape := ⟨1, ![128]⟩
abbrev S128x1 : Shape := ⟨2, ![128, 1]⟩
abbrev S1024x128 : Shape := ⟨2, ![1024, 128]⟩
abbrev S256x128 : Shape := ⟨2, ![256, 128]⟩
abbrev S4096x1024 : Shape := ⟨2, ![4096, 1024]⟩

abbrev nBuf : Space → Nat
  | .hbm => 78
  | .vmem => 25
  | .smem => 0
  | _ => 0

abbrev bufTy : (tb : Table) → Fin (tcTables nBuf tb) → BufTy
  | .hbm, ⟨0, _⟩ => ⟨S4096x10752, .f32⟩
  | .hbm, ⟨1, _⟩ => ⟨S3x1024, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S2048, .f32⟩
  | .hbm, ⟨11, _⟩ => ⟨S1024, .f32⟩
  | .hbm, ⟨12, _⟩ => ⟨S32, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x2048, .f32⟩
  | .hbm, ⟨19, _⟩ => ⟨S1x1024, .f32⟩
  | .hbm, ⟨20, _⟩ => ⟨S32x1, .f32⟩
  | .hbm, ⟨21, _⟩ => ⟨S32x128, .f32⟩
  | .hbm, ⟨22, _⟩ => ⟨S1024, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S_, .i1⟩
  | .hbm, ⟨39, _⟩ => ⟨S1024, .i1⟩
  | .hbm, ⟨40, _⟩ => ⟨S1024, .i1⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S256, .i32⟩
  | .hbm, ⟨47, _⟩ => ⟨S1x256, .i32⟩
  | .hbm, ⟨48, _⟩ => ⟨S_, .i32⟩
  | .hbm, ⟨49, _⟩ => ⟨S1024x1, .i32⟩
  | .hbm, ⟨50, _⟩ => ⟨S1024x1, .i32⟩
  | .hbm, ⟨51, _⟩ => ⟨S1024x256, .i32⟩
  | .hbm, ⟨52, _⟩ => ⟨S1024x256, .i32⟩
  | .hbm, ⟨53, _⟩ => ⟨S1024x256, .i32⟩
  | .hbm, ⟨54, _⟩ => ⟨S_, .i32⟩
  | .hbm, ⟨55, _⟩ => ⟨S1024x256, .i32⟩
  | .hbm, ⟨56, _⟩ => ⟨S1024x256, .i1⟩
  | .hbm, ⟨57, _⟩ => ⟨S_, .i32⟩
  | .hbm, ⟨58, _⟩ => ⟨S1024x256, .i32⟩
  | .hbm, ⟨59, _⟩ => ⟨S1024x256, .i1⟩
  | .hbm, ⟨60, _⟩ => ⟨S1024x256, .i1⟩
  | .hbm, ⟨61, _⟩ => ⟨S_, .i32⟩
  | .hbm, ⟨62, _⟩ => ⟨S1x256, .i32⟩
  | .hbm, ⟨63, _⟩ => ⟨S1x256, .i1⟩
  | .hbm, ⟨64, _⟩ => ⟨S1024x256, .i1⟩
  | .hbm, ⟨65, _⟩ => ⟨S1024x256, .i1⟩
  | .hbm, ⟨66, _⟩ => ⟨S1x1024x256, .i1⟩
  | .hbm, ⟨67, _⟩ => ⟨S1x1024x256, .i1⟩
  | .hbm, ⟨68, _⟩ => ⟨S2x1024x256, .i1⟩
  | .hbm, ⟨69, _⟩ => ⟨S_, .f32⟩
  | .hbm, ⟨70, _⟩ => ⟨S_, .f32⟩
  | .hbm, ⟨71, _⟩ => ⟨S2x1024x256, .f32⟩
  | .hbm, ⟨72, _⟩ => ⟨S2x1024x256, .f32⟩
  | .hbm, ⟨73, _⟩ => ⟨S2x1024x256, .f32⟩
  | .hbm, ⟨74, _⟩ => ⟨S2x1024x256, .f32⟩
  | .hbm, ⟨75, _⟩ => ⟨S4096x4096, .bf16⟩
  | .hbm, ⟨76, _⟩ => ⟨S32x8x1024, .f32⟩
  | .hbm, ⟨77, _⟩ => ⟨S4096x1024, .bf16⟩
  | .local _ .vmem, ⟨0, _⟩ => ⟨S128x10752, .f32⟩
  | .local _ .vmem, ⟨1, _⟩ => ⟨S128x10752, .f32⟩
  | .local _ .vmem, ⟨2, _⟩ => ⟨S2x1024x256, .f32⟩
  | .local _ .vmem, ⟨3, _⟩ => ⟨S3x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .f32⟩
  | .local _ .vmem, ⟨7, _⟩ => ⟨S1x1024, .f32⟩
  | .local _ .vmem, ⟨8, _⟩ => ⟨S8x128x128, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x2048, .f32⟩
  | .local _ .vmem, ⟨13, _⟩ => ⟨S1x1024, .f32⟩
  | .local _ .vmem, ⟨14, _⟩ => ⟨S32x128, .f32⟩
  | .local _ .vmem, ⟨15, _⟩ => ⟨S128x4096, .bf16⟩
  | .local _ .vmem, ⟨16, _⟩ => ⟨S128x4096, .bf16⟩
  | .local _ .vmem, ⟨17, _⟩ => ⟨S1x8x1024, .f32⟩
  | .local _ .vmem, ⟨18, _⟩ => ⟨S1x8x1024, .f32⟩
  | .local _ .vmem, ⟨19, _⟩ => ⟨S128x256, .f32⟩
  | .local _ .vmem, ⟨20, _⟩ => ⟨S128x256, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_1 : Ref sig .tc := ⟨.hbm, 54, rfl⟩
abbrev main_v19 : Ref sig .tc := ⟨.hbm, 55, rfl⟩
abbrev main_v20 : Ref sig .tc := ⟨.hbm, 56, rfl⟩
abbrev main_c_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_3 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_v31 : Ref sig .tc := ⟨.hbm, 73, rfl⟩
abbrev main_v32 : Ref sig .tc := ⟨.hbm, 74, rfl⟩
abbrev main_v33_0 : Ref sig .tc := ⟨.hbm, 75, rfl⟩
abbrev main_v33_1 : Ref sig .tc := ⟨.hbm, 76, rfl⟩
abbrev main_v34 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c0_i32_498 : BitVec 32 := 0#32
  let v705 : BitVec 1 := Scalar.cmpi .eq arg1 c0_i32_498
  let c0_i32_499 : BitVec 32 := 0#32
  let c1_i32_500 : BitVec 32 := 1#32
  let v706 : BitVec 32 := Scalar.select v705 c0_i32_499 c1_i32_500
  let v707 : Index := Scalar.indexCast v706
  let c0_501 : Index := 0#32
  let c0_502 : Index := 0#32
  ![v707.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S128x10752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixerRefIdeal.lean ====
abbrev S4096x10752 : Shape := ⟨2, ![4096, 10752]⟩
abbrev S3x1024 : Shape := ⟨2, ![3, 1024]⟩
abbrev S4x1024 : Shape := ⟨2, ![4, 1024]⟩
abbrev S1024 : Shape := ⟨1, ![1024]⟩
abbrev S8x128x128 : Shape := ⟨3, ![8, 128, 128]⟩
abbrev S2048 : Shape := ⟨1, ![2048]⟩
abbrev S32 : Shape := ⟨1, ![32]⟩
abbrev S2x2048x10752 : Shape := ⟨3, ![2, 2048, 10752]⟩
abbrev S2x2048x1024 : Shape := ⟨3, ![2, 2048, 1024]⟩
abbrev S_ : Shape := ⟨0, ![]⟩
abbrev S2x2050x1024 : Shape := ⟨3, ![2, 2050, 1024]⟩
abbrev S1x1024 : Shape := ⟨2, ![1, 1024]⟩
abbrev S1x1x1024 : Shape := ⟨3, ![1, 1, 1024]⟩
abbrev S2x2048 : Shape := ⟨2, ![2, 2048]⟩
abbrev S2x2048x1 : Shape := ⟨3, ![2, 2048, 1]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S3x1024, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S2048, .f32⟩
  | .hbm, ⟨11, _⟩ => ⟨S1024, .f32⟩
  | .hbm, ⟨12, _⟩ => ⟨S32, .f32⟩
  | .hbm, ⟨13, _⟩ => ⟨S2x2048x10752, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .i32⟩
  | .hbm, ⟨20, _⟩ => ⟨S_, .f32⟩
  | .hbm, ⟨21, _⟩ => ⟨S2x2050x1024, .f32⟩
  | .hbm, ⟨22, _⟩ => ⟨S2x2048x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S2x2048x1, .f32⟩
  | .hbm, ⟨54, _⟩ => ⟨S2x2048x1024, .f32⟩
  | .hbm, ⟨55, _⟩ => ⟨S2x2048x1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S4096x1024, .f32⟩
  | .hbm, ⟨70, _⟩ => ⟨S4096x1024, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Common.lean ====
/-
  What the modules of the products share: an index vector of zeros, a product read at an index as a sum over one
  contracted axis, and the value of an operand's index along an axis that is not contracted.
-/
module

public import Idealize.ShloMosaic.Lib.Pipeline.Value
public import Idealize.ShloMosaic.Lib.ValueIdx
public import Idealize.ShloMosaic.PureOps.Ideal.Laws
public import Idealize.ShloMosaic.Lib.Tactic

@[expose] public section

noncomputable section

open Idealize.ShloMosaic Idealize.SL.Sem

namespace Cert.Proof

theorem zeros2 : (![0, 0] : Fin 2 → Nat) = fun _ => 0 := funext fun a => by fin_cases a <;> rfl

/-- A product onto a zero accumulator, contracted over one axis of length `n`, is a sum over that axis of the factors at
    the indices `L` and `R` names. -/
theorem product_sum {sl sr so : Shape} {φ₁ φ₂ : FTy} (d : DotDims sl sr so) (n : ℕ) (hr : d.contr.rank = 1)
    (hn : d.contr.size ⟨0, by rw [hr]; exact Nat.one_pos⟩ = n) (l : FVec Ideal sl φ₁) (r : FVec Ideal sr φ₂) (j : so.Idx)
    (L : Fin n → sl.Idx) (R : Fin n → sr.Idx)
    (hL : ∀ (q : d.contr.Idx) (k : Fin n), (q ⟨0, by rw [hr]; exact Nat.one_pos⟩).val = k.val → ∀ a, (d.lhsIdx j q a).val = (L k a).val)
    (hR : ∀ (q : d.contr.Idx) (k : Fin n), (q ⟨0, by rw [hr]; exact Nat.one_pos⟩).val = k.val → ∀ a, (d.rhsIdx j q a).val = (R k a).val) :
    matmul d none l r (constant so .f32 0x00000000#32) j = ∑ k : Fin n, l (L k) * r (R k) := by
  simp only [matmul]
  rw [Ideal.matmul_constant_zero_apply, ← Equiv.sum_comp (ValueIdx.contrEquiv1 d n hr hn).symm]
  refine Finset.sum_congr rfl fun k _ => ?_
  have hk := ValueIdx.contrEquiv1_symm_val d n hr hn k
  rw [show d.lhsIdx j ((ValueIdx.contrEquiv1 d n hr hn).symm k) = L k from funext fun a => Fin.ext (hL _ k hk a),
    show d.rhsIdx j ((ValueIdx.contrEquiv1 d n hr hn).symm k) = R k from funext fun a => Fin.ext (hR _ k hk a)]

theorem at_axis {s : Shape} (j : s.Idx) (a b : Fin s.rank) (h : a.val = b.val) : (j a).val = (j b).val := by
  obtain rfl : a = b := Fin.ext h
  rfl

/-- The left operand's one free axis follows the result's first. -/
theorem lhs_free {sl sr so : Shape} (d : DotDims sl sr so) (a : Fin sl.rank) (hb : d.lhsBatch = [])
    (hn : d.lhsNonContracting = [a]) (h : 0 < so.rank) (j : so.Idx) (q : d.contr.Idx) :
    (d.lhsIdx j q a).val = (j ⟨0, h⟩).val := by
  unfold DotDims.lhsIdx
  rw [dif_neg (show ¬a ∈ d.lhsBatch by rw [hb]; simp), dif_pos (show a ∈ d.lhsNonContracting by rw [hn]; simp)]
  exact at_axis j _ _ (by simp [hb, hn])

/-- The right operand's one free axis follows the result's second. -/
theorem rhs_free {sl sr so : Shape} (d : DotDims sl sr so) (a : Fin sr.rank) (hb : d.lhsBatch = []) (hb' : d.rhsBatch = [])
    (hl : d.lhsNonContracting.length = 1) (hn : d.rhsNonContracting = [a]) (h : 1 < so.rank) (j : so.Idx) (q : d.contr.Idx) :
    (d.rhsIdx j q a).val = (j ⟨1, h⟩).val := by
  unfold DotDims.rhsIdx
  rw [dif_neg (show ¬a ∈ d.rhsBatch by rw [hb']; simp), dif_pos (show a ∈ d.rhsNonContracting by rw [hn]; simp)]
  exact at_axis j _ _ (by simp [hb, hl, hn])

end Cert.Proof

end
-- ==== Proof.Dmix.lean ====
/-
  The backward product of the output projection by its input: `dmix = dzb · w_outᵀ`.

  The kernel multiplies, at each of its sixteen grid points, one band of 1024 rows of `dzb` by one band of 1024 rows of
  the converted weight, contracting over all 4096 columns; the reference differentiates the forward `einsum`. Over the
  extended reals both are, at `(r, s)`, the sum over `k` of `dzb (r, k) * w (s, k)`.
-/
module

public import proofs.«01_k».proof.Defs
public import proofs.«01_k».proof.Proof.Common
public import proofs.«01_k».proof.Proof.Gen.Dmix
public import proofs.«01_k».proof.Proof.Gen.DmixIdeal.Value
public import proofs.«01_k».proof.Proof.Gen.DmixRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.DmixIdeal.Product

open Cert.DmixIdeal Cert.DmixIdeal.Gen Cert.Proof

section
variable {F : FTy → Type} [FloatOps F]

/-- What the body leaves in the output's staging buffer. -/
theorem left_A (c : Dev nD) (i : grid0.Coords) (arg3 : Memref sig .tc .vmem S1024x4096 .bf16) (harg3 : arg3.IsWhole) (arg4 : Memref sig .tc .vmem S1024x4096 .bf16) (harg4 : arg4.IsWhole) (arg5 : Memref sig .tc .vmem S1024x1024 .f32) (harg5 : arg5.IsWhole) (arg6 : Memref sig .tc .vmem S8x128 .f32) (harg6 : arg6.IsWhole)
    (x0 : Vec F S1024x4096 .bf16) (x1 : Vec F S1024x4096 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros2]
  simp only [View.readAt_eq_ld, harg3.read_unread, harg4.read_unread, harg5.read_unread, harg6.read_unread, View.ld_unit_zero (S := S1024x4096) zeros2]
end

/-- The payload at an index. -/
theorem tile_apply (x0 : Vec Ideal S1024x4096 .bf16) (x1 : Vec Ideal S1024x4096 .bf16) (j : S1024x1024.Idx) :
    k0_pay1 (F := Ideal) x0 x1 j
      = (∑ k : Fin 4096, x0 (fun a => match a with | ⟨0, _⟩ => ⟨(j 0).val, (j 0).isLt⟩ | ⟨1, _⟩ => ⟨k.val, k.isLt⟩)
          * x1 (fun a => match a with | ⟨0, _⟩ => ⟨(j 1).val, (j 1).isLt⟩ | ⟨1, _⟩ => ⟨k.val, k.isLt⟩)) := by
  unfold k0_pay1
  dsimp only
  simp only [shapeCast_self]
  refine product_sum dot_S1024x4096_S1024x4096_S1024x1024_1_1_0_0_n_n 4096 rfl rfl _ _ _ _ _ (fun q k h a => ?_) (fun q k h a => ?_)
  · match a with
    | ⟨0, _⟩ => exact lhs_free dot_S1024x4096_S1024x4096_S1024x1024_1_1_0_0_n_n 0 rfl rfl (by decide) j q
    | ⟨1, _⟩ => exact (DotDims.lhsIdx_val_of_single _ rfl j q).trans h
  · match a with
    | ⟨0, _⟩ => exact rhs_free dot_S1024x4096_S1024x4096_S1024x1024_1_1_0_0_n_n 0 rfl rfl rfl rfl (by decide) j q
    | ⟨1, _⟩ => exact (DotDims.rhsIdx_val_of_single _ rfl j q).trans h

variable (m : (ℓ : Loc nD τ sig) → Buf (Elt Ideal) ℓ) (ρ : Dev nD → PrngReg)

/-- The converted weight the region finds is the weight. -/
theorem weight (c : Dev nD) (i : S4096x4096.Idx) :
    V m c main_v0 i = m ((c : Thread nD τ).loc main_arg1) i := by
  have h : V m c main_v0 = (truncf .bf16 (m ((c : Thread nD τ).loc main_arg1) : FVec Ideal S4096x4096 .f32) bitsLt_bf16_f32 : FVec Ideal S4096x4096 .bf16) := by
    unfold V
    after_results
  rw [h]
  rfl

/-- The rows and columns each grid point reads, against the block it writes. -/
theorem bands : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, win0_0.index t 0 = win0_2.index t 0 ∧ win0_0.index t 1 = 0 ∧ win0_1.index t 0 = win0_2.index t 1 ∧ win0_1.index t 1 = 0)

/-- Every block of the result is some grid point's. -/
theorem reached : ∀ (p : Fin 4) (q : Fin 4), ∃ t : Fin cfg0.N, (cfg0.win 2).flush t = true ∧ win0_2.index t 0 = p.val ∧ win0_2.index t 1 = q.val :=
  (by decide +kernel : ∀ (p : Fin 4) (q : Fin 4), ∃ t : Fin grid0.N, (cfg0.win 2).flush t = true ∧ win0_2.index t 0 = p.val ∧ win0_2.index t 1 = q.val)

/-- The reference's result at an index. -/
theorem reference_apply (x0 : Vec Ideal Cert.DmixRefIdeal.S4096x4096 .bf16) (x1 : Vec Ideal Cert.DmixRefIdeal.S4096x4096 .f32) (i : Cert.DmixRefIdeal.S4096x4096.Idx) :
    Cert.DmixRefIdeal.Read.val_main_v3 (F := Ideal) x0 x1 i
      = ∑ k : Fin 4096, x0 (fun a => match a with | ⟨0, _⟩ => ⟨(i 0).val, (i 0).isLt⟩ | ⟨1, _⟩ => ⟨k.val, k.isLt⟩) * x1 (fun a => match a with | ⟨0, _⟩ => ⟨(i 1).val, (i 1).isLt⟩ | ⟨1, _⟩ => ⟨k.val, k.isLt⟩) := by
  exact Cert.DmixRefIdeal.Read.val_main_v3_apply x0 x1 i

/-- What each grid point writes back is the reference's product, read through the block. -/
theorem flushed_eq (c : Dev nD) (t : Fin cfg0.N) (hf : (cfg0.win 2).flush t = true) :
    (dats m 0 c).flushed 2 t = ((cfg0.win 2).blk t).view.read (Elt Ideal)
      (Cert.DmixRefIdeal.Read.val_main_v3 (F := Ideal) (m ((c : Thread nD τ).loc main_arg0)) (m ((c : Thread nD τ).loc main_arg1))) := by
  rw [Value.flushed2_A, left_A]
  funext j
  rw [View.read_apply, reference_apply]
  refine (tile_apply (iblk m c 0 t) (iblk m c 1 t) j).trans ?_
  obtain ⟨h0, h0', h1, h1'⟩ := bands t
  refine Finset.sum_congr rfl fun k _ => ?_
  congr 1
  · unfold iblk
    rw [View.read_apply]
    show V m c main_arg0 _ = m ((c : Thread nD τ).loc main_arg0) _
    rw [V_main_arg0]
    congr 1
    funext a
    apply Fin.ext
    match a with
    | ⟨0, _⟩ => show win0_0.index t 0 * 1024 + 1 * (j 0).val = win0_2.index t 0 * 1024 + 1 * (j 0).val; rw [h0]
    | ⟨1, _⟩ => show win0_0.index t 1 * 4096 + 1 * k.val = k.val; rw [h0']; omega
  · unfold iblk
    rw [View.read_apply]
    show V m c main_v0 _ = m ((c : Thread nD τ).loc main_arg1) _
    rw [weight]
    congr 1
    funext a
    apply Fin.ext
    match a with
    | ⟨0, _⟩ => show win0_1.index t 0 * 1024 + 1 * (j 1).val = win0_2.index t 1 * 1024 + 1 * (j 1).val; rw [h1]
    | ⟨1, _⟩ => show win0_1.index t 1 * 4096 + 1 * k.val = k.val; rw [h1']; omega

/-- The result array ends at the reference's product. -/
theorem final (c : Dev nD) : (dats m 0 c).arrAt 2 cfg0.N
    = Cert.DmixRefIdeal.Read.val_main_v3 (F := Ideal) (m ((c : Thread nD τ).loc main_arg0)) (m ((c : Thread nD τ).loc main_arg1)) :=
  (dats m 0 c).arrAt_eq_of_cover 2 _ (flushed_eq m c) fun i => by
    have i0 : (i 0 : Nat) < 4096 := (i 0).isLt
    have i1 : (i 1 : Nat) < 4096 := (i 1).isLt
    obtain ⟨t, hf, hp, hq⟩ := reached ⟨(i 0 : Nat) / 1024, by omega⟩ ⟨(i 1 : Nat) / 1024, by omega⟩
    refine ⟨t, hf, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hp]; dsimp only; omega
    | ⟨1, _⟩ => show win0_2.index t 1 * 1024 ≤ (i 1 : Nat) ∧ (i 1 : Nat) < win0_2.index t 1 * 1024 + 1024
                rw [hq]; dsimp only; omega

end Cert.DmixIdeal.Product

namespace Cert.Proof.Dmix

/-- The two programs have one body table, read at the machine's floats. -/
theorem bodies : @Cert.Dmix.defs₀ Bits _ _ = @Cert.DmixIdeal.defs₀ Bits _ _ := by
  unfold Cert.Dmix.defs₀ Cert.DmixIdeal.defs₀
  refine congrArg Defs.onTc (funext fun l => ?_)
  match l with
  | 0 => rfl
theorem table : @Cert.Dmix.defs Bits _ _ = @Cert.DmixIdeal.defs Bits _ _ := congrArg (Pipeline.defs _) bodies

theorem frame_kernel : Cert.quiescent_Dmix := fun m ρ _ => by
  rw [table]
  exact Cert.DmixIdeal.Gen.frame (F := Bits) m ρ
theorem frame_ideal : Cert.quiescent_DmixIdeal := fun m ρ _ => Cert.DmixIdeal.Gen.frame m ρ
theorem frame_ref : Cert.quiescent_DmixRefIdeal := fun m ρ _ =>
  (θ_run Cert.DmixRefIdeal.defs _ _).mono
    (fun r h => ⟨fun c => (h c).2, Idealize.ShloMosaic.sem_eq_zero_of_no_sems (by decide) r.2⟩)
    (Cert.DmixRefIdeal.Value.run (F := Ideal) m ρ)

theorem value : Cert.algebraic_DmixIdeal_DmixRefIdeal := fun m ρ m' ρ' _ hag =>
  ⟨fun c => Cert.DmixRefIdeal.Read.val_main_v3 (F := Ideal) (m ((c.tc : Thread _ _).loc Cert.DmixIdeal.main_arg0)) (m ((c.tc : Thread _ _).loc Cert.DmixIdeal.main_arg1)),
    (θ_run Cert.DmixIdeal.defs _ _).mono
      (fun _ h c => ⟨(h c).1.trans (Cert.DmixIdeal.Product.final m c), (h c).2⟩)
      (Cert.DmixIdeal.Value.run_blocks m ρ),
    (θ_run Cert.DmixRefIdeal.defs _ _).mono
      (fun _ h c => ⟨(h c).1.trans ((Cert.DmixRefIdeal.Read.val_main_v3_eq _ _).trans (by rw [(hag c).1, (hag c).2])), (h c).2⟩)
      (Cert.DmixRefIdeal.Value.run m' ρ')⟩

end Cert.Proof.Dmix

end
-- ==== Proof.Dwo.lean ====
/-
  The backward product of the output projection by its weight: `dw_out = mixᵀ · dzb`, contracted over the 4096 tokens.

  Each grid point takes one band of 1024 columns of `mix` and one of `dzb`; the reference differentiates the forward
  `einsum` and converts. Over the extended reals both are, at `(r, s)`, the sum over the tokens `k` of
  `mix (k, r) * dzb (k, s)`.
-/
module

public import proofs.«01_k».proof.Defs
public import proofs.«01_k».proof.Proof.Common
public import proofs.«01_k».proof.Proof.Gen.Dwo
public import proofs.«01_k».proof.Proof.Gen.DwoIdeal.Value
public import proofs.«01_k».proof.Proof.Gen.DwoRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.DwoIdeal.Product

open Cert.DwoIdeal Cert.DwoIdeal.Gen Cert.Proof

section
variable {F : FTy → Type} [FloatOps F]

/-- What the body leaves in the output's staging buffer. -/
theorem left_A (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole)
    (x0 : Vec F S4096x1024 .bf16) (x1 : Vec F S4096x1024 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros2]
  simp only [View.readAt_eq_ld, harg3.read_unread, harg4.read_unread, harg5.read_unread, harg6.read_unread, View.ld_unit_zero (S := S4096x1024) zeros2]
end

/-- The payload at an index. -/
theorem tile_apply (x0 : Vec Ideal S4096x1024 .bf16) (x1 : Vec Ideal S4096x1024 .bf16) (j : S1024x1024.Idx) :
    k0_pay1 (F := Ideal) x0 x1 j
      = (∑ k : Fin 4096, x0 (fun a => match a with | ⟨0, _⟩ => ⟨k.val, k.isLt⟩ | ⟨1, _⟩ => ⟨(j 0).val, (j 0).isLt⟩)
          * x1 (fun a => match a with | ⟨0, _⟩ => ⟨k.val, k.isLt⟩ | ⟨1, _⟩ => ⟨(j 1).val, (j 1).isLt⟩)) := by
  unfold k0_pay1
  dsimp only
  show matmul (F := Ideal) (φ₁ := .bf16) (φ₂ := .bf16) dot_S4096x1024_S4096x1024_S1024x1024_0_0_1_1_n_n none x0 x1 (constant S1024x1024 .f32 0x00000000#32) j = _
  refine product_sum dot_S4096x1024_S4096x1024_S1024x1024_0_0_1_1_n_n 4096 rfl rfl _ _ _ _ _ (fun q k h a => ?_) (fun q k h a => ?_)
  · match a with
    | ⟨0, _⟩ => exact (DotDims.lhsIdx_val_of_single _ rfl j q).trans h
    | ⟨1, _⟩ => exact lhs_free dot_S4096x1024_S4096x1024_S1024x1024_0_0_1_1_n_n 1 rfl rfl (by decide) j q
  · match a with
    | ⟨0, _⟩ => exact (DotDims.rhsIdx_val_of_single _ rfl j q).trans h
    | ⟨1, _⟩ => exact rhs_free dot_S4096x1024_S4096x1024_S1024x1024_0_0_1_1_n_n 1 rfl rfl rfl rfl (by decide) j q

variable (m : (ℓ : Loc nD τ sig) → Buf (Elt Ideal) ℓ) (ρ : Dev nD → PrngReg)

/-- The rows and columns each grid point reads, against the block it writes. -/
theorem bands : ∀ t : Fin cfg0.N, win0_0.index t 1 = win0_2.index t 0 ∧ win0_0.index t 0 = 0 ∧ win0_1.index t 1 = win0_2.index t 1 ∧ win0_1.index t 0 = 0 :=
  (by decide +kernel : ∀ t : Fin grid0.N, win0_0.index t 1 = win0_2.index t 0 ∧ win0_0.index t 0 = 0 ∧ win0_1.index t 1 = win0_2.index t 1 ∧ win0_1.index t 0 = 0)

/-- Every block of the result is some grid point's. -/
theorem reached : ∀ (p : Fin 4) (q : Fin 4), ∃ t : Fin cfg0.N, (cfg0.win 2).flush t = true ∧ win0_2.index t 0 = p.val ∧ win0_2.index t 1 = q.val :=
  (by decide +kernel : ∀ (p : Fin 4) (q : Fin 4), ∃ t : Fin grid0.N, (cfg0.win 2).flush t = true ∧ win0_2.index t 0 = p.val ∧ win0_2.index t 1 = q.val)

/-- The reference's result at an index. -/
theorem reference_apply (x0 : Vec Ideal Cert.DwoRefIdeal.S4096x4096 .bf16) (x1 : Vec Ideal Cert.DwoRefIdeal.S4096x4096 .bf16) (i : Cert.DwoRefIdeal.S4096x4096.Idx) :
    Cert.DwoRefIdeal.Read.val_main_v6 (F := Ideal) x0 x1 i
      = ∑ k : Fin 4096, x1 (fun a => match a with | ⟨0, _⟩ => ⟨k.val, k.isLt⟩ | ⟨1, _⟩ => ⟨(i 1).val, (i 1).isLt⟩) * x0 (fun a => match a with | ⟨0, _⟩ => ⟨k.val, k.isLt⟩ | ⟨1, _⟩ => ⟨(i 0).val, (i 0).isLt⟩) := by
  rw [Cert.DwoRefIdeal.Read.val_main_v6_apply, Cert.DwoRefIdeal.Read.val_main_v5_apply]
  exact Cert.DwoRefIdeal.Read.val_main_v4_apply x0 x1 _

/-- What each grid point writes back is the reference's product, read through the block. -/
theorem flushed_eq (c : Dev nD) (t : Fin cfg0.N) (hf : (cfg0.win 2).flush t = true) :
    (dats m 0 c).flushed 2 t = ((cfg0.win 2).blk t).view.read (Elt Ideal)
      (Cert.DwoRefIdeal.Read.val_main_v6 (F := Ideal) (m ((c : Thread nD τ).loc main_arg0)) (m ((c : Thread nD τ).loc main_arg1))) := by
  rw [Value.flushed2_A, left_A]
  funext j
  rw [View.read_apply, reference_apply]
  refine (tile_apply (iblk m c 0 t) (iblk m c 1 t) j).trans ?_
  obtain ⟨h0, h0', h1, h1'⟩ := bands t
  refine Finset.sum_congr rfl fun k _ => ?_
  refine (mul_comm _ _).trans ?_
  congr 1
  · unfold iblk
    rw [View.read_apply]
    show V m c main_arg1 _ = m ((c : Thread nD τ).loc main_arg1) _
    rw [V_main_arg1]
    congr 1
    funext a
    apply Fin.ext
    match a with
    | ⟨0, _⟩ => show win0_1.index t 0 * 4096 + 1 * k.val = k.val; rw [h1']; omega
    | ⟨1, _⟩ => show win0_1.index t 1 * 1024 + 1 * (j 1).val = win0_2.index t 1 * 1024 + 1 * (j 1).val; rw [h1]
  · unfold iblk
    rw [View.read_apply]
    show V m c main_arg0 _ = m ((c : Thread nD τ).loc main_arg0) _
    rw [V_main_arg0]
    congr 1
    funext a
    apply Fin.ext
    match a with
    | ⟨0, _⟩ => show win0_0.index t 0 * 4096 + 1 * k.val = k.val; rw [h0']; omega
    | ⟨1, _⟩ => show win0_0.index t 1 * 1024 + 1 * (j 0).val = win0_2.index t 0 * 1024 + 1 * (j 0).val; rw [h0]

/-- The result array ends at the reference's product. -/
theorem final (c : Dev nD) : (dats m 0 c).arrAt 2 cfg0.N
    = Cert.DwoRefIdeal.Read.val_main_v6 (F := Ideal) (m ((c : Thread nD τ).loc main_arg0)) (m ((c : Thread nD τ).loc main_arg1)) :=
  (dats m 0 c).arrAt_eq_of_cover 2 _ (flushed_eq m c) fun i => by
    have i0 : (i 0 : Nat) < 4096 := (i 0).isLt
    have i1 : (i 1 : Nat) < 4096 := (i 1).isLt
    obtain ⟨t, hf, hp, hq⟩ := reached ⟨(i 0 : Nat) / 1024, by omega⟩ ⟨(i 1 : Nat) / 1024, by omega⟩
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [hp]; dsimp only; omega
    | ⟨1, _⟩ => show win0_2.index t 1 * 1024 ≤ (i 1 : Nat) ∧ (i 1 : Nat) < win0_2.index t 1 * 1024 + 1024
                rw [hq]; dsimp only; omega

end Cert.DwoIdeal.Product

namespace Cert.Proof.Dwo

/-- The two programs have one body table, read at the machine's floats. -/
theorem bodies : @Cert.Dwo.defs₀ Bits _ _ = @Cert.DwoIdeal.defs₀ Bits _ _ := by
  unfold Cert.Dwo.defs₀ Cert.DwoIdeal.defs₀
  refine congrArg Defs.onTc (funext fun l => ?_)
  match l with
  | 0 => rfl
theorem table : @Cert.Dwo.defs Bits _ _ = @Cert.DwoIdeal.defs Bits _ _ := congrArg (Pipeline.defs _) bodies

theorem frame_kernel : Cert.quiescent_Dwo := fun m ρ _ => by
  rw [table]
  exact Cert.DwoIdeal.Gen.frame (F := Bits) m ρ
theorem frame_ideal : Cert.quiescent_DwoIdeal := fun m ρ _ => Cert.DwoIdeal.Gen.frame m ρ
theorem frame_ref : Cert.quiescent_DwoRefIdeal := fun m ρ _ =>
  (θ_run Cert.DwoRefIdeal.defs _ _).mono
    (fun r h => ⟨fun c => (h c).2, Idealize.ShloMosaic.sem_eq_zero_of_no_sems (by decide) r.2⟩)
    (Cert.DwoRefIdeal.Value.run (F := Ideal) m ρ)

theorem value : Cert.algebraic_DwoIdeal_DwoRefIdeal := fun m ρ m' ρ' _ hag =>
  ⟨fun c => Cert.DwoRefIdeal.Read.val_main_v6 (F := Ideal) (m ((c.tc : Thread _ _).loc Cert.DwoIdeal.main_arg0)) (m ((c.tc : Thread _ _).loc Cert.DwoIdeal.main_arg1)),
    (θ_run Cert.DwoIdeal.defs _ _).mono
      (fun _ h c => ⟨(h c).1.trans (Cert.DwoIdeal.Product.final m c), (h c).2⟩)
      (Cert.DwoIdeal.Value.run_blocks m ρ),
    (θ_run Cert.DwoRefIdeal.defs _ _).mono
      (fun _ h c => ⟨(h c).1.trans ((Cert.DwoRefIdeal.Read.val_main_v6_eq _ _).trans (by rw [(hag c).1, (hag c).2])), (h c).2⟩)
      (Cert.DwoRefIdeal.Value.run m' ρ')⟩

end Cert.Proof.Dwo

end
-- ==== Proof.Dwt.lean ====
/-
  The backward product of the input projection by its weight: `dw_inᵀ = dhᵀ · x`, contracted over the 4096 tokens.

  Each grid point takes one band of 1536 columns of `dh` and one of 512 columns of `x`; the reference differentiates the
  forward `einsum`, transposes and converts. Over the extended reals both are, at `(r, s)`, the sum over the tokens `k` of
  `dh (k, r) * x (k, s)`.
-/
module

public import proofs.«01_k».proof.Defs
public import proofs.«01_k».proof.Proof.Common
public import proofs.«01_k».proof.Proof.Gen.Dwt
public import proofs.«01_k».proof.Proof.Gen.DwtIdeal.Value
public import proofs.«01_k».proof.Proof.Gen.DwtRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.DwtIdeal.Product

open Cert.DwtIdeal Cert.DwtIdeal.Gen Cert.Proof

section
variable {F : FTy → Type} [FloatOps F]

/-- What the body leaves in the output's staging buffer. -/
theorem left_A (c : Dev nD) (i : grid0.Coords) (arg3 : Memref sig .tc .vmem S4096x1536 .bf16) (harg3 : arg3.IsWhole) (arg4 : Memref sig .tc .vmem S4096x512 .bf16) (harg4 : arg4.IsWhole) (arg5 : Memref sig .tc .vmem S8x128 .f32) (harg5 : arg5.IsWhole) (arg6 : Memref sig .tc .vmem S1536x512 .bf16) (harg6 : arg6.IsWhole) (arg7 : Memref sig .tc .vmem S8x128 .f32) (harg7 : arg7.IsWhole)
    (x0 : Vec F S4096x1536 .bf16) (x1 : Vec F S4096x512 .bf16) (x2 : Vec F S8x128 .f32) :
    out0_A_3 c i arg3 harg3 arg4 harg4 arg5 harg5 arg6 harg6 arg7 harg7 x0 x1 x2 = k0_pay1 x0 x1 := by
  unfold out0_A_3
  rw [View.read_writes_eq_canon _ _ _ (cover0_A_3 c i arg3 harg3 arg4 harg4 arg5 harg5 arg6 harg6 arg7 harg7 x0 x1 x2)]
  unfold kernelRun0_A
  dsimp only
  rw [View.canon_unit_zero zeros2]
  simp only [View.readAt_eq_ld, harg3.read_unread, harg4.read_unread, harg5.read_unread, harg6.read_unread, harg7.read_unread, View.ld_unit_zero (S := S4096x1536) zeros2, View.ld_unit_zero (S := S4096x512) zeros2]
end

/-- The payload at an index. -/
theorem tile_apply (x0 : Vec Ideal S4096x1536 .bf16) (x1 : Vec Ideal S4096x512 .bf16) (j : S1536x512.Idx) :
    k0_pay1 (F := Ideal) x0 x1 j
      = (∑ k : Fin 4096, x0 (fun a => match a with | ⟨0, _⟩ => ⟨k.val, k.isLt⟩ | ⟨1, _⟩ => ⟨(j 0).val, (j 0).isLt⟩)
          * x1 (fun a => match a with | ⟨0, _⟩ => ⟨k.val, k.isLt⟩ | ⟨1, _⟩ => ⟨(j 1).val, (j 1).isLt⟩)) := by
  unfold k0_pay1
  dsimp only
  show matmul (F := Ideal) (φ₁ := .bf16) (φ₂ := .bf16) dot_S4096x1536_S4096x512_S1536x512_0_0_1_1_n_n none x0 x1 (constant S1536x512 .f32 0x00000000#32) j = _
  refine product_sum dot_S4096x1536_S4096x512_S1536x512_0_0_1_1_n_n 4096 rfl rfl _ _ _ _ _ (fun q k h a => ?_) (fun q k h a => ?_)
  · match a with
    | ⟨0, _⟩ => exact (DotDims.lhsIdx_val_of_single _ rfl j q).trans h
    | ⟨1, _⟩ => exact lhs_free dot_S4096x1536_S4096x512_S1536x512_0_0_1_1_n_n 1 rfl rfl (by decide) j q
  · match a with
    | ⟨0, _⟩ => exact (DotDims.rhsIdx_val_of_single _ rfl j q).trans h
    | ⟨1, _⟩ => exact rhs_free dot_S4096x1536_S4096x512_S1536x512_0_0_1_1_n_n 1 rfl rfl rfl rfl (by decide) j q

variable (m : (ℓ : Loc nD τ sig) → Buf (Elt Ideal) ℓ) (ρ : Dev nD → PrngReg)

/-- The rows and columns each grid point reads, against the block it writes. -/
theorem bands : ∀ t : Fin cfg0.N, win0_0.index t 1 = win0_3.index t 0 ∧ win0_0.index t 0 = 0 ∧ win0_1.index t 1 = win0_3.index t 1 ∧ win0_1.index t 0 = 0 :=
  (by decide +kernel : ∀ t : Fin grid0.N, win0_0.index t 1 = win0_3.index t 0 ∧ win0_0.index t 0 = 0 ∧ win0_1.index t 1 = win0_3.index t 1 ∧ win0_1.index t 0 = 0)

/-- Every block of the result is some grid point's. -/
theorem reached : ∀ (p : Fin 7) (q : Fin 8), ∃ t : Fin cfg0.N, (cfg0.win 3).flush t = true ∧ win0_3.index t 0 = p.val ∧ win0_3.index t 1 = q.val :=
  (by decide +kernel : ∀ (p : Fin 7) (q : Fin 8), ∃ t : Fin grid0.N, (cfg0.win 3).flush t = true ∧ win0_3.index t 0 = p.val ∧ win0_3.index t 1 = q.val)

/-- The reference's result at an index. -/
theorem reference_apply (x0 : Vec Ideal Cert.DwtRefIdeal.S4096x10752 .bf16) (x1 : Vec Ideal Cert.DwtRefIdeal.S4096x4096 .bf16) (i : Cert.DwtRefIdeal.S10752x4096.Idx) :
    Cert.DwtRefIdeal.Read.val_main_v7 (F := Ideal) x0 x1 i
      = ∑ k : Fin 4096, x0 (fun a => match a with | ⟨0, _⟩ => ⟨k.val, k.isLt⟩ | ⟨1, _⟩ => ⟨(i 0).val, (i 0).isLt⟩) * x1 (fun a => match a with | ⟨0, _⟩ => ⟨k.val, k.isLt⟩ | ⟨1, _⟩ => ⟨(i 1).val, (i 1).isLt⟩) := by
  rw [Cert.DwtRefIdeal.Read.val_main_v7_apply, Cert.DwtRefIdeal.Read.val_main_v6_apply, Cert.DwtRefIdeal.Read.val_main_v5_apply]
  exact Cert.DwtRefIdeal.Read.val_main_v4_apply x0 x1 _

/-- What each grid point writes back is the reference's product, read through the block. -/
theorem flushed_eq (c : Dev nD) (t : Fin cfg0.N) (hf : (cfg0.win 3).flush t = true) :
    (dats m 0 c).flushed 3 t = ((cfg0.win 3).blk t).view.read (Elt Ideal)
      (Cert.DwtRefIdeal.Read.val_main_v7 (F := Ideal) (m ((c : Thread nD τ).loc main_arg0)) (m ((c : Thread nD τ).loc main_arg1))) := by
  rw [Value.flushed3_A, left_A]
  funext j
  rw [View.read_apply, reference_apply]
  refine (tile_apply (iblk m c 0 t) (iblk m c 1 t) j).trans ?_
  obtain ⟨h0, h0', h1, h1'⟩ := bands t
  refine Finset.sum_congr rfl fun k _ => ?_
  congr 1
  · unfold iblk
    rw [View.read_apply]
    show V m c main_arg0 _ = m ((c : Thread nD τ).loc main_arg0) _
    rw [V_main_arg0]
    congr 1
    funext a
    apply Fin.ext
    match a with
    | ⟨0, _⟩ => show win0_0.index t 0 * 4096 + 1 * k.val = k.val; rw [h0']; omega
    | ⟨1, _⟩ => show win0_0.index t 1 * 1536 + 1 * (j 0).val = win0_3.index t 0 * 1536 + 1 * (j 0).val; rw [h0]
  · unfold iblk
    rw [View.read_apply]
    show V m c main_arg1 _ = m ((c : Thread nD τ).loc main_arg1) _
    rw [V_main_arg1]
    congr 1
    funext a
    apply Fin.ext
    match a with
    | ⟨0, _⟩ => show win0_1.index t 0 * 4096 + 1 * k.val = k.val; rw [h1']; omega
    | ⟨1, _⟩ => show win0_1.index t 1 * 512 + 1 * (j 1).val = win0_3.index t 1 * 512 + 1 * (j 1).val; rw [h1]

/-- The result array ends at the reference's product. -/
theorem final (c : Dev nD) : (dats m 0 c).arrAt 3 cfg0.N
    = Cert.DwtRefIdeal.Read.val_main_v7 (F := Ideal) (m ((c : Thread nD τ).loc main_arg0)) (m ((c : Thread nD τ).loc main_arg1)) :=
  (dats m 0 c).arrAt_eq_of_cover 3 _ (flushed_eq m c) fun i => by
    have i0 : (i 0 : Nat) < 10752 := (i 0).isLt
    have i1 : (i 1 : Nat) < 4096 := (i 1).isLt
    obtain ⟨t, hf, hp, hq⟩ := reached ⟨(i 0 : Nat) / 1536, by omega⟩ ⟨(i 1 : Nat) / 512, by omega⟩
    refine ⟨t, hf, ?_⟩
    show i ∈ ((View.whole main_v1).slice (win0_3.rect t)).set
    rw [View.set_slice_whole, Rect.mem_set_unit]
    intro a
    match a with
    | ⟨0, _⟩ => show win0_3.index t 0 * 1536 ≤ (i 0 : Nat) ∧ (i 0 : Nat) < win0_3.index t 0 * 1536 + 1536
                rw [hp]; dsimp only; omega
    | ⟨1, _⟩ => show win0_3.index t 1 * 512 ≤ (i 1 : Nat) ∧ (i 1 : Nat) < win0_3.index t 1 * 512 + 512
                rw [hq]; dsimp only; omega

end Cert.DwtIdeal.Product

namespace Cert.Proof.Dwt

/-- The two programs have one body table, read at the machine's floats. -/
theorem bodies : @Cert.Dwt.defs₀ Bits _ _ = @Cert.DwtIdeal.defs₀ Bits _ _ := by
  unfold Cert.Dwt.defs₀ Cert.DwtIdeal.defs₀
  refine congrArg Defs.onTc (funext fun l => ?_)
  match l with
  | 0 => rfl
theorem table : @Cert.Dwt.defs Bits _ _ = @Cert.DwtIdeal.defs Bits _ _ := congrArg (Pipeline.defs _) bodies

theorem frame_kernel : Cert.quiescent_Dwt := fun m ρ _ => by
  rw [table]
  exact Cert.DwtIdeal.Gen.frame (F := Bits) m ρ
theorem frame_ideal : Cert.quiescent_DwtIdeal := fun m ρ _ => Cert.DwtIdeal.Gen.frame m ρ
theorem frame_ref : Cert.quiescent_DwtRefIdeal := fun m ρ _ =>
  (θ_run Cert.DwtRefIdeal.defs _ _).mono
    (fun r h => ⟨fun c => (h c).2, Idealize.ShloMosaic.sem_eq_zero_of_no_sems (by decide) r.2⟩)
    (Cert.DwtRefIdeal.Value.run (F := Ideal) m ρ)

theorem value : Cert.algebraic_DwtIdeal_DwtRefIdeal := fun m ρ m' ρ' _ hag =>
  ⟨fun c => Cert.DwtRefIdeal.Read.val_main_v7 (F := Ideal) (m ((c.tc : Thread _ _).loc Cert.DwtIdeal.main_arg0)) (m ((c.tc : Thread _ _).loc Cert.DwtIdeal.main_arg1)),
    (θ_run Cert.DwtIdeal.defs _ _).mono
      (fun _ h c => ⟨(h c).1.trans (Cert.DwtIdeal.Product.final m c), (h c).2⟩)
      (Cert.DwtIdeal.Value.run_blocks m ρ),
    (θ_run Cert.DwtRefIdeal.defs _ _).mono
      (fun _ h c => ⟨(h c).1.trans ((Cert.DwtRefIdeal.Read.val_main_v7_eq _ _).trans (by rw [(hag c).1, (hag c).2])), (h c).2⟩)
      (Cert.DwtRefIdeal.Value.run m' ρ')⟩

end Cert.Proof.Dwt

end
-- ==== Proof.Dx.lean ====
/-
  The backward product of the input projection by its input, and the residual: `dx = α · dz + dh · w_inᵀ`.

  The contraction over the 10752 columns of `dh` is cut into three: the grid's innermost axis takes 3584 columns at a time,
  carries the running sum in a buffer, and at the third point adds `α` times the block of `dz` and writes the block of the
  result. Over the extended reals the three partial sums are the reference's one sum.
-/
module

public import proofs.«01_k».proof.Defs
public import proofs.«01_k».proof.Proof.Common
public import proofs.«01_k».proof.Proof.Gen.Dx
public import proofs.«01_k».proof.Proof.Gen.DxIdeal.Value
public import proofs.«01_k».proof.Proof.Gen.DxRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.DxIdeal.Product

open Cert.DxIdeal Cert.DxIdeal.Gen Cert.Proof

section
variable {F : FTy → Type} [FloatOps F]

/-- The first of three points stores its product into the carried buffer. -/
theorem kept_A (c : Dev nD) (i : grid0.Coords) (arg3 : Memref sig .tc .vmem S1024x3584 .bf16) (harg3 : arg3.IsWhole) (arg4 : Memref sig .tc .vmem S3584x1024 .bf16) (harg4 : arg4.IsWhole) (arg5 : Memref sig .tc .vmem S1024x1024 .f32) (harg5 : arg5.IsWhole) (arg6 : Memref sig .tc .vmem S8x128 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (hc2 : ¬cond0_2 i)
    (x0 : Vec F S1024x3584 .bf16) (x1 : Vec F S3584x1024 .bf16) (x2 : Vec F S1024x1024 .f32) (x3 : Vec F S8x128 .f32) :
    sout0_A_0 c i arg3 harg3 arg4 harg4 arg5 harg5 arg6 harg6 arg7 harg7 arg8 harg8 hc0 hc1 hc2 x0 x1 x2 x3 = k0_pay2 x0 x1 := by
  unfold sout0_A_0
  rw [View.read_writes_eq_canon _ _ _ (scover0_A_0 c i arg3 harg3 arg4 harg4 arg5 harg5 arg6 harg6 arg7 harg7 arg8 harg8 hc0 hc1 hc2 x0 x1 x2 x3)]
  unfold kernelRun0_A
  dsimp only
  sl_unfold_words
  rw [View.canon_unit_zero zeros2]
  simp only [View.readAt_eq_ld, harg3.read_unread, harg4.read_unread, harg5.read_unread, harg8.read_unread, View.ld_unit_zero (S := S1024x3584) zeros2, View.ld_unit_zero (S := S3584x1024) zeros2, View.ld_unit_zero (S := S1024x1024) zeros2]

/-- The second adds its product to what it finds there. -/
theorem kept_B (c : Dev nD) (i : grid0.Coords) (arg3 : Memref sig .tc .vmem S1024x3584 .bf16) (harg3 : arg3.IsWhole) (arg4 : Memref sig .tc .vmem S3584x1024 .bf16) (harg4 : arg4.IsWhole) (arg5 : Memref sig .tc .vmem S1024x1024 .f32) (harg5 : arg5.IsWhole) (arg6 : Memref sig .tc .vmem S8x128 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (hc2 : ¬cond0_2 i)
    (x0 : Vec F S1024x3584 .bf16) (x1 : Vec F S3584x1024 .bf16) (x2 : Vec F S1024x1024 .f32) (x3 : Vec F S8x128 .f32) (xs0 : Vec F S1024x1024 .f32) :
    sout0_B_0 c i arg3 harg3 arg4 harg4 arg5 harg5 arg6 harg6 arg7 harg7 arg8 harg8 hc0 hc1 hc2 x0 x1 x2 x3 xs0 = k0_pay3 x0 x1 xs0 := by
  unfold sout0_B_0
  rw [View.read_writes_eq_canon _ _ _ (scover0_B_0 c i arg3 harg3 arg4 harg4 arg5 harg5 arg6 harg6 arg7 harg7 arg8 harg8 hc0 hc1 hc2 x0 x1 x2 x3 xs0)]
  unfold kernelRun0_B
  dsimp only
  sl_unfold_words
  rw [View.canon_unit_zero zeros2]
  simp only [View.readAt_eq_ld, harg3.read_unread, harg4.read_unread, harg5.read_unread, harg8.read_unread, View.ld_unit_zero (S := S1024x3584) zeros2, View.ld_unit_zero (S := S3584x1024) zeros2, View.ld_unit_zero (S := S1024x1024) zeros2]

/-- The third adds its own, and `α` times the block of `dz`, into the output. -/
theorem left_C (c : Dev nD) (i : grid0.Coords) (arg3 : Memref sig .tc .vmem S1024x3584 .bf16) (harg3 : arg3.IsWhole) (arg4 : Memref sig .tc .vmem S3584x1024 .bf16) (harg4 : arg4.IsWhole) (arg5 : Memref sig .tc .vmem S1024x1024 .f32) (harg5 : arg5.IsWhole) (arg6 : Memref sig .tc .vmem S8x128 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (hc2 : cond0_2 i)
    (x0 : Vec F S1024x3584 .bf16) (x1 : Vec F S3584x1024 .bf16) (x2 : Vec F S1024x1024 .f32) (x3 : Vec F S8x128 .f32) (xs0 : Vec F S1024x1024 .f32) :
    out0_C_4 c i arg3 harg3 arg4 harg4 arg5 harg5 arg6 harg6 arg7 harg7 arg8 harg8 hc0 hc1 hc2 x0 x1 x2 x3 xs0 = k0_pay4 x0 x1 xs0 x2 := by
  unfold out0_C_4
  rw [View.read_writes_eq_canon _ _ _ (cover0_C_4 c i arg3 harg3 arg4 harg4 arg5 harg5 arg6 harg6 arg7 harg7 arg8 harg8 hc0 hc1 hc2 x0 x1 x2 x3 xs0)]
  unfold kernelRun0_C
  dsimp only
  sl_unfold_words
  rw [View.canon_unit_zero zeros2]
  simp only [View.readAt_eq_ld, harg3.read_unread, harg4.read_unread, harg5.read_unread, harg8.read_unread, View.ld_unit_zero (S := S1024x3584) zeros2, View.ld_unit_zero (S := S3584x1024) zeros2, View.ld_unit_zero (S := S1024x1024) zeros2]
end

/-- A band of `dh` times a band of the transposed weight. -/
theorem tile_apply (x0 : Vec Ideal S1024x3584 .bf16) (x1 : Vec Ideal S3584x1024 .bf16) (j : S1024x1024.Idx) :
    k0_pay1 (F := Ideal) x0 x1 j
      = ∑ k : Fin 3584, x0 (fun a => match a with | ⟨0, _⟩ => ⟨(j 0).val, (j 0).isLt⟩ | ⟨1, _⟩ => ⟨k.val, k.isLt⟩)
          * x1 (fun a => match a with | ⟨0, _⟩ => ⟨k.val, k.isLt⟩ | ⟨1, _⟩ => ⟨(j 1).val, (j 1).isLt⟩) := by
  unfold k0_pay1
  dsimp only
  simp only [shapeCast_self]
  refine product_sum dot_S1024x3584_S3584x1024_S1024x1024_1_0_0_1_n_n 3584 rfl rfl _ _ _ _ _ (fun q k h a => ?_) (fun q k h a => ?_)
  · match a with
    | ⟨0, _⟩ => exact lhs_free dot_S1024x3584_S3584x1024_S1024x1024_1_0_0_1_n_n 0 rfl rfl (by decide) j q
    | ⟨1, _⟩ => exact (DotDims.lhsIdx_val_of_single _ rfl j q).trans h
  · match a with
    | ⟨0, _⟩ => exact (DotDims.rhsIdx_val_of_single _ rfl j q).trans h
    | ⟨1, _⟩ => exact rhs_free dot_S1024x3584_S3584x1024_S1024x1024_1_0_0_1_n_n 1 rfl rfl rfl rfl (by decide) j q

/-- A sum over 10752 terms, cut into three. -/
theorem thirds (f : Fin (3 * 3584) → EReal) :
    ∑ k, f k = (∑ q : Fin 3584, f ⟨3584 * 0 + q.val, by omega⟩) + (∑ q : Fin 3584, f ⟨3584 * 1 + q.val, by omega⟩)
      + ∑ q : Fin 3584, f ⟨3584 * 2 + q.val, by omega⟩ := by
  rw [← Equiv.sum_comp (finProdFinEquiv : Fin 3 × Fin 3584 ≃ Fin (3 * 3584)) f, Fintype.sum_prod_type, Fin.sum_univ_three]
  refine congrArg₂ (· + ·) (congrArg₂ (· + ·) ?_ ?_) ?_
  all_goals
    refine Finset.sum_congr rfl fun q _ => congrArg f (Fin.ext ?_)
    show q.val + 3584 * _ = _
    exact Nat.add_comm _ _

variable (m : (ℓ : Loc nD τ sig) → Buf (Elt Ideal) ℓ) (ρ : Dev nD → PrngReg)

/-- The transposed and converted weight the region finds is the weight, read the other way round. -/
theorem weight (c : Dev nD) (i : S10752x4096.Idx) :
    V m c main_v1 i = m ((c : Thread nD τ).loc main_arg1) (fun a => match a with | ⟨0, _⟩ => ⟨(i 1).val, (i 1).isLt⟩ | ⟨1, _⟩ => ⟨(i 0).val, (i 0).isLt⟩) := by
  have h : V m c main_v1 = (truncf .bf16 (transpose S10752x4096 [1, 0] (m ((c : Thread nD τ).loc main_arg1) : FVec Ideal S4096x10752 .f32) transposes_S4096x10752_S10752x4096_1_0) bitsLt_bf16_f32 : FVec Ideal S10752x4096 .bf16) := by
    unfold V
    after_results
  rw [h]
  show transpose S10752x4096 [1, 0] (m ((c : Thread nD τ).loc main_arg1) : FVec Ideal S4096x10752 .f32) transposes_S4096x10752_S10752x4096_1_0 i = _
  refine transpose_apply [1, 0] _ transposes_S4096x10752_S10752x4096_1_0 i _ (fun a => ?_)
  match a with
  | ⟨0, _⟩ => rfl
  | ⟨1, _⟩ => rfl

/-- The blocks each grid point reads and writes: the innermost axis counts the thirds. -/
theorem bands : ∀ t : Fin cfg0.N, win0_0.index t 0 = win0_4.index t 0 ∧ win0_0.index t 1 = t.val % 3
    ∧ win0_1.index t 0 = t.val % 3 ∧ win0_1.index t 1 = win0_4.index t 1
    ∧ win0_4.index t 0 = t.val / 3 / 4 ∧ win0_4.index t 1 = t.val / 3 % 4 :=
  (by decide +kernel : ∀ t : Fin grid0.N, win0_0.index t 0 = win0_4.index t 0 ∧ win0_0.index t 1 = t.val % 3
    ∧ win0_1.index t 0 = t.val % 3 ∧ win0_1.index t 1 = win0_4.index t 1
    ∧ win0_4.index t 0 = t.val / 3 / 4 ∧ win0_4.index t 1 = t.val / 3 % 4)

/-- Every block of the result is written back by some grid point. -/
theorem reached : ∀ (p : Fin 4) (q : Fin 4), ∃ t : Fin cfg0.N, (cfg0.win 4).flush t = true ∧ win0_4.index t 0 = p.val ∧ win0_4.index t 1 = q.val :=
  (by decide +kernel : ∀ (p : Fin 4) (q : Fin 4), ∃ t : Fin grid0.N, (cfg0.win 4).flush t = true ∧ win0_4.index t 0 = p.val ∧ win0_4.index t 1 = q.val)

/-- One term of the product `dh · w_inᵀ` at `(r, s)`. -/
def term (u : Vec Ideal S4096x10752 .bf16) (v : Vec Ideal S4096x10752 .f32) (r s : Fin 4096) (k : Fin (3 * 3584)) : EReal :=
  u (fun a => match a with | ⟨0, _⟩ => ⟨r.val, r.isLt⟩ | ⟨1, _⟩ => ⟨k.val, k.isLt⟩)
    * v (fun a => match a with | ⟨0, _⟩ => ⟨s.val, s.isLt⟩ | ⟨1, _⟩ => ⟨k.val, k.isLt⟩)

/-- What a point's product holds: its third of the terms. -/
theorem part (c : Dev nD) (t : Fin cfg0.N) (j : S1024x1024.Idx) (r s : Fin 4096) (z : ℕ) (hz : z < 3) (h3 : t.val % 3 = z)
    (hr : win0_4.index t 0 * 1024 + (j 0).val = r.val) (hs : win0_4.index t 1 * 1024 + (j 1).val = s.val) :
    k0_pay1 (F := Ideal) (iblk m c 0 t) (iblk m c 1 t) j = ∑ q : Fin 3584, term (m ((c : Thread nD τ).loc main_arg0)) (m ((c : Thread nD τ).loc main_arg1)) r s ⟨3584 * z + q.val, by omega⟩ := by
  refine (tile_apply (iblk m c 0 t) (iblk m c 1 t) j).trans (Finset.sum_congr rfl fun k _ => ?_)
  obtain ⟨h0, h0', h1, h1', -, -⟩ := bands t
  unfold term
  refine congrArg₂ (· * ·) ?_ ?_
  · unfold iblk
    rw [View.read_apply]
    show V m c main_arg0 _ = m ((c : Thread nD τ).loc main_arg0) _
    rw [V_main_arg0]
    congr 1
    funext a
    apply Fin.ext
    match a with
    | ⟨0, _⟩ => show win0_0.index t 0 * 1024 + 1 * (j 0).val = r.val; rw [h0]; omega
    | ⟨1, _⟩ => show win0_0.index t 1 * 3584 + 1 * k.val = 3584 * z + k.val; rw [h0', h3]; omega
  · unfold iblk
    rw [View.read_apply]
    show V m c main_v1 _ = m ((c : Thread nD τ).loc main_arg1) _
    rw [weight]
    congr 1
    funext a
    apply Fin.ext
    match a with
    | ⟨0, _⟩ => show win0_1.index t 1 * 1024 + 1 * (j 1).val = s.val; rw [h1']; omega
    | ⟨1, _⟩ => show win0_1.index t 0 * 3584 + 1 * k.val = 3584 * z + k.val; rw [h1, h3]; omega

/-- The reference's result at an index. -/
theorem reference_apply (c : Dev nD) (i : S4096x4096.Idx) :
    Cert.DxRefIdeal.Read.val_main_v8 (F := Ideal) (m ((c : Thread nD τ).loc main_arg0)) (m ((c : Thread nD τ).loc main_arg1)) (m ((c : Thread nD τ).loc main_arg2)) i
      = (∑ k, term (m ((c : Thread nD τ).loc main_arg0)) (m ((c : Thread nD τ).loc main_arg1)) ⟨(i 0).val, (i 0).isLt⟩ ⟨(i 1).val, (i 1).isLt⟩ k)
        + (FloatOps.ofBits (F := Ideal) .f32 0x3FD744FD#32 : EReal) * (m ((c : Thread nD τ).loc main_arg2) : FVec Ideal S4096x4096 .f32) i := by
  rw [Cert.DxRefIdeal.Read.val_main_v8_apply]
  refine (add_comm _ _).trans (congrArg₂ (· + ·) (Cert.DxRefIdeal.Read.val_main_v7_apply _ _ i) ?_)
  rw [Cert.DxRefIdeal.Read.val_main_v6_apply, Cert.DxRefIdeal.Read.val_main_v5_apply]
  rfl

/-- What the carried buffer holds after the second of three points. -/
theorem carried (c : Dev nD) (t : Fin cfg0.N) (h : t.val % 3 = 1) :
    (outsAt0 m c t.val t.isLt).2 = addf (k0_pay1 (F := Ideal) (iblk m c 0 ⟨t.val - 1, by omega⟩) (iblk m c 1 ⟨t.val - 1, by omega⟩))
      (k0_pay1 (iblk m c 0 t) (iblk m c 1 t)) := by
  rw [outsAt0_B m c t (by omega) h (by omega)]
  dsimp only
  rw [kept_B]
  have e := outsAt0_A m c ⟨t.val - 1, by omega⟩ (by dsimp only; omega) (by dsimp only; omega) (by dsimp only; omega)
  dsimp only at e
  rw [e]
  dsimp only
  rw [kept_A]
  unfold k0_pay3 k0_pay2
  simp only [shapeCast_self]

/-- What each writing grid point writes back is the reference's result, read through the block. -/
theorem flushed_eq (c : Dev nD) (t : Fin cfg0.N) (hf : (cfg0.win 4).flush t = true) :
    (dats m 0 c).flushed 4 t = ((cfg0.win 4).blk t).view.read (Elt Ideal)
      (Cert.DxRefIdeal.Read.val_main_v8 (F := Ideal) (m ((c : Thread nD τ).loc main_arg0)) (m ((c : Thread nD τ).loc main_arg1)) (m ((c : Thread nD τ).loc main_arg2))) := by
  have h3 : t.val % 3 = 2 := (flush0_4 t).mp hf
  have hN : t.val < 48 := lt_of_lt_of_eq t.isLt (show cfg0.N = 48 from N_0)
  rw [Value.flushed4_C m c t (by omega) (by omega) h3, left_C]
  have e := carried m c ⟨t.val - 1, by omega⟩ (by dsimp only; omega)
  dsimp only at e
  rw [e]
  funext j
  rw [View.read_apply, reference_apply, thirds]
  obtain ⟨-, -, -, -, r2, s2⟩ := bands t
  obtain ⟨-, -, -, -, r1, s1⟩ := bands ⟨t.val - 1, by omega⟩
  obtain ⟨-, -, -, -, r0, s0⟩ := bands ⟨t.val - 1 - 1, by omega⟩
  dsimp only at r1 s1 r0 s0
  have j0 : (j 0).val < 1024 := (j 0).isLt
  have j1 : (j 1).val < 1024 := (j 1).isLt
  let r : Fin 4096 := ⟨((((cfg0.win 4).blk t).view.emb j) 0).val, ((((cfg0.win 4).blk t).view.emb j) 0).isLt⟩
  let s : Fin 4096 := ⟨((((cfg0.win 4).blk t).view.emb j) 1).val, ((((cfg0.win 4).blk t).view.emb j) 1).isLt⟩
  have hr : win0_4.index t 0 * 1024 + (j 0).val = r.val := by show _ = win0_4.index t 0 * 1024 + 1 * (j 0).val; omega
  have hs : win0_4.index t 1 * 1024 + (j 1).val = s.val := by show _ = win0_4.index t 1 * 1024 + 1 * (j 1).val; omega
  show (k0_pay1 (F := Ideal) (iblk m c 0 ⟨t.val - 1 - 1, by omega⟩) (iblk m c 1 ⟨t.val - 1 - 1, by omega⟩) j
      + k0_pay1 (F := Ideal) (iblk m c 0 ⟨t.val - 1, by omega⟩) (iblk m c 1 ⟨t.val - 1, by omega⟩) j
      + k0_pay1 (F := Ideal) (iblk m c 0 t) (iblk m c 1 t) j
      + (FloatOps.ofBits (F := Ideal) .f32 0x3FD744FD#32 : EReal) * iblk m c 2 t j : EReal) = (_ + _ + _ + _ : EReal)
  refine congrArg₂ (· + ·) (congrArg₂ (· + ·) (congrArg₂ (· + ·)
    (part m c ⟨t.val - 1 - 1, by omega⟩ j r s 0 (by omega) (by dsimp only; omega) ?_ ?_)
    (part m c ⟨t.val - 1, by omega⟩ j r s 1 (by omega) (by dsimp only; omega) ?_ ?_))
    (part m c t j r s 2 (by omega) h3 hr hs)) ?_
  · rw [← hr, r0, r2]; omega
  · rw [← hs, s0, s2]; omega
  · rw [← hr, r1, r2]; omega
  · rw [← hs, s1, s2]; omega
  · refine congrArg (_ * ·) ?_
    unfold iblk
    rw [View.read_apply]
    show V m c main_arg2 _ = m ((c : Thread nD τ).loc main_arg2) _
    rw [V_main_arg2]
    congr 1

/-- The result array ends at the reference's product. -/
theorem final (c : Dev nD) : (dats m 0 c).arrAt 4 cfg0.N
    = Cert.DxRefIdeal.Read.val_main_v8 (F := Ideal) (m ((c : Thread nD τ).loc main_arg0)) (m ((c : Thread nD τ).loc main_arg1)) (m ((c : Thread nD τ).loc main_arg2)) :=
  (dats m 0 c).arrAt_eq_of_cover 4 _ (flushed_eq m c) fun i => by
    have i0 : (i 0 : Nat) < 4096 := (i 0).isLt
    have i1 : (i 1 : Nat) < 4096 := (i 1).isLt
    obtain ⟨t, hf, hp, hq⟩ := reached ⟨(i 0 : Nat) / 1024, by omega⟩ ⟨(i 1 : Nat) / 1024, by omega⟩
    refine ⟨t, hf, ?_⟩
    show i ∈ ((View.whole main_v3).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [hp]; dsimp only; omega
    | ⟨1, _⟩ => show win0_4.index t 1 * 1024 ≤ (i 1 : Nat) ∧ (i 1 : Nat) < win0_4.index t 1 * 1024 + 1024
                rw [hq]; dsimp only; omega

end Cert.DxIdeal.Product

namespace Cert.Proof.Dx

/-- The two programs have one body table, read at the machine's floats. -/
theorem bodies : @Cert.Dx.defs₀ Bits _ _ = @Cert.DxIdeal.defs₀ Bits _ _ := by
  unfold Cert.Dx.defs₀ Cert.DxIdeal.defs₀
  refine congrArg Defs.onTc (funext fun l => ?_)
  match l with
  | 0 => rfl
theorem table : @Cert.Dx.defs Bits _ _ = @Cert.DxIdeal.defs Bits _ _ := congrArg (Pipeline.defs _) bodies

theorem frame_kernel : Cert.quiescent_Dx := fun m ρ _ => by
  rw [table]
  exact Cert.DxIdeal.Gen.frame (F := Bits) m ρ
theorem frame_ideal : Cert.quiescent_DxIdeal := fun m ρ _ => Cert.DxIdeal.Gen.frame m ρ
theorem frame_ref : Cert.quiescent_DxRefIdeal := fun m ρ _ =>
  (θ_run Cert.DxRefIdeal.defs _ _).mono
    (fun r h => ⟨fun c => (h c).2, Idealize.ShloMosaic.sem_eq_zero_of_no_sems (by decide) r.2⟩)
    (Cert.DxRefIdeal.Value.run (F := Ideal) m ρ)

theorem value : Cert.algebraic_DxIdeal_DxRefIdeal := fun m ρ m' ρ' _ hag =>
  ⟨fun c => Cert.DxRefIdeal.Read.val_main_v8 (F := Ideal) (m ((c.tc : Thread _ _).loc Cert.DxIdeal.main_arg0)) (m ((c.tc : Thread _ _).loc Cert.DxIdeal.main_arg1)) (m ((c.tc : Thread _ _).loc Cert.DxIdeal.main_arg2)),
    (θ_run Cert.DxIdeal.defs _ _).mono
      (fun _ h c => ⟨(h c).1.trans (Cert.DxIdeal.Product.final m c), (h c).2⟩)
      (Cert.DxIdeal.Value.run_blocks m ρ),
    (θ_run Cert.DxRefIdeal.defs _ _).mono
      (fun _ h c => ⟨(h c).1.trans ((Cert.DxRefIdeal.Read.val_main_v8_eq _ _ _).trans (by rw [(hag c).1, (hag c).2.1, (hag c).2.2])), (h c).2⟩)
      (Cert.DxRefIdeal.Value.run m' ρ')⟩

end Cert.Proof.Dx

end
-- ==== Proof.In.lean ====
/-
  The input projection: `h = x · w_in`.

  The host converts both operands and transposes the weight; each grid point multiplies one band of 1024 rows of `x` by
  one band of 512 rows of the transposed weight, contracting over all 4096 columns. Over the extended reals this is, at
  `(r, s)`, the sum over `k` of `x (r, k) * w (k, s)`, which is the reference's `einsum`.
-/
module

public import proofs.«01_k».proof.Defs
public import proofs.«01_k».proof.Proof.Common
public import proofs.«01_k».proof.Proof.Gen.In
public import proofs.«01_k».proof.Proof.Gen.InIdeal.Value
public import proofs.«01_k».proof.Proof.Gen.InRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.InIdeal.Product

open Cert.InIdeal Cert.InIdeal.Gen Cert.Proof

section
variable {F : FTy → Type} [FloatOps F]

/-- What the body leaves in the output's staging buffer. -/
theorem left_A (c : Dev nD) (i : grid0.Coords) (arg3 : Memref sig .tc .vmem S1024x4096 .bf16) (harg3 : arg3.IsWhole) (arg4 : Memref sig .tc .vmem S512x4096 .bf16) (harg4 : arg4.IsWhole) (arg5 : Memref sig .tc .vmem S8x128 .f32) (harg5 : arg5.IsWhole) (arg6 : Memref sig .tc .vmem S1024x512 .f32) (harg6 : arg6.IsWhole) (arg7 : Memref sig .tc .vmem S8x128 .f32) (harg7 : arg7.IsWhole)
    (x0 : Vec F S1024x4096 .bf16) (x1 : Vec F S512x4096 .bf16) (x2 : Vec F S8x128 .f32) :
    out0_A_3 c i arg3 harg3 arg4 harg4 arg5 harg5 arg6 harg6 arg7 harg7 x0 x1 x2 = k0_pay1 x0 x1 := by
  unfold out0_A_3
  rw [View.read_writes_eq_canon _ _ _ (cover0_A_3 c i arg3 harg3 arg4 harg4 arg5 harg5 arg6 harg6 arg7 harg7 x0 x1 x2)]
  unfold kernelRun0_A
  dsimp only
  rw [View.canon_unit_zero zeros2]
  simp only [View.readAt_eq_ld, harg3.read_unread, harg4.read_unread, harg5.read_unread, harg6.read_unread, harg7.read_unread, View.ld_unit_zero (S := S1024x4096) zeros2, View.ld_unit_zero (S := S512x4096) zeros2]
end

/-- The payload at an index. -/
theorem tile_apply (x0 : Vec Ideal S1024x4096 .bf16) (x1 : Vec Ideal S512x4096 .bf16) (j : S1024x512.Idx) :
    k0_pay1 (F := Ideal) x0 x1 j
      = (∑ k : Fin 4096, x0 (fun a => match a with | ⟨0, _⟩ => ⟨(j 0).val, (j 0).isLt⟩ | ⟨1, _⟩ => ⟨k.val, k.isLt⟩)
          * x1 (fun a => match a with | ⟨0, _⟩ => ⟨(j 1).val, (j 1).isLt⟩ | ⟨1, _⟩ => ⟨k.val, k.isLt⟩)) := by
  unfold k0_pay1
  dsimp only
  simp only [shapeCast_self]
  refine product_sum dot_S1024x4096_S512x4096_S1024x512_1_1_0_0_n_n 4096 rfl rfl _ _ _ _ _ (fun q k h a => ?_) (fun q k h a => ?_)
  · match a with
    | ⟨0, _⟩ => exact lhs_free dot_S1024x4096_S512x4096_S1024x512_1_1_0_0_n_n 0 rfl rfl (by decide) j q
    | ⟨1, _⟩ => exact (DotDims.lhsIdx_val_of_single _ rfl j q).trans h
  · match a with
    | ⟨0, _⟩ => exact rhs_free dot_S1024x4096_S512x4096_S1024x512_1_1_0_0_n_n 0 rfl rfl rfl rfl (by decide) j q
    | ⟨1, _⟩ => exact (DotDims.rhsIdx_val_of_single _ rfl j q).trans h

variable (m : (ℓ : Loc nD τ sig) → Buf (Elt Ideal) ℓ) (ρ : Dev nD → PrngReg)

/-- The converted rows the region finds are the argument's. -/
theorem rows (c : Dev nD) (i : S4096x4096.Idx) :
    V m c main_v2 i = m ((c : Thread nD τ).loc main_arg0) i := by
  have h : V m c main_v2 = (truncf .bf16 (m ((c : Thread nD τ).loc main_arg0) : FVec Ideal S4096x4096 .f32) bitsLt_bf16_f32 : FVec Ideal S4096x4096 .bf16) := by
    unfold V
    after_results
  rw [h]
  rfl

/-- The transposed and converted weight the region finds is the weight, read the other way round. -/
theorem weight (c : Dev nD) (i : S10752x4096.Idx) :
    V m c main_v1 i = m ((c : Thread nD τ).loc main_arg1) (fun a => match a with | ⟨0, _⟩ => ⟨(i 1).val, (i 1).isLt⟩ | ⟨1, _⟩ => ⟨(i 0).val, (i 0).isLt⟩) := by
  have h : V m c main_v1 = (truncf .bf16 (transpose S10752x4096 [1, 0] (m ((c : Thread nD τ).loc main_arg1) : FVec Ideal S4096x10752 .f32) transposes_S4096x10752_S10752x4096_1_0) bitsLt_bf16_f32 : FVec Ideal S10752x4096 .bf16) := by
    unfold V
    after_results
  rw [h]
  show transpose S10752x4096 [1, 0] (m ((c : Thread nD τ).loc main_arg1) : FVec Ideal S4096x10752 .f32) transposes_S4096x10752_S10752x4096_1_0 i = _
  refine transpose_apply [1, 0] _ transposes_S4096x10752_S10752x4096_1_0 i _ (fun a => ?_)
  match a with
  | ⟨0, _⟩ => rfl
  | ⟨1, _⟩ => rfl

/-- The rows and columns each grid point reads, against the block it writes. -/
theorem bands : ∀ t : Fin cfg0.N, win0_0.index t 0 = win0_3.index t 0 ∧ win0_0.index t 1 = 0 ∧ win0_1.index t 0 = win0_3.index t 1 ∧ win0_1.index t 1 = 0 :=
  (by decide +kernel : ∀ t : Fin grid0.N, win0_0.index t 0 = win0_3.index t 0 ∧ win0_0.index t 1 = 0 ∧ win0_1.index t 0 = win0_3.index t 1 ∧ win0_1.index t 1 = 0)

/-- Every block of the result is some grid point's. -/
theorem reached : ∀ (p : Fin 4) (q : Fin 21), ∃ t : Fin cfg0.N, (cfg0.win 3).flush t = true ∧ win0_3.index t 0 = p.val ∧ win0_3.index t 1 = q.val :=
  (by decide +kernel : ∀ (p : Fin 4) (q : Fin 21), ∃ t : Fin grid0.N, (cfg0.win 3).flush t = true ∧ win0_3.index t 0 = p.val ∧ win0_3.index t 1 = q.val)

/-- The reference's result at an index. -/
theorem reference_apply (x0 : Vec Ideal Cert.InRefIdeal.S4096x4096 .f32) (x1 : Vec Ideal Cert.InRefIdeal.S4096x10752 .f32) (i : Cert.InRefIdeal.S4096x10752.Idx) :
    Cert.InRefIdeal.Read.val_main_v0 (F := Ideal) x0 x1 i
      = ∑ k : Fin 4096, x0 (fun a => match a with | ⟨0, _⟩ => ⟨(i 0).val, (i 0).isLt⟩ | ⟨1, _⟩ => ⟨k.val, k.isLt⟩) * x1 (fun a => match a with | ⟨0, _⟩ => ⟨k.val, k.isLt⟩ | ⟨1, _⟩ => ⟨(i 1).val, (i 1).isLt⟩) := by
  exact Cert.InRefIdeal.Read.val_main_v0_apply x0 x1 i

/-- What each grid point writes back is the reference's product, read through the block. -/
theorem flushed_eq (c : Dev nD) (t : Fin cfg0.N) (hf : (cfg0.win 3).flush t = true) :
    (dats m 0 c).flushed 3 t = ((cfg0.win 3).blk t).view.read (Elt Ideal)
      (Cert.InRefIdeal.Read.val_main_v0 (F := Ideal) (m ((c : Thread nD τ).loc main_arg0)) (m ((c : Thread nD τ).loc main_arg1))) := by
  rw [Value.flushed3_A, left_A]
  funext j
  rw [View.read_apply, reference_apply]
  refine (tile_apply (iblk m c 0 t) (iblk m c 1 t) j).trans ?_
  obtain ⟨h0, h0', h1, h1'⟩ := bands t
  refine Finset.sum_congr rfl fun k _ => ?_
  congr 1
  · unfold iblk
    rw [View.read_apply]
    show V m c main_v2 _ = m ((c : Thread nD τ).loc main_arg0) _
    rw [rows]
    congr 1
    funext a
    apply Fin.ext
    match a with
    | ⟨0, _⟩ => show win0_0.index t 0 * 1024 + 1 * (j 0).val = win0_3.index t 0 * 1024 + 1 * (j 0).val; rw [h0]
    | ⟨1, _⟩ => show win0_0.index t 1 * 4096 + 1 * k.val = k.val; rw [h0']; omega
  · unfold iblk
    rw [View.read_apply]
    show V m c main_v1 _ = m ((c : Thread nD τ).loc main_arg1) _
    rw [weight]
    congr 1
    funext a
    apply Fin.ext
    match a with
    | ⟨0, _⟩ => show win0_1.index t 1 * 4096 + 1 * k.val = k.val; rw [h1']; omega
    | ⟨1, _⟩ => show win0_1.index t 0 * 512 + 1 * (j 1).val = win0_3.index t 1 * 512 + 1 * (j 1).val; rw [h1]

/-- The result array ends at the reference's product. -/
theorem final (c : Dev nD) : (dats m 0 c).arrAt 3 cfg0.N
    = Cert.InRefIdeal.Read.val_main_v0 (F := Ideal) (m ((c : Thread nD τ).loc main_arg0)) (m ((c : Thread nD τ).loc main_arg1)) :=
  (dats m 0 c).arrAt_eq_of_cover 3 _ (flushed_eq m c) fun i => by
    have i0 : (i 0 : Nat) < 4096 := (i 0).isLt
    have i1 : (i 1 : Nat) < 10752 := (i 1).isLt
    obtain ⟨t, hf, hp, hq⟩ := reached ⟨(i 0 : Nat) / 1024, by omega⟩ ⟨(i 1 : Nat) / 512, by omega⟩
    refine ⟨t, hf, ?_⟩
    show i ∈ ((View.whole main_v4).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [hp]; dsimp only; omega
    | ⟨1, _⟩ => show win0_3.index t 1 * 512 ≤ (i 1 : Nat) ∧ (i 1 : Nat) < win0_3.index t 1 * 512 + 512
                rw [hq]; dsimp only; omega

end Cert.InIdeal.Product

namespace Cert.Proof.In

/-- The two programs have one body table, read at the machine's floats. -/
theorem bodies : @Cert.In.defs₀ Bits _ _ = @Cert.InIdeal.defs₀ Bits _ _ := by
  unfold Cert.In.defs₀ Cert.InIdeal.defs₀
  refine congrArg Defs.onTc (funext fun l => ?_)
  match l with
  | 0 => rfl
theorem table : @Cert.In.defs Bits _ _ = @Cert.InIdeal.defs Bits _ _ := congrArg (Pipeline.defs _) bodies

theorem frame_kernel : Cert.quiescent_In := fun m ρ _ => by
  rw [table]
  exact Cert.InIdeal.Gen.frame (F := Bits) m ρ
theorem frame_ideal : Cert.quiescent_InIdeal := fun m ρ _ => Cert.InIdeal.Gen.frame m ρ
theorem frame_ref : Cert.quiescent_InRefIdeal := fun m ρ _ =>
  (θ_run Cert.InRefIdeal.defs _ _).mono
    (fun r h => ⟨fun c => (h c).2, Idealize.ShloMosaic.sem_eq_zero_of_no_sems (by decide) r.2⟩)
    (Cert.InRefIdeal.Value.run (F := Ideal) m ρ)

theorem value : Cert.algebraic_InIdeal_InRefIdeal := fun m ρ m' ρ' _ hag =>
  ⟨fun c => Cert.InRefIdeal.Read.val_main_v0 (F := Ideal) (m ((c.tc : Thread _ _).loc Cert.InIdeal.main_arg0)) (m ((c.tc : Thread _ _).loc Cert.InIdeal.main_arg1)),
    (θ_run Cert.InIdeal.defs _ _).mono
      (fun _ h c => ⟨(h c).1.trans (Cert.InIdeal.Product.final m c), (h c).2⟩)
      (Cert.InIdeal.Value.run_blocks m ρ),
    (θ_run Cert.InRefIdeal.defs _ _).mono
      (fun _ h c => ⟨(h c).1.trans ((Cert.InRefIdeal.Read.val_main_v0_eq _ _).trans (by rw [(hag c).1, (hag c).2])), (h c).2⟩)
      (Cert.InRefIdeal.Value.run m' ρ')⟩

end Cert.Proof.In

end
-- ==== Proof.Out.lean ====
/-
  The output projection and the residual: `y = α · x + mix · w_out`.

  Each grid point multiplies one band of 1024 rows of `mix` by one band of 1024 columns of the converted weight,
  contracting over all 4096 columns, and adds `α` times the block of `x`. Over the extended reals this is the
  reference's `einsum` and sum, with the two terms in the other order.
-/
module

public import proofs.«01_k».proof.Defs
public import proofs.«01_k».proof.Proof.Common
public import proofs.«01_k».proof.Proof.Gen.Out
public import proofs.«01_k».proof.Proof.Gen.OutIdeal.Value
public import proofs.«01_k».proof.Proof.Gen.OutRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.OutIdeal.Product

open Cert.OutIdeal Cert.OutIdeal.Gen Cert.Proof

section
variable {F : FTy → Type} [FloatOps F]

/-- What the body leaves in the output's staging buffer. -/
theorem left_A (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128 .f32) (harg7 : arg7.IsWhole)
    (x0 : Vec F S1024x4096 .bf16) (x1 : Vec F S4096x1024 .bf16) (x2 : Vec F S1024x1024 .f32) :
    out0_A_3 c i arg3 harg3 arg4 harg4 arg5 harg5 arg6 harg6 arg7 harg7 x0 x1 x2 = k0_pay1 x0 x1 x2 := by
  unfold out0_A_3
  rw [View.read_writes_eq_canon _ _ _ (cover0_A_3 c i arg3 harg3 arg4 harg4 arg5 harg5 arg6 harg6 arg7 harg7 x0 x1 x2)]
  unfold kernelRun0_A
  dsimp only
  rw [View.canon_unit_zero zeros2]
  simp only [View.readAt_eq_ld, harg3.read_unread, harg4.read_unread, harg5.read_unread, harg6.read_unread, harg7.read_unread, View.ld_unit_zero (S := S1024x4096) zeros2, View.ld_unit_zero (S := S4096x1024) zeros2, View.ld_unit_zero (S := S1024x1024) zeros2]
end

/-- The payload at an index. -/
theorem tile_apply (x0 : Vec Ideal S1024x4096 .bf16) (x1 : Vec Ideal S4096x1024 .bf16) (x2 : Vec Ideal S1024x1024 .f32) (j : S1024x1024.Idx) :
    k0_pay1 (F := Ideal) x0 x1 x2 j
      = (∑ k : Fin 4096, x0 (fun a => match a with | ⟨0, _⟩ => ⟨(j 0).val, (j 0).isLt⟩ | ⟨1, _⟩ => ⟨k.val, k.isLt⟩)
          * x1 (fun a => match a with | ⟨0, _⟩ => ⟨k.val, k.isLt⟩ | ⟨1, _⟩ => ⟨(j 1).val, (j 1).isLt⟩)) + (FloatOps.ofBits (F := Ideal) .f32 0x3FD744FD#32 : EReal) * x2 j := by
  unfold k0_pay1
  dsimp only
  simp only [shapeCast_self]
  refine congrArg₂ (· + ·) ?_ rfl
  refine product_sum dot_S1024x4096_S4096x1024_S1024x1024_1_0_0_1_n_n 4096 rfl rfl _ _ _ _ _ (fun q k h a => ?_) (fun q k h a => ?_)
  · match a with
    | ⟨0, _⟩ => exact lhs_free dot_S1024x4096_S4096x1024_S1024x1024_1_0_0_1_n_n 0 rfl rfl (by decide) j q
    | ⟨1, _⟩ => exact (DotDims.lhsIdx_val_of_single _ rfl j q).trans h
  · match a with
    | ⟨0, _⟩ => exact (DotDims.rhsIdx_val_of_single _ rfl j q).trans h
    | ⟨1, _⟩ => exact rhs_free dot_S1024x4096_S4096x1024_S1024x1024_1_0_0_1_n_n 1 rfl rfl rfl rfl (by decide) j q

variable (m : (ℓ : Loc nD τ sig) → Buf (Elt Ideal) ℓ) (ρ : Dev nD → PrngReg)

/-- The converted weight the region finds is the weight. -/
theorem weight (c : Dev nD) (i : S4096x4096.Idx) :
    V m c main_v0 i = m ((c : Thread nD τ).loc main_arg1) i := by
  have h : V m c main_v0 = (truncf .bf16 (m ((c : Thread nD τ).loc main_arg1) : FVec Ideal S4096x4096 .f32) bitsLt_bf16_f32 : FVec Ideal S4096x4096 .bf16) := by
    unfold V
    after_results
  rw [h]
  rfl

/-- The rows and columns each grid point reads, against the block it writes. -/
theorem bands : ∀ t : Fin cfg0.N, win0_0.index t 0 = win0_3.index t 0 ∧ win0_0.index t 1 = 0 ∧ win0_1.index t 1 = win0_3.index t 1 ∧ win0_1.index t 0 = 0 ∧ win0_2.index t 0 = win0_3.index t 0 ∧ win0_2.index t 1 = win0_3.index t 1 :=
  (by decide +kernel : ∀ t : Fin grid0.N, win0_0.index t 0 = win0_3.index t 0 ∧ win0_0.index t 1 = 0 ∧ win0_1.index t 1 = win0_3.index t 1 ∧ win0_1.index t 0 = 0 ∧ win0_2.index t 0 = win0_3.index t 0 ∧ win0_2.index t 1 = win0_3.index t 1)

/-- Every block of the result is some grid point's. -/
theorem reached : ∀ (p : Fin 4) (q : Fin 4), ∃ t : Fin cfg0.N, (cfg0.win 3).flush t = true ∧ win0_3.index t 0 = p.val ∧ win0_3.index t 1 = q.val :=
  (by decide +kernel : ∀ (p : Fin 4) (q : Fin 4), ∃ t : Fin grid0.N, (cfg0.win 3).flush t = true ∧ win0_3.index t 0 = p.val ∧ win0_3.index t 1 = q.val)

/-- The reference's result at an index. -/
theorem reference_apply (x0 : Vec Ideal Cert.OutRefIdeal.S4096x4096 .bf16) (x1 : Vec Ideal Cert.OutRefIdeal.S4096x4096 .f32) (x2 : Vec Ideal Cert.OutRefIdeal.S4096x4096 .f32) (i : Cert.OutRefIdeal.S4096x4096.Idx) :
    Cert.OutRefIdeal.Read.val_main_v4 (F := Ideal) x0 x1 x2 i
      = (∑ k : Fin 4096, x0 (fun a => match a with | ⟨0, _⟩ => ⟨(i 0).val, (i 0).isLt⟩ | ⟨1, _⟩ => ⟨k.val, k.isLt⟩) * x1 (fun a => match a with | ⟨0, _⟩ => ⟨k.val, k.isLt⟩ | ⟨1, _⟩ => ⟨(i 1).val, (i 1).isLt⟩)) + (FloatOps.ofBits (F := Ideal) .f32 0x3FD744FD#32 : EReal) * x2 i := by
  rw [Cert.OutRefIdeal.Read.val_main_v4_apply]
  refine (add_comm _ _).trans (congrArg₂ (· + ·) (Cert.OutRefIdeal.Read.val_main_v3_apply x0 x1 i) ?_)
  rw [Cert.OutRefIdeal.Read.val_main_v1_apply, Cert.OutRefIdeal.Read.val_main_v0_apply]
  rfl

/-- What each grid point writes back is the reference's product, read through the block. -/
theorem flushed_eq (c : Dev nD) (t : Fin cfg0.N) (hf : (cfg0.win 3).flush t = true) :
    (dats m 0 c).flushed 3 t = ((cfg0.win 3).blk t).view.read (Elt Ideal)
      (Cert.OutRefIdeal.Read.val_main_v4 (F := Ideal) (m ((c : Thread nD τ).loc main_arg0)) (m ((c : Thread nD τ).loc main_arg1)) (m ((c : Thread nD τ).loc main_arg2))) := by
  rw [Value.flushed3_A, left_A]
  funext j
  rw [View.read_apply, reference_apply]
  refine (tile_apply (iblk m c 0 t) (iblk m c 1 t) (iblk m c 2 t) j).trans ?_
  obtain ⟨h0, h0', h1, h1', h2, h2'⟩ := bands t
  refine congrArg₂ (· + ·) ?_ ?_
  · refine Finset.sum_congr rfl fun k _ => ?_
    congr 1
    · unfold iblk
      rw [View.read_apply]
      show V m c main_arg0 _ = m ((c : Thread nD τ).loc main_arg0) _
      rw [V_main_arg0]
      congr 1
      funext a
      apply Fin.ext
      match a with
      | ⟨0, _⟩ => show win0_0.index t 0 * 1024 + 1 * (j 0).val = win0_3.index t 0 * 1024 + 1 * (j 0).val; rw [h0]
      | ⟨1, _⟩ => show win0_0.index t 1 * 4096 + 1 * k.val = k.val; rw [h0']; omega
    · unfold iblk
      rw [View.read_apply]
      show V m c main_v0 _ = m ((c : Thread nD τ).loc main_arg1) _
      rw [weight]
      congr 1
      funext a
      apply Fin.ext
      match a with
      | ⟨0, _⟩ => show win0_1.index t 0 * 4096 + 1 * k.val = k.val; rw [h1']; omega
      | ⟨1, _⟩ => show win0_1.index t 1 * 1024 + 1 * (j 1).val = win0_3.index t 1 * 1024 + 1 * (j 1).val; rw [h1]
  · refine congrArg (_ * ·) ?_
    unfold iblk
    rw [View.read_apply]
    show V m c main_arg2 _ = m ((c : Thread nD τ).loc main_arg2) _
    rw [V_main_arg2]
    congr 1

/-- The result array ends at the reference's product. -/
theorem final (c : Dev nD) : (dats m 0 c).arrAt 3 cfg0.N
    = Cert.OutRefIdeal.Read.val_main_v4 (F := Ideal) (m ((c : Thread nD τ).loc main_arg0)) (m ((c : Thread nD τ).loc main_arg1)) (m ((c : Thread nD τ).loc main_arg2)) :=
  (dats m 0 c).arrAt_eq_of_cover 3 _ (flushed_eq m c) fun i => by
    have i0 : (i 0 : Nat) < 4096 := (i 0).isLt
    have i1 : (i 1 : Nat) < 4096 := (i 1).isLt
    obtain ⟨t, hf, hp, hq⟩ := reached ⟨(i 0 : Nat) / 1024, by omega⟩ ⟨(i 1 : Nat) / 1024, by omega⟩
    refine ⟨t, hf, ?_⟩
    show i ∈ ((View.whole main_v1).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [hp]; dsimp only; omega
    | ⟨1, _⟩ => show win0_3.index t 1 * 1024 ≤ (i 1 : Nat) ∧ (i 1 : Nat) < win0_3.index t 1 * 1024 + 1024
                rw [hq]; dsimp only; omega

end Cert.OutIdeal.Product

namespace Cert.Proof.Out

/-- The two programs have one body table, read at the machine's floats. -/
theorem bodies : @Cert.Out.defs₀ Bits _ _ = @Cert.OutIdeal.defs₀ Bits _ _ := by
  unfold Cert.Out.defs₀ Cert.OutIdeal.defs₀
  refine congrArg Defs.onTc (funext fun l => ?_)
  match l with
  | 0 => rfl
theorem table : @Cert.Out.defs Bits _ _ = @Cert.OutIdeal.defs Bits _ _ := congrArg (Pipeline.defs _) bodies

theorem frame_kernel : Cert.quiescent_Out := fun m ρ _ => by
  rw [table]
  exact Cert.OutIdeal.Gen.frame (F := Bits) m ρ
theorem frame_ideal : Cert.quiescent_OutIdeal := fun m ρ _ => Cert.OutIdeal.Gen.frame m ρ
theorem frame_ref : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

theorem value : Cert.algebraic_OutIdeal_OutRefIdeal := fun m ρ m' ρ' _ hag =>
  ⟨fun c => Cert.OutRefIdeal.Read.val_main_v4 (F := Ideal) (m ((c.tc : Thread _ _).loc Cert.OutIdeal.main_arg0)) (m ((c.tc : Thread _ _).loc Cert.OutIdeal.main_arg1)) (m ((c.tc : Thread _ _).loc Cert.OutIdeal.main_arg2)),
    (θ_run Cert.OutIdeal.defs _ _).mono
      (fun _ h c => ⟨(h c).1.trans (Cert.OutIdeal.Product.final m c), (h c).2⟩)
      (Cert.OutIdeal.Value.run_blocks m ρ),
    (θ_run Cert.OutRefIdeal.defs _ _).mono
      (fun _ h c => ⟨(h c).1.trans ((Cert.OutRefIdeal.Read.val_main_v4_eq _ _ _).trans (by rw [(hag c).1, (hag c).2.1, (hag c).2.2])), (h c).2⟩)
      (Cert.OutRefIdeal.Value.run m' ρ')⟩

end Cert.Proof.Out

end
-- ==== Proof.Norm.lean ====
/-
  A layer norm of one row of 4096 numbers over the extended reals, and the vector operations by which a block of 256 rows
  computes it, each read at an index.
-/
module

public import proofs.«01_k».proof.Proof.Common

@[expose] public section

noncomputable section

open Idealize.ShloMosaic Idealize.SL.Sem

namespace Cert.Proof

/-- The index `(r, k)` of an array of two axes. -/
abbrev pair {n l : ℕ} (r : Fin n) (k : Fin l) : (⟨2, ![n, l]⟩ : Shape).Idx := fun a => match a with
  | ⟨0, _⟩ => ⟨r.val, r.isLt⟩
  | ⟨1, _⟩ => ⟨k.val, k.isLt⟩

/-- The index `k` of an array of one axis. -/
abbrev single {l : ℕ} (k : Fin l) : (⟨1, ![l]⟩ : Shape).Idx := fun a => match a with
  | ⟨0, _⟩ => ⟨k.val, k.isLt⟩

theorem pair_eta {n l : ℕ} (j : (⟨2, ![n, l]⟩ : Shape).Idx) : pair (j 0) (j 1) = j :=
  funext fun a => Fin.ext (by match a with | ⟨0, _⟩ => rfl | ⟨1, _⟩ => rfl)

/-- The row length, as the programs write it. -/
def width : EReal := Ideal.ofBits .f32 0x45800000#32

def mean (x : Fin 4096 → EReal) : EReal := FloatOps.divf (F := Ideal) (φ := .f32) (∑ k, x k) width

def centred (x : Fin 4096 → EReal) (k : Fin 4096) : EReal := x k - mean x

/-- The reciprocal of the standard deviation. -/
def scale (x : Fin 4096 → EReal) : EReal :=
  FloatOps.rsqrt (F := Ideal) (φ := .f32) (FloatOps.divf (F := Ideal) (φ := .f32) (∑ k, centred x k * centred x k) width + Ideal.ofBits .f32 0x3727C5AC#32)

def normed (x : Fin 4096 → EReal) (k : Fin 4096) : EReal := centred x k * scale x

/-- The layer norm with gain `g` and offset `b`. -/
def layer (x g b : Fin 4096 → EReal) (k : Fin 4096) : EReal := normed x k * g k + b k

/-- The sums of a block's rows, kept as a column. -/
theorem row_sums {n l : ℕ} (X : FVec Ideal ⟨2, ![n, l]⟩ .f32) (h : (⟨2, ![n, l]⟩ : Shape).Reduces [1] ⟨1, ![n]⟩) (hf : FKind.Formats .f32)
    (ha : (0x00000000#32 : BitVec 32) = FKind.add.neutral .f32 hf) (hc : (⟨1, ![n]⟩ : Shape).ShapeCasts ⟨2, ![n, 1]⟩) (i : (⟨2, ![n, 1]⟩ : Shape).Idx) :
    shapeCast ⟨2, ![n, 1]⟩ (multiReduction .add [1] ⟨1, ![n]⟩ X 0x00000000#32 h hf ha) hc i = ∑ k : Fin l, X (pair (i 0) k) := by
  rw [shapeCast_apply _ hc i (fun a => match a with | ⟨0, _⟩ => ⟨(i 0).val, (i 0).isLt⟩) (by
    have h1 : (i 1).val = 0 := by have : (i 1).val < 1 := (i 1).isLt; omega
    rw [Shape.rowMajor_val_one, Shape.rowMajor_val_two, h1]
    simp
    rfl)]
  rw [Ideal.multiReduction_add_single]
  refine Finset.sum_congr rfl fun k _ => congrArg X (funext fun a => Fin.ext ?_)
  match a with
  | ⟨0, _⟩ => rfl
  | ⟨1, _⟩ => rfl

/-- The sums of a block's columns, kept as a row. -/
theorem col_sums {n l : ℕ} (X : FVec Ideal ⟨2, ![n, l]⟩ .f32) (h : (⟨2, ![n, l]⟩ : Shape).Reduces [0] ⟨1, ![l]⟩) (hf : FKind.Formats .f32)
    (ha : (0x00000000#32 : BitVec 32) = FKind.add.neutral .f32 hf) (hc : (⟨1, ![l]⟩ : Shape).ShapeCasts ⟨2, ![1, l]⟩) (i : (⟨2, ![1, l]⟩ : Shape).Idx) :
    shapeCast ⟨2, ![1, l]⟩ (multiReduction .add [0] ⟨1, ![l]⟩ X 0x00000000#32 h hf ha) hc i = ∑ r : Fin n, X (pair r (i 1)) := by
  rw [shapeCast_apply _ hc i (fun a => match a with | ⟨0, _⟩ => ⟨(i 1).val, (i 1).isLt⟩) (by
    have h1 : (i 0).val = 0 := by have : (i 0).val < 1 := (i 0).isLt; omega
    rw [Shape.rowMajor_val_one, Shape.rowMajor_val_two, h1]
    simp
    rfl)]
  rw [Ideal.multiReduction_add_single]
  refine Finset.sum_congr rfl fun k _ => congrArg X (funext fun a => Fin.ext ?_)
  match a with
  | ⟨0, _⟩ => rfl
  | ⟨1, _⟩ => rfl

/-- An array of one axis is indexed by that axis. -/
def singles {l : ℕ} : (⟨1, ![l]⟩ : Shape).Idx ≃ Fin l where
  toFun j := j 0
  invFun := single
  left_inv j := funext fun a => Fin.ext (by match a with | ⟨0, _⟩ => rfl)
  right_inv k := rfl

/-- Sixteen bands of 256 rows are all the rows. -/
theorem all_rows (f : ℕ → EReal) : ∑ t : Fin 16, ∑ r : Fin 256, f (t.val * 256 + r.val) = ∑ R : Fin 4096, f R.val := by
  rw [← Fintype.sum_prod_type', ← Equiv.sum_comp (finProdFinEquiv (m := 16) (n := 256)) (fun R : Fin (16 * 256) => f R.val)]
  refine Finset.sum_congr rfl fun p _ => congrArg f ?_
  show p.1.val * 256 + p.2.val = p.2.val + 256 * p.1.val
  omega

/-- A column spread over the columns. -/
theorem spread_column {n l : ℕ} {α : Type} (hn : n ≠ 1) (v : (⟨2, ![n, 1]⟩ : Shape).Idx → α) (h : (⟨2, ![n, 1]⟩ : Shape).Broadcasts ⟨2, ![n, l]⟩)
    (j : (⟨2, ![n, l]⟩ : Shape).Idx) : broadcastTo ⟨2, ![n, l]⟩ v h j = v (pair (j 0) 0) := by
  refine broadcastTo_apply v h j _ fun a => ?_
  match a with
  | ⟨0, _⟩ => exact (if_neg hn).symm
  | ⟨1, _⟩ => exact (if_pos rfl).symm

/-- A row spread over the rows. -/
theorem spread_row {n l : ℕ} {α : Type} (hl : l ≠ 1) (v : (⟨2, ![1, l]⟩ : Shape).Idx → α) (h : (⟨2, ![1, l]⟩ : Shape).Broadcasts ⟨2, ![n, l]⟩)
    (j : (⟨2, ![n, l]⟩ : Shape).Idx) : broadcastTo ⟨2, ![n, l]⟩ v h j = v (pair 0 (j 1)) := by
  refine broadcastTo_apply v h j _ fun a => ?_
  match a with
  | ⟨0, _⟩ => exact (if_pos rfl).symm
  | ⟨1, _⟩ => exact (if_neg hl).symm

/-- A row of a block. -/
abbrev row {n l : ℕ} (X : (⟨2, ![n, l]⟩ : Shape).Idx → EReal) (r : Fin n) (k : Fin l) : EReal := X (pair r k)

section
variable (X : FVec Ideal ⟨2, ![256, 4096]⟩ .f32) (h : (⟨2, ![256, 4096]⟩ : Shape).Reduces [1] ⟨1, ![256]⟩) (hf : FKind.Formats .f32)
    (ha : (0x00000000#32 : BitVec 32) = FKind.add.neutral .f32 hf) (hc : (⟨1, ![256]⟩ : Shape).ShapeCasts ⟨2, ![256, 1]⟩)
    (hb : (⟨2, ![256, 1]⟩ : Shape).Broadcasts ⟨2, ![256, 4096]⟩)

/-- A block less its rows' means. -/
theorem block_centred (j : (⟨2, ![256, 4096]⟩ : Shape).Idx) :
    subf X (broadcastTo ⟨2, ![256, 4096]⟩ (divf (shapeCast ⟨2, ![256, 1]⟩ (multiReduction .add [1] ⟨1, ![256]⟩ X 0x00000000#32 h hf ha) hc)
      (broadcast ⟨2, ![256, 1]⟩ (Scalar.ofBits (F := Ideal) .f32 0x45800000#32))) hb) j = centred (row X (j 0)) (j 1) := by
  show X j - broadcastTo ⟨2, ![256, 4096]⟩ _ hb j = _
  rw [spread_column (by decide)]
  show X j - FloatOps.divf (F := Ideal) (φ := .f32) (shapeCast ⟨2, ![256, 1]⟩ _ hc (pair (j 0) 0)) width = _
  rw [row_sums]
  exact congrArg (fun y => X y - mean (row X (j 0))) (pair_eta j).symm

/-- The reciprocals of the rows' standard deviations, from the centred block. -/
theorem block_scale (x : Fin 4096 → EReal) (i : (⟨2, ![256, 1]⟩ : Shape).Idx) (hX : ∀ k, X (pair (i 0) k) = centred x k) :
    rsqrt (addf (divf (shapeCast ⟨2, ![256, 1]⟩ (multiReduction .add [1] ⟨1, ![256]⟩ (mulf X X) 0x00000000#32 h hf ha) hc)
      (broadcast ⟨2, ![256, 1]⟩ (Scalar.ofBits (F := Ideal) .f32 0x45800000#32))) (broadcast ⟨2, ![256, 1]⟩ (Scalar.ofBits (F := Ideal) .f32 0x3727C5AC#32))) i = scale x := by
  show FloatOps.rsqrt (F := Ideal) (φ := .f32) (FloatOps.divf (F := Ideal) (φ := .f32) (shapeCast ⟨2, ![256, 1]⟩ _ hc i) width + Ideal.ofBits .f32 0x3727C5AC#32) = _
  rw [row_sums]
  show FloatOps.rsqrt (F := Ideal) (φ := .f32) (FloatOps.divf (F := Ideal) (φ := .f32) (∑ k : Fin 4096, X (pair (i 0) k) * X (pair (i 0) k)) width + Ideal.ofBits .f32 0x3727C5AC#32) = _
  simp only [hX]
  rfl
end

end Cert.Proof

end
-- ==== Proof.LnFwd.lean ====
/-
  The forward layer norm: each grid point norms 256 rows and stores them twice, the second time for the product that follows.
-/
module

public import proofs.«01_k».proof.Defs
public import proofs.«01_k».proof.Proof.Norm
public import proofs.«01_k».proof.Proof.Gen.LnFwd
public import proofs.«01_k».proof.Proof.Gen.LnFwdIdeal.Value
public import proofs.«01_k».proof.Proof.Gen.LnFwdRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.LnFwdIdeal.Rows

open Cert.LnFwdIdeal Cert.LnFwdIdeal.Gen Cert.Proof

/-- What the body computes, at an index. -/
theorem payload (v0 : Vec Ideal S256x4096 .f32) (v17 v21 : Vec Ideal S1x4096 .f32) (j : S256x4096.Idx) :
    k0_pay1 (F := Ideal) v0 v17 v21 j = layer (row v0 (j 0)) (row v17 0) (row v21 0) (j 1) := by
  unfold k0_pay1
  dsimp only
  simp only [shapeCast_self]
  refine congrArg₂ (· + ·) (congrArg₂ (· * ·) (congrArg₂ (· * ·) ?_ ?_) ?_) ?_
  · exact block_centred v0 _ _ _ _ _ j
  · refine (spread_column (by decide) _ _ j).trans (block_scale _ _ _ _ _ (row v0 (j 0)) _ fun k => ?_)
    exact block_centred v0 _ _ _ _ _ (pair (j 0) k)
  · exact spread_row (by decide) _ _ j
  · exact spread_row (by decide) _ _ j

end Cert.LnFwdIdeal.Rows

namespace Cert.LnFwdRefIdeal.Rows

open Cert.LnFwdRefIdeal Cert.LnFwdRefIdeal.Read Cert.Proof

variable (x0 : Vec Ideal S4096x4096 .f32) (x1 x2 : Vec Ideal S4096 .f32)

theorem means (i : S4096x1.Idx) : val_main_v3 (F := Ideal) x0 i = mean (row x0 (i 0)) := by
  rw [val_main_v3_apply, val_main_v1_apply, val_main_v0_apply, val_main_v2_apply, val_main_cst_0_apply, val_main_cst_apply]
  refine congrArg₂ (FloatOps.divf (F := Ideal) (φ := .f32)) ?_ rfl
  refine (congrArg (· + _) Ideal.ofBits_zero_f32).trans ((zero_add _).trans (Finset.sum_congr rfl fun k _ => congrArg x0 (funext fun a => Fin.ext ?_)))
  match a with
  | ⟨0, _⟩ => rfl
  | ⟨1, _⟩ => rfl

theorem less_means (i : S4096x4096.Idx) : val_main_v5 (F := Ideal) x0 i = centred (row x0 (i 0)) (i 1) := by
  rw [val_main_v5_apply, val_main_v4_apply, means]
  exact congrArg (x0 · - mean (row x0 (i 0))) (pair_eta i).symm

theorem scales (i : S4096x1.Idx) : val_main_v15 (F := Ideal) x0 i = scale (row x0 (i 0)) := by
  rw [val_main_v15_apply, val_main_v14_apply, val_main_v10_apply, val_main_v8_apply, val_main_v7_apply, val_main_v9_apply, val_main_v13_apply,
    val_main_cst_1_apply, val_main_cst_2_apply, val_main_cst_3_apply]
  refine congrArg (FloatOps.rsqrt (F := Ideal) (φ := .f32)) (congrArg₂ (· + ·) (congrArg₂ (FloatOps.divf (F := Ideal) (φ := .f32)) ?_ rfl) rfl)
  refine (congrArg (· + _) Ideal.ofBits_zero_f32).trans ((zero_add _).trans (Finset.sum_congr rfl fun k _ => ?_))
  rw [val_main_v6_apply, less_means]
  rfl

theorem norms (i : S4096x4096.Idx) : val_main_v17 (F := Ideal) x0 i = normed (row x0 (i 0)) (i 1) := by
  rw [val_main_v17_apply, val_main_v16_apply, scales]
  refine congrArg (· * _) ?_
  exact less_means x0 i

theorem layers (i : S4096x4096.Idx) :
    val_main_v23 (F := Ideal) x0 x1 x2 i = layer (row x0 (i 0)) (fun k => x1 (single k)) (fun k => x2 (single k)) (i 1) := by
  rw [val_main_v23_apply, val_main_v20_apply, norms, val_main_v19_apply, val_main_v18_apply, val_main_v22_apply, val_main_v21_apply]
  refine congrArg₂ (· + ·) (congrArg (_ * ·) (congrArg x1 (funext fun a => Fin.ext ?_))) (congrArg x2 (funext fun a => Fin.ext ?_))
  · match a with
    | ⟨0, _⟩ => rfl
  · match a with
    | ⟨0, _⟩ => rfl

end Cert.LnFwdRefIdeal.Rows

namespace Cert.LnFwdIdeal.Rows

open Cert.LnFwdIdeal Cert.LnFwdIdeal.Gen Cert.Proof
open Cert.LnFwdRefIdeal.Read (val_main_v23 val_main_v24)

variable (m : (ℓ : Loc nD τ sig) → Buf (Elt Ideal) ℓ) (ρ : Dev nD → PrngReg)

/-- The gain the region finds is the argument, laid along a row. -/
theorem gain (c : Dev nD) (k : Fin 4096) : V m c main_v0 (pair 0 k) = m ((c : Thread nD τ).loc main_arg1) (single k) := by
  have h : V m c main_v0 = (broadcastInDim S1x4096 ![1] bcast_S4096_S1x4096_1 (m ((c : Thread nD τ).loc main_arg1)) : Vec Ideal S1x4096 .f32) := by
    unfold V
    after_results
  rw [h]
  refine (Cert.LnFwdRefIdeal.Read.val_main_v18_apply (F := Ideal) (m ((c : Thread nD τ).loc main_arg1)) (pair 0 k)).trans (congrArg _ (funext fun a => Fin.ext ?_))
  match a with
  | ⟨0, _⟩ => rfl

/-- The offset likewise. -/
theorem offset (c : Dev nD) (k : Fin 4096) : V m c main_v1 (pair 0 k) = m ((c : Thread nD τ).loc main_arg2) (single k) := by
  have h : V m c main_v1 = (broadcastInDim S1x4096 ![1] bcast_S4096_S1x4096_1 (m ((c : Thread nD τ).loc main_arg2)) : Vec Ideal S1x4096 .f32) := by
    unfold V
    after_results
  rw [h]
  refine (Cert.LnFwdRefIdeal.Read.val_main_v18_apply (F := Ideal) (m ((c : Thread nD τ).loc main_arg2)) (pair 0 k)).trans (congrArg _ (funext fun a => Fin.ext ?_))
  match a with
  | ⟨0, _⟩ => rfl

/-- The blocks each grid point reads and writes. -/
theorem bands : ∀ t : Fin cfg0.N, win0_0.index t 0 = t.val ∧ win0_0.index t 1 = 0 ∧ win0_1.index t 0 = 0 ∧ win0_1.index t 1 = 0 ∧ win0_2.index t 0 = 0 ∧ win0_2.index t 1 = 0
      ∧ win0_4.index t 0 = t.val ∧ win0_4.index t 1 = 0 ∧ win0_5.index t 0 = t.val ∧ win0_5.index t 1 = 0 ∧ (cfg0.win 4).flush t = true ∧ (cfg0.win 5).flush t = true :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0
      ∧ win0_4.index t 0 = t.val ∧ win0_4.index t 1 = 0 ∧ win0_5.index t 0 = t.val ∧ win0_5.index t 1 = 0 ∧ (cfg0.win 4).flush t = true ∧ (cfg0.win 5).flush t = true)

theorem band_lt (t : Fin cfg0.N) (r : Fin 256) : t.val * 256 + r.val < 4096 := by
  have h : t.val < 16 := t.isLt
  omega

/-- Row `r` of grid point `t`'s block. -/
theorem block_row (c : Dev nD) (t : Fin cfg0.N) (r : Fin 256) (k : Fin 4096) :
    iblk m c 0 t (pair r k) = row (m ((c : Thread nD τ).loc main_arg0)) ⟨t.val * 256 + r.val, band_lt t r⟩ k := by
  unfold iblk
  rw [View.read_apply]
  show V m c main_arg0 _ = m ((c : Thread nD τ).loc main_arg0) _
  rw [V_main_arg0]
  refine congrArg (m ((c : Thread nD τ).loc main_arg0)) (funext fun a => Fin.ext ?_)
  obtain ⟨h0, h1, -⟩ := bands t
  match a with
  | ⟨0, _⟩ => show win0_0.index t 0 * 256 + 1 * r.val = t.val * 256 + r.val; rw [h0]; omega
  | ⟨1, _⟩ => show win0_0.index t 1 * 4096 + 1 * k.val = k.val; rw [h1]; omega

theorem block_gain (c : Dev nD) (t : Fin cfg0.N) (k : Fin 4096) : iblk m c 1 t (pair 0 k) = m ((c : Thread nD τ).loc main_arg1) (single k) := by
  unfold iblk
  rw [View.read_apply]
  refine Eq.trans (congrArg (V m c main_v0) (funext fun a => Fin.ext ?_)) (gain m c k)
  obtain ⟨-, -, h0, h1, -⟩ := bands t
  match a with
  | ⟨0, _⟩ => show win0_1.index t 0 * 1 + 1 * 0 = 0; rw [h0]
  | ⟨1, _⟩ => show win0_1.index t 1 * 4096 + 1 * k.val = k.val; rw [h1]; omega

theorem block_offset (c : Dev nD) (t : Fin cfg0.N) (k : Fin 4096) : iblk m c 2 t (pair 0 k) = m ((c : Thread nD τ).loc main_arg2) (single k) := by
  unfold iblk
  rw [View.read_apply]
  refine Eq.trans (congrArg (V m c main_v1) (funext fun a => Fin.ext ?_)) (offset m c k)
  obtain ⟨-, -, -, -, h0, h1, -⟩ := bands t
  match a with
  | ⟨0, _⟩ => show win0_2.index t 0 * 1 + 1 * 0 = 0; rw [h0]
  | ⟨1, _⟩ => show win0_2.index t 1 * 4096 + 1 * k.val = k.val; rw [h1]; omega

/-- What a grid point computes is the reference's norm of its rows. -/
theorem computed (c : Dev nD) (t : Fin cfg0.N) (j : S256x4096.Idx) (i : S4096x4096.Idx) (hi0 : (i 0).val = t.val * 256 + (j 0).val) (hi1 : (i 1).val = (j 1).val) :
    k0_pay1 (F := Ideal) (iblk m c 0 t) (iblk m c 1 t) (iblk m c 2 t) j
      = val_main_v23 (F := Ideal) (m ((c : Thread nD τ).loc main_arg0)) (m ((c : Thread nD τ).loc main_arg1)) (m ((c : Thread nD τ).loc main_arg2)) i := by
  rw [Cert.LnFwdRefIdeal.Rows.layers]
  refine (payload (iblk m c 0 t) (iblk m c 1 t) (iblk m c 2 t) j).trans ?_
  have e0 : i 0 = ⟨t.val * 256 + (j 0).val, band_lt t (j 0)⟩ := Fin.ext hi0
  have e1 : i 1 = j 1 := Fin.ext hi1
  rw [e0, e1]
  have f0 := funext (block_row m c t (j 0))
  have f1 := funext (block_gain m c t)
  have f2 := funext (block_offset m c t)
  exact congr (congrArg₂ (layer · · ·) f0 f1 |> fun h => congr h f2) rfl

theorem left4 (c : Dev nD) (t : Fin cfg0.N) (j : S256x4096.Idx) :
    (dats m 0 c).flushed 4 t j = k0_pay1 (F := Ideal) (iblk m c 0 t) (iblk m c 1 t) (iblk m c 2 t) j := by
  rw [Value.flushed4]
  show out0_4 _ _ _ _ j = _
  unfold out0_4
  rw [View.canon_unit_zero zeros2, View.ld_unit_zero (S := S256x4096) zeros2, View.ld_unit_zero (S := S1x4096) zeros2, View.ld_unit_zero (S := S1x4096) zeros2]

theorem left5 (c : Dev nD) (t : Fin cfg0.N) (j : S256x4096.Idx) :
    (dats m 0 c).flushed 5 t j = k0_pay1 (F := Ideal) (iblk m c 0 t) (iblk m c 1 t) (iblk m c 2 t) j := by
  rw [Value.flushed5]
  show out0_5 _ _ _ _ j = _
  unfold out0_5
  rw [View.canon_unit_zero zeros2, View.ld_unit_zero (S := S256x4096) zeros2, View.ld_unit_zero (S := S1x4096) zeros2, View.ld_unit_zero (S := S1x4096) zeros2]
  rfl

theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) :=
  (dats m 0 c).arrAt_eq_of_cover 4 _ (fun t _ => funext fun j => by
    obtain ⟨-, -, -, -, -, -, h4, h4', h5, h5', -⟩ := bands t
    rw [View.read_apply, left4]
    refine computed m c t j _ ?_ ?_
    · show win0_4.index t 0 * 256 + 1 * (j 0).val = t.val * 256 + (j 0).val
      rw [h4]; omega
    · show win0_4.index t 1 * 4096 + 1 * (j 1).val = (j 1).val
      rw [h4']; omega) fun i => by
    have i0 : (i 0 : Nat) < 4096 := (i 0).isLt
    have i1 : (i 1 : Nat) < 4096 := (i 1).isLt
    let t : Fin cfg0.N := ⟨(i 0 : Nat) / 256, by show _ < 16; omega⟩
    obtain ⟨-, -, -, -, -, -, h4, h4', h5, h5', f4, f5⟩ := bands t
    refine ⟨t, f4, ?_⟩
    show i ∈ ((View.whole main_v3_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [h4]; dsimp only [t]; omega
    | ⟨1, _⟩ => show win0_4.index t 1 * 4096 ≤ (i 1 : Nat) ∧ (i 1 : Nat) < win0_4.index t 1 * 4096 + 4096
                rw [h4']; omega

theorem final5 (c : Dev nD) : (dats m 0 c).arrAt 5 cfg0.N
    = val_main_v24 (F := Ideal) (m ((c : Thread nD τ).loc main_arg0)) (m ((c : Thread nD τ).loc main_arg1)) (m ((c : Thread nD τ).loc main_arg2)) :=
  (dats m 0 c).arrAt_eq_of_cover 5 _ (fun t _ => funext fun j => by
    obtain ⟨-, -, -, -, -, -, h4, h4', h5, h5', -⟩ := bands t
    rw [View.read_apply, left5]
    refine computed m c t j _ ?_ ?_
    · show win0_5.index t 0 * 256 + 1 * (j 0).val = t.val * 256 + (j 0).val
      rw [h5]; omega
    · show win0_5.index t 1 * 4096 + 1 * (j 1).val = (j 1).val
      rw [h5']; omega) fun i => by
    have i0 : (i 0 : Nat) < 4096 := (i 0).isLt
    have i1 : (i 1 : Nat) < 4096 := (i 1).isLt
    let t : Fin cfg0.N := ⟨(i 0 : Nat) / 256, by show _ < 16; omega⟩
    obtain ⟨-, -, -, -, -, -, h4, h4', h5, h5', f4, f5⟩ := bands t
    refine ⟨t, f5, ?_⟩
    show i ∈ ((View.whole main_v3_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [h5]; dsimp only [t]; omega
    | ⟨1, _⟩ => show win0_5.index t 1 * 4096 ≤ (i 1 : Nat) ∧ (i 1 : Nat) < win0_5.index t 1 * 4096 + 4096
                rw [h5']; omega

end Cert.LnFwdIdeal.Rows

namespace Cert.Proof.LnFwd

/-- The two programs have one body table, read at the machine's floats. -/
theorem bodies : @Cert.LnFwd.defs₀ Bits _ _ = @Cert.LnFwdIdeal.defs₀ Bits _ _ := by
  unfold Cert.LnFwd.defs₀ Cert.LnFwdIdeal.defs₀
  refine congrArg Defs.onTc (funext fun l => ?_)
  match l with
  | 0 => rfl
theorem table : @Cert.LnFwd.defs Bits _ _ = @Cert.LnFwdIdeal.defs Bits _ _ := congrArg (Pipeline.defs _) bodies

theorem frame_kernel : Cert.quiescent_LnFwd := fun m ρ _ => by
  rw [table]
  exact Cert.LnFwdIdeal.Gen.frame (F := Bits) m ρ
theorem frame_ideal : Cert.quiescent_LnFwdIdeal := fun m ρ _ => Cert.LnFwdIdeal.Gen.frame m ρ
theorem frame_ref : Cert.quiescent_LnFwdRefIdeal := fun m ρ _ =>
  (θ_run Cert.LnFwdRefIdeal.defs _ _).mono
    (fun r h => ⟨fun c => (h c).2.2, Idealize.ShloMosaic.sem_eq_zero_of_no_sems (by decide) r.2⟩)
    (Cert.LnFwdRefIdeal.Value.run (F := Ideal) m ρ)

theorem value : Cert.algebraic_LnFwdIdeal_LnFwdRefIdeal := fun m ρ m' ρ' _ hag =>
  ⟨fun c => Cert.LnFwdRefIdeal.Read.val_main_v23 (F := Ideal) (m ((c.tc : Thread _ _).loc Cert.LnFwdIdeal.main_arg0)) (m ((c.tc : Thread _ _).loc Cert.LnFwdIdeal.main_arg1)) (m ((c.tc : Thread _ _).loc Cert.LnFwdIdeal.main_arg2)),
    fun c => Cert.LnFwdRefIdeal.Read.val_main_v24 (F := Ideal) (m ((c.tc : Thread _ _).loc Cert.LnFwdIdeal.main_arg0)) (m ((c.tc : Thread _ _).loc Cert.LnFwdIdeal.main_arg1)) (m ((c.tc : Thread _ _).loc Cert.LnFwdIdeal.main_arg2)),
    (θ_run Cert.LnFwdIdeal.defs _ _).mono
      (fun _ h c => ⟨(h c).1.trans (Cert.LnFwdIdeal.Rows.final4 m c), (h c).2.1.trans (Cert.LnFwdIdeal.Rows.final5 m c), (h c).2.2⟩)
      (Cert.LnFwdIdeal.Value.run_blocks m ρ),
    (θ_run Cert.LnFwdRefIdeal.defs _ _).mono
      (fun _ h c => ⟨(h c).1.trans ((Cert.LnFwdRefIdeal.Read.val_main_v23_eq _ _ _).trans (by rw [(hag c).1, (hag c).2.1, (hag c).2.2])),
        (h c).2.1.trans ((Cert.LnFwdRefIdeal.Read.val_main_v24_eq _ _ _).trans (by rw [(hag c).1, (hag c).2.1, (hag c).2.2])), (h c).2.2⟩)
      (Cert.LnFwdRefIdeal.Value.run m' ρ')⟩

end Cert.Proof.LnFwd

end
-- ==== Proof.Loss.lean ====
/-
  The loss head: each grid point norms 256 rows, subtracts the target, stores the gradient of the loss in those rows and adds their
  share of the loss to the one number it carries.
-/
module

public import proofs.«01_k».proof.Defs
public import proofs.«01_k».proof.Proof.LnFwd
public import proofs.«01_k».proof.Proof.Gen.Loss
public import proofs.«01_k».proof.Proof.Gen.LossIdeal.Value
public import proofs.«01_k».proof.Proof.Gen.LossRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.Proof

theorem width_eq : width = ((4096 : ℝ) : EReal) := by
  unfold width
  simp [Ideal.ofBits, Ideal.ieee]
  rw [← EReal.coe_mul]
  norm_num
theorem per_width : Ideal.ofBits .f32 0x39800000#32 = ((1 / 4096 : ℝ) : EReal) := by
  simp [Ideal.ofBits, Ideal.ieee]
  rw [← EReal.coe_mul]
  norm_num
theorem half : Ideal.ofBits .f32 0x3F000000#32 = ((1 / 2 : ℝ) : EReal) := by
  simp [Ideal.ofBits, Ideal.ieee]
  rw [← EReal.coe_mul]
  norm_num
theorem one : Ideal.ofBits .f32 0x3F800000#32 = ((1 : ℝ) : EReal) := by
  simp [Ideal.ofBits, Ideal.ieee]
  rw [← EReal.coe_mul]
  norm_num
theorem two : Ideal.ofBits .f32 0x40000000#32 = ((2 : ℝ) : EReal) := by
  simp [Ideal.ofBits, Ideal.ieee]
  rw [← EReal.coe_mul]
  norm_num

/-- Dividing by the row length is multiplying by its reciprocal. -/
theorem div_width (x : EReal) : FloatOps.divf (F := Ideal) (φ := .f32) x width = x * Ideal.ofBits .f32 0x39800000#32 := by
  rw [Ideal.divf_def, per_width, width_eq, Ideal.div, if_neg (by norm_num), ← EReal.coe_inv]
  norm_num

/-- A positive real distributes over a sum of extended reals. -/
theorem half_sum {ι : Type} (s : Finset ι) (f : ι → EReal) :
    Ideal.ofBits .f32 0x3F000000#32 * ∑ i ∈ s, f i = ∑ i ∈ s, Ideal.ofBits .f32 0x3F000000#32 * f i := by
  classical
  rw [half]
  induction s using Finset.induction_on with
  | empty => simp
  | insert a s ha ih =>
    rw [Finset.sum_insert ha, Finset.sum_insert ha, ← ih]
    exact EReal.left_distrib_of_nonneg_of_ne_top (by positivity) (EReal.coe_ne_top _) _ _

end Cert.Proof

namespace Cert.Proof

section
variable (z : (⟨2, ![4096, 4096]⟩ : Shape).Idx → EReal) (g b : (⟨1, ![4096]⟩ : Shape).Idx → EReal) (y : (⟨2, ![4096, 4096]⟩ : Shape).Idx → EReal)

/-- A row of the normed array less the target's row. -/
def miss (R : Fin 4096) (k : Fin 4096) : EReal := layer (row z R) (fun k => g (single k)) (fun k => b (single k)) k - y (pair R k)

/-- The mean of a row's squared misses. -/
def share (R : Fin 4096) : EReal := (∑ k, miss z g b y R k * miss z g b y R k) * Ideal.ofBits .f32 0x39800000#32

/-- The same of a row number, zero past the last row. -/
def shareAt (R : ℕ) : EReal := if h : R < 4096 then share z g b y ⟨R, h⟩ else 0
end

end Cert.Proof

namespace Cert.LossIdeal.Head

open Cert.LossIdeal Cert.LossIdeal.Gen Cert.Proof

section
variable {F : FTy → Type} [FloatOps F] (m : (ℓ : Loc nD τ sig) → Buf (Elt F) ℓ)

/-- The first grid point starts the loss from zero. -/
theorem first (c : Dev nD) (t : Fin cfg0.N) (h0 : t.val % 16 = 0) : outsAt0 m c t.val t.isLt
    = (k0_pay4 (iblk m c 0 t) (iblk m c 1 t) (iblk m c 2 t) (iblk m c 3 t),
       k0_pay1 (k0_pay5 (iblk m c 0 t) (iblk m c 1 t) (iblk m c 2 t) (iblk m c 3 t)) k0_pay6 k0_pay2) := by
  rw [outsAt0_A m c t h0]
  refine Prod.ext ?_ ?_
  · dsimp only
    unfold out0_A_4
    rw [View.read_writes_eq_canon _ _ _ (fun y => cover0_A_4 (y := y) ..)]
    unfold kernelRun0_A
    dsimp only
    sl_unfold_words
    rw [View.canon_cons_unit_zero zeros2]
    simp only [View.readAt_eq_ld, (hs0_0 t).read_unread, (hs0_1 t).read_unread, (hs0_2 t).read_unread, (hs0_3 t).read_unread, View.ld_unit_zero (S := S256x4096) zeros2, View.ld_unit_zero (S := S1x4096) zeros2]
  · dsimp only
    unfold out0_A_5
    rw [View.read_writes_eq_canon _ _ _ (fun y => cover0_A_5 (y := y) ..)]
    unfold kernelRun0_A
    dsimp only
    sl_unfold_words
    rw [View.canon_cons_unit_zero zeros2]
    simp only [View.readAt_eq_ld, (hs0_0 t).read_unread, (hs0_1 t).read_unread, (hs0_2 t).read_unread, (hs0_3 t).read_unread, (hs0_5 t).read_unread, View.ld_unit_zero (S := S256x4096) zeros2, View.ld_unit_zero (S := S1x4096) zeros2, View.ld_unit_zero (S := S1x1) zeros2]
    rw [View.readCov_unit_zero _ zeros2]

/-- Every other one adds to what the one before left. -/
theorem later (c : Dev nD) (t : Fin cfg0.N) (h0 : ¬ t.val % 16 = 0) : outsAt0 m c t.val t.isLt
    = (k0_pay4 (iblk m c 0 t) (iblk m c 1 t) (iblk m c 2 t) (iblk m c 3 t),
       k0_pay1 (k0_pay5 (iblk m c 0 t) (iblk m c 1 t) (iblk m c 2 t) (iblk m c 3 t)) k0_pay6 (outsAt0 m c (t.val - 1) (Nat.lt_of_le_of_lt (Nat.sub_le _ _) t.isLt)).2) := by
  rw [outsAt0_B m c t h0]
  refine Prod.ext ?_ ?_
  · dsimp only
    unfold out0_B_4
    rw [View.read_writes_eq_canon _ _ _ (fun y => cover0_B_4 (y := y) ..)]
    unfold kernelRun0_B
    dsimp only
    sl_unfold_words
    rw [View.canon_cons_unit_zero zeros2]
    simp only [View.readAt_eq_ld, (hs0_0 t).read_unread, (hs0_1 t).read_unread, (hs0_2 t).read_unread, (hs0_3 t).read_unread, View.ld_unit_zero (S := S256x4096) zeros2, View.ld_unit_zero (S := S1x4096) zeros2]
  · dsimp only
    unfold out0_B_5
    rw [View.read_writes_eq_canon _ _ _ (fun y => cover0_B_5 (y := y) ..)]
    unfold kernelRun0_B
    dsimp only
    sl_unfold_words
    rw [View.canon_cons_unit_zero zeros2]
    simp only [View.readAt_eq_ld, (hs0_0 t).read_unread, (hs0_1 t).read_unread, (hs0_2 t).read_unread, (hs0_3 t).read_unread, (hs0_5 t).read_unread, View.ld_unit_zero (S := S256x4096) zeros2, View.ld_unit_zero (S := S1x4096) zeros2, View.ld_unit_zero (S := S1x1) zeros2]
end

end Cert.LossIdeal.Head

namespace Cert.LossRefIdeal.Head

open Cert.LossRefIdeal Cert.LossRefIdeal.Read Cert.Proof

variable (x0 : Vec Ideal S4096x4096 .f32) (x1 x2 : Vec Ideal S4096 .f32) (x3 : Vec Ideal S4096x4096 .f32)

theorem misses (i : S4096x4096.Idx) : val_main_v24 (F := Ideal) x0 x1 x2 x3 i = miss x0 x1 x2 x3 (i 0) (i 1) := by
  have h : val_main_v23 (F := Ideal) x0 x1 x2 i = layer (row x0 (i 0)) (fun k => x1 (single k)) (fun k => x2 (single k)) (i 1) :=
    Cert.LnFwdRefIdeal.Rows.layers x0 x1 x2 i
  rw [val_main_v24_apply, h]
  exact congrArg (fun w => _ - x3 w) (pair_eta i).symm

theorem gradients (i : S4096x4096.Idx) : val_main_v38 (F := Ideal) x0 x1 x2 x3 i = miss x0 x1 x2 x3 (i 0) (i 1) * Ideal.ofBits .f32 0x39800000#32 := by
  rw [val_main_v38_apply, val_main_v37_apply, val_main_v36_apply, val_main_v34_apply, val_main_v33_apply, val_main_v35_apply, val_main_v27_apply, val_main_v26_apply, misses]
  show FloatOps.divf (F := Ideal) (φ := .f32) (Ideal.ofBits .f32 0x3F000000#32 * Ideal.ofBits .f32 0x3F800000#32) width * (Ideal.ofBits .f32 0x40000000#32 * _) = _
  rw [div_width, half, one, two, per_width, ← mul_assoc, ← EReal.coe_mul, ← EReal.coe_mul, ← EReal.coe_mul, mul_comm]
  norm_num

theorem shares (i : S4096.Idx) : val_main_v30 (F := Ideal) x0 x1 x2 x3 i = share x0 x1 x2 x3 (i 0) := by
  rw [val_main_v30_apply, val_main_v28_apply, val_main_v29_apply]
  refine (div_width _).trans (congrArg (· * _) ?_)
  refine (congrArg (· + _) Ideal.ofBits_zero_f32).trans ((zero_add _).trans (Finset.sum_congr rfl fun k _ => ?_))
  rw [val_main_v25_apply, misses]
  rfl

theorem losses (i : S1x1.Idx) : val_main_v39 (F := Ideal) x0 x1 x2 x3 i = Ideal.ofBits .f32 0x3F000000#32 * ∑ R, share x0 x1 x2 x3 R := by
  rw [val_main_v39_apply, val_main_v32_apply, val_main_v31_apply]
  refine congrArg (Ideal.ofBits .f32 0x3F000000#32 * ·) ?_
  refine (congrArg (· + _) Ideal.ofBits_zero_f32).trans ((zero_add _).trans ?_)
  refine Fintype.sum_equiv singles _ _ fun j => ?_
  rw [shares]
  rfl

end Cert.LossRefIdeal.Head

namespace Cert.LossIdeal.Head

open Cert.LossIdeal Cert.LossIdeal.Gen Cert.Proof
open Cert.LossRefIdeal.Read (val_main_v38 val_main_v39)

variable (m : (ℓ : Loc nD τ sig) → Buf (Elt Ideal) ℓ) (ρ : Dev nD → PrngReg)

/-- The gain the region finds is the argument, laid along a row. -/
theorem gain (c : Dev nD) (k : Fin 4096) : V m c main_v0 (pair 0 k) = m ((c : Thread nD τ).loc main_arg1) (single k) := by
  have h : V m c main_v0 = (broadcastInDim S1x4096 ![1] bcast_S4096_S1x4096_1 (m ((c : Thread nD τ).loc main_arg1)) : Vec Ideal S1x4096 .f32) := by
    unfold V
    after_results
  rw [h]
  refine (Cert.LnFwdRefIdeal.Read.val_main_v18_apply (F := Ideal) (m ((c : Thread nD τ).loc main_arg1)) (pair 0 k)).trans (congrArg _ (funext fun a => Fin.ext ?_))
  match a with
  | ⟨0, _⟩ => rfl

/-- The offset likewise. -/
theorem offset (c : Dev nD) (k : Fin 4096) : V m c main_v1 (pair 0 k) = m ((c : Thread nD τ).loc main_arg2) (single k) := by
  have h : V m c main_v1 = (broadcastInDim S1x4096 ![1] bcast_S4096_S1x4096_1 (m ((c : Thread nD τ).loc main_arg2)) : Vec Ideal S1x4096 .f32) := by
    unfold V
    after_results
  rw [h]
  refine (Cert.LnFwdRefIdeal.Read.val_main_v18_apply (F := Ideal) (m ((c : Thread nD τ).loc main_arg2)) (pair 0 k)).trans (congrArg _ (funext fun a => Fin.ext ?_))
  match a with
  | ⟨0, _⟩ => rfl

/-- The blocks each grid point reads and writes. -/
theorem bands : ∀ t : Fin cfg0.N, win0_0.index t 0 = t.val ∧ win0_0.index t 1 = 0 ∧ win0_1.index t 0 = 0 ∧ win0_1.index t 1 = 0 ∧ win0_2.index t 0 = 0 ∧ win0_2.index t 1 = 0
      ∧ win0_3.index t 0 = t.val ∧ win0_3.index t 1 = 0 ∧ win0_4.index t 0 = t.val ∧ win0_4.index t 1 = 0 ∧ (cfg0.win 4).flush t = true ∧ win0_5.index t 0 = 0 ∧ win0_5.index t 1 = 0 :=
  (by decide +kernel : ∀ t : Fin grid0.N, win0_0.index t 0 = t.val ∧ win0_0.index t 1 = 0 ∧ win0_1.index t 0 = 0 ∧ win0_1.index t 1 = 0 ∧ win0_2.index t 0 = 0 ∧ win0_2.index t 1 = 0
      ∧ win0_3.index t 0 = t.val ∧ win0_3.index t 1 = 0 ∧ win0_4.index t 0 = t.val ∧ win0_4.index t 1 = 0 ∧ (cfg0.win 4).flush t = true ∧ win0_5.index t 0 = 0 ∧ win0_5.index t 1 = 0)

theorem band_lt (t : Fin cfg0.N) (r : Fin 256) : t.val * 256 + r.val < 4096 := by
  have h : t.val < 16 := t.isLt
  omega

/-- Row `r` of grid point `t`'s block. -/
theorem block_row (c : Dev nD) (t : Fin cfg0.N) (r : Fin 256) (k : Fin 4096) :
    iblk m c 0 t (pair r k) = row (m ((c : Thread nD τ).loc main_arg0)) ⟨t.val * 256 + r.val, band_lt t r⟩ k := by
  unfold iblk
  rw [View.read_apply]
  show V m c main_arg0 _ = m ((c : Thread nD τ).loc main_arg0) _
  rw [V_main_arg0]
  refine congrArg (m ((c : Thread nD τ).loc main_arg0)) (funext fun a => Fin.ext ?_)
  obtain ⟨h0, h1, -⟩ := bands t
  match a with
  | ⟨0, _⟩ => show win0_0.index t 0 * 256 + 1 * r.val = t.val * 256 + r.val; rw [h0]; omega
  | ⟨1, _⟩ => show win0_0.index t 1 * 4096 + 1 * k.val = k.val; rw [h1]; omega

theorem block_gain (c : Dev nD) (t : Fin cfg0.N) (k : Fin 4096) : iblk m c 1 t (pair 0 k) = m ((c : Thread nD τ).loc main_arg1) (single k) := by
  unfold iblk
  rw [View.read_apply]
  refine Eq.trans (congrArg (V m c main_v0) (funext fun a => Fin.ext ?_)) (gain m c k)
  obtain ⟨-, -, h0, h1, -⟩ := bands t
  match a with
  | ⟨0, _⟩ => show win0_1.index t 0 * 1 + 1 * 0 = 0; rw [h0]
  | ⟨1, _⟩ => show win0_1.index t 1 * 4096 + 1 * k.val = k.val; rw [h1]; omega

theorem block_offset (c : Dev nD) (t : Fin cfg0.N) (k : Fin 4096) : iblk m c 2 t (pair 0 k) = m ((c : Thread nD τ).loc main_arg2) (single k) := by
  unfold iblk
  rw [View.read_apply]
  refine Eq.trans (congrArg (V m c main_v1) (funext fun a => Fin.ext ?_)) (offset m c k)
  obtain ⟨-, -, -, -, h0, h1, -⟩ := bands t
  match a with
  | ⟨0, _⟩ => show win0_2.index t 0 * 1 + 1 * 0 = 0; rw [h0]
  | ⟨1, _⟩ => show win0_2.index t 1 * 4096 + 1 * k.val = k.val; rw [h1]; omega

theorem block_target (c : Dev nD) (t : Fin cfg0.N) (r : Fin 256) (k : Fin 4096) :
    iblk m c 3 t (pair r k) = row (m ((c : Thread nD τ).loc main_arg3)) ⟨t.val * 256 + r.val, band_lt t r⟩ k := by
  unfold iblk
  rw [View.read_apply]
  show V m c main_arg3 _ = m ((c : Thread nD τ).loc main_arg3) _
  rw [V_main_arg3]
  refine congrArg (m ((c : Thread nD τ).loc main_arg3)) (funext fun a => Fin.ext ?_)
  obtain ⟨-, -, -, -, -, -, h0, h1, -⟩ := bands t
  match a with
  | ⟨0, _⟩ => show win0_3.index t 0 * 256 + 1 * r.val = t.val * 256 + r.val; rw [h0]; omega
  | ⟨1, _⟩ => show win0_3.index t 1 * 4096 + 1 * k.val = k.val; rw [h1]; omega

/-- A grid point's misses are its rows of the misses. -/
theorem block_miss (c : Dev nD) (t : Fin cfg0.N) (j : S256x4096.Idx) :
    k0_pay3 (F := Ideal) (iblk m c 0 t) (iblk m c 1 t) (iblk m c 2 t) (iblk m c 3 t) j
      = miss (m ((c : Thread nD τ).loc main_arg0)) (m ((c : Thread nD τ).loc main_arg1)) (m ((c : Thread nD τ).loc main_arg2)) (m ((c : Thread nD τ).loc main_arg3)) ⟨t.val * 256 + (j 0).val, band_lt t (j 0)⟩ (j 1) := by
  refine (congrArg₂ (· - ·) ((Cert.LnFwdIdeal.Rows.payload (iblk m c 0 t) (iblk m c 1 t) (iblk m c 2 t) j).trans ?_) ?_ :
    Cert.LnFwdIdeal.Gen.k0_pay1 (F := Ideal) (iblk m c 0 t) (iblk m c 1 t) (iblk m c 2 t) j - iblk m c 3 t j = _)
  · have f0 := funext (block_row m c t (j 0))
    have f1 := funext (block_gain m c t)
    have f2 := funext (block_offset m c t)
    exact congr (congrArg₂ (layer · · ·) f0 f1 |> fun h => congr h f2) rfl
  · exact (congrArg (iblk m c 3 t) (pair_eta j).symm).trans (block_target m c t (j 0) (j 1))

/-- What a grid point adds to the loss. -/
theorem block_loss (c : Dev nD) (t : Fin cfg0.N) (v : Vec Ideal S1x1 .f32) (j : S1x1.Idx) :
    k0_pay1 (F := Ideal) (k0_pay5 (iblk m c 0 t) (iblk m c 1 t) (iblk m c 2 t) (iblk m c 3 t)) k0_pay6 v j
      = v j + Ideal.ofBits .f32 0x3F000000#32 * ∑ r : Fin 256, shareAt (m ((c : Thread nD τ).loc main_arg0)) (m ((c : Thread nD τ).loc main_arg1)) (m ((c : Thread nD τ).loc main_arg2)) (m ((c : Thread nD τ).loc main_arg3)) (t.val * 256 + r.val) := by
  unfold k0_pay1
  dsimp only
  rw [shapeCast_self]
  refine congrArg (v j + ·) (congrArg (Ideal.ofBits .f32 0x3F000000#32 * ·) ?_)
  refine (col_sums _ _ _ _ _ j).trans ?_
  refine Finset.sum_congr rfl fun r _ => ?_
  unfold shareAt
  rw [dif_pos (band_lt t r)]
  refine congrArg (· * _) ?_
  unfold k0_pay5
  dsimp only
  refine (row_sums _ _ _ _ _ (pair r (j 1))).trans ?_
  refine Finset.sum_congr rfl fun k _ => ?_
  exact congrArg₂ (· * ·) (block_miss m c t _) (block_miss m c t _)

/-- The loss after each grid point. -/
theorem carried (c : Dev nD) (j : S1x1.Idx) : ∀ (n : ℕ) (hn : n < cfg0.N), (outsAt0 m c n hn).2 j
    = ∑ t ∈ Finset.range (n + 1), Ideal.ofBits .f32 0x3F000000#32 * ∑ r : Fin 256, shareAt (m ((c : Thread nD τ).loc main_arg0)) (m ((c : Thread nD τ).loc main_arg1)) (m ((c : Thread nD τ).loc main_arg2)) (m ((c : Thread nD τ).loc main_arg3)) (t * 256 + r.val)
  | 0, hn => by
    rw [first m c ⟨0, hn⟩ rfl, Finset.sum_range_one]
    refine (block_loss m c ⟨0, hn⟩ _ j).trans ?_
    exact (congrArg (· + _) Ideal.ofBits_zero_f32).trans (zero_add _)
  | n + 1, hn => by
    have h : (n + 1) < 16 := hn
    rw [Finset.sum_range_succ, ← carried c j n (Nat.lt_of_succ_lt hn)]
    have e := later m c ⟨n + 1, hn⟩ (by dsimp only; omega)
    dsimp only at e
    rw [e]
    exact block_loss m c ⟨n + 1, hn⟩ _ j

theorem left4 (c : Dev nD) (t : Fin cfg0.N) (j : S256x4096.Idx) : (dats m 0 c).flushed 4 t j
    = miss (m ((c : Thread nD τ).loc main_arg0)) (m ((c : Thread nD τ).loc main_arg1)) (m ((c : Thread nD τ).loc main_arg2)) (m ((c : Thread nD τ).loc main_arg3)) ⟨t.val * 256 + (j 0).val, band_lt t (j 0)⟩ (j 1) * Ideal.ofBits .f32 0x39800000#32 := by
  have e : (outsAt0 m c t.val t.isLt).1 = k0_pay4 (iblk m c 0 t) (iblk m c 1 t) (iblk m c 2 t) (iblk m c 3 t) := by
    by_cases h0 : t.val % 16 = 0
    · rw [first m c t h0]
    · rw [later m c t h0]
  rw [Value.flushed4]
  show (outsAt0 m c t.val t.isLt).1 j = _
  rw [e]
  exact congrArg (· * _) (block_miss m c t j)

theorem final4 (c : Dev nD) : (dats m 0 c).arrAt 4 cfg0.N = val_main_v38 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => funext fun j => by
    obtain ⟨-, -, -, -, -, -, -, -, h4, h4', -⟩ := bands t
    rw [View.read_apply, left4, Cert.LossRefIdeal.Head.gradients]
    refine congrArg (· * _) (congrArg₂ (miss (m ((c : Thread nD τ).loc main_arg0)) (m ((c : Thread nD τ).loc main_arg1)) (m ((c : Thread nD τ).loc main_arg2)) (m ((c : Thread nD τ).loc main_arg3))) (Fin.ext ?_) (Fin.ext ?_))
    · show t.val * 256 + (j 0).val = win0_4.index t 0 * 256 + 1 * (j 0).val
      rw [h4]; omega
    · show (j 1).val = win0_4.index t 1 * 4096 + 1 * (j 1).val
      rw [h4']; omega) fun i => by
    have i0 : (i 0 : Nat) < 4096 := (i 0).isLt
    have i1 : (i 1 : Nat) < 4096 := (i 1).isLt
    let t : Fin cfg0.N := ⟨(i 0 : Nat) / 256, by show _ < 16; omega⟩
    obtain ⟨-, -, -, -, -, -, -, -, h4, h4', f4, -⟩ := bands t
    refine ⟨t, f4, ?_⟩
    show i ∈ ((View.whole main_v2_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [h4]; dsimp only [t]; omega
    | ⟨1, _⟩ => show win0_4.index t 1 * 4096 ≤ (i 1 : Nat) ∧ (i 1 : Nat) < win0_4.index t 1 * 4096 + 4096
                rw [h4']; omega

/-- Only the last grid point writes the loss. -/
theorem last : ∀ t : Fin cfg0.N, (cfg0.win 5).flush t = true → t.val = 15 :=
  (by decide +kernel : ∀ t : Fin grid0.N, (cfg0.win 5).flush t = true → t.val = 15)
theorem last_flushes : (cfg0.win 5).flush (⟨15, by decide⟩ : Fin grid0.N) = true := by decide +kernel

theorem final5 (c : Dev nD) : (dats m 0 c).arrAt 5 cfg0.N = val_main_v39 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t hf => funext fun j => by
    rw [View.read_apply, Cert.LossRefIdeal.Head.losses, Value.flushed5]
    refine (carried m c j t.val t.isLt).trans ?_
    rw [last t hf, ← half_sum, Finset.sum_range, all_rows (shareAt (m ((c : Thread nD τ).loc main_arg0)) (m ((c : Thread nD τ).loc main_arg1)) (m ((c : Thread nD τ).loc main_arg2)) (m ((c : Thread nD τ).loc main_arg3)))]
    refine congrArg (Ideal.ofBits .f32 0x3F000000#32 * ·) (Finset.sum_congr rfl fun R _ => ?_)
    unfold shareAt
    rw [dif_pos R.isLt]) fun i => by
    have i0 : (i 0 : Nat) < 1 := (i 0).isLt
    have i1 : (i 1 : Nat) < 1 := (i 1).isLt
    let t : Fin cfg0.N := ⟨15, by decide⟩
    obtain ⟨-, -, -, -, -, -, -, -, -, -, -, h5, h5'⟩ := bands t
    refine ⟨t, last_flushes, ?_⟩
    show i ∈ ((View.whole main_v2_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [h5]; omega
    | ⟨1, _⟩ => show win0_5.index t 1 * 1 ≤ (i 1 : Nat) ∧ (i 1 : Nat) < win0_5.index t 1 * 1 + 1
                rw [h5']; omega

end Cert.LossIdeal.Head

namespace Cert.Proof.Loss

/-- The two programs have one body table, read at the machine's floats. -/
theorem bodies : @Cert.Loss.defs₀ Bits _ _ = @Cert.LossIdeal.defs₀ Bits _ _ := by
  unfold Cert.Loss.defs₀ Cert.LossIdeal.defs₀
  refine congrArg Defs.onTc (funext fun l => ?_)
  match l with
  | 0 => rfl
theorem table : @Cert.Loss.defs Bits _ _ = @Cert.LossIdeal.defs Bits _ _ := congrArg (Pipeline.defs _) bodies

theorem frame_kernel : Cert.quiescent_Loss := fun m ρ _ => by
  rw [table]
  exact Cert.LossIdeal.Gen.frame (F := Bits) m ρ
theorem frame_ideal : Cert.quiescent_LossIdeal := fun m ρ _ => Cert.LossIdeal.Gen.frame m ρ
theorem frame_ref : Cert.quiescent_LossRefIdeal := fun m ρ _ =>
  (θ_run Cert.LossRefIdeal.defs _ _).mono
    (fun r h => ⟨fun c => (h c).2.2, Idealize.ShloMosaic.sem_eq_zero_of_no_sems (by decide) r.2⟩)
    (Cert.LossRefIdeal.Value.run (F := Ideal) m ρ)

theorem value : Cert.algebraic_LossIdeal_LossRefIdeal := fun m ρ m' ρ' _ hag =>
  ⟨fun c => Cert.LossRefIdeal.Read.val_main_v38 (F := Ideal) (m ((c.tc : Thread _ _).loc Cert.LossIdeal.main_arg0)) (m ((c.tc : Thread _ _).loc Cert.LossIdeal.main_arg1)) (m ((c.tc : Thread _ _).loc Cert.LossIdeal.main_arg2)) (m ((c.tc : Thread _ _).loc Cert.LossIdeal.main_arg3)),
    fun c => Cert.LossRefIdeal.Read.val_main_v39 (F := Ideal) (m ((c.tc : Thread _ _).loc Cert.LossIdeal.main_arg0)) (m ((c.tc : Thread _ _).loc Cert.LossIdeal.main_arg1)) (m ((c.tc : Thread _ _).loc Cert.LossIdeal.main_arg2)) (m ((c.tc : Thread _ _).loc Cert.LossIdeal.main_arg3)),
    (θ_run Cert.LossIdeal.defs _ _).mono
      (fun _ h c => ⟨(h c).1.trans (Cert.LossIdeal.Head.final4 m c), (h c).2.1.trans (Cert.LossIdeal.Head.final5 m c), (h c).2.2⟩)
      (Cert.LossIdeal.Value.run_blocks m ρ),
    (θ_run Cert.LossRefIdeal.defs _ _).mono
      (fun _ h c => ⟨(h c).1.trans ((Cert.LossRefIdeal.Read.val_main_v38_eq _ _ _ _).trans (by rw [(hag c).1, (hag c).2.1, (hag c).2.2.1, (hag c).2.2.2])),
        (h c).2.1.trans ((Cert.LossRefIdeal.Read.val_main_v39_eq _ _).trans (by rw [(hag c).1, (hag c).2.1, (hag c).2.2.1, (hag c).2.2.2])), (h c).2.2⟩)
      (Cert.LossRefIdeal.Value.run m' ρ')⟩

end Cert.Proof.Loss

end
-- ==== Proof.NormGrad.lean ====
/-
  The gradient of a layer norm of one row of 4096 numbers, in the kernel's form and in the form of the chain rule taken step by step
  through mean, variance and reciprocal root, and their equality where the incoming gradient is real.
-/
module

public import proofs.«01_k».proof.Proof.Loss

@[expose] public section

noncomputable section

open Idealize.ShloMosaic Idealize.SL.Sem

namespace Cert.Proof

/-- A sum of reals, taken in the extended reals. -/
theorem real_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem half_below : Ideal.ofBits .f32 0xBF000000#32 = ((-(1 / 2) : ℝ) : EReal) := by
  simp [Ideal.ofBits, Ideal.ieee]
  rw [← EReal.coe_mul]
  norm_num

/-- The number added to the variance, a positive real. -/
theorem slack : ∃ ε : ℝ, 0 < ε ∧ Ideal.ofBits .f32 0x3727C5AC#32 = (ε : EReal) := by
  refine ⟨10995116 * (2 ^ 40)⁻¹, by positivity, ?_⟩
  simp [Ideal.ofBits, Ideal.ieee]

theorem infinite : Ideal.ofBits .f32 0x7F800000#32 = ⊤ := by
  simp [Ideal.ofBits, Ideal.ieee]

/-- An extended real whose absolute value the machine finds below infinity is a real. -/
theorem real_of_below (x : EReal) (h : FloatOps.cmpf (F := Ideal) (φ := .f32) .olt (FloatOps.hostAbsf (F := Ideal) (φ := .f32) x) (Ideal.ofBits .f32 0x7F800000#32) = 1#1) :
    ((x.toReal : ℝ) : EReal) = x := by
  rw [Ideal.cmpf_def, infinite] at h
  have h' : max x (-x) < (⊤ : EReal) := by
    by_contra hn
    have e : Ideal.cmp .olt (FloatOps.hostAbsf (F := Ideal) (φ := .f32) x) ⊤ = BitVec.ofBool (decide (max x (-x) < (⊤ : EReal))) := rfl
    rw [e, decide_eq_false hn] at h
    exact absurd h (by decide)
  refine EReal.coe_toReal (fun hx => ?_) (fun hx => ?_)
  · rw [hx] at h'
    simp at h'
  · rw [hx] at h'
    simp at h'

/-- The sum of squares the reciprocal root is taken of, with the small number added. -/
def spread (x : Fin 4096 → EReal) : EReal :=
  FloatOps.divf (F := Ideal) (φ := .f32) (∑ k, centred x k * centred x k) width + Ideal.ofBits .f32 0x3727C5AC#32

/-- The gradient with respect to the row `z`, from the gradient `e` of its normed form, as the kernel writes it. -/
def gradient (z e : Fin 4096 → EReal) (k : Fin 4096) : EReal :=
  scale z * (e k - mean e - normed z k * mean (fun k => e k * normed z k))

/-- Twice the centred row is weighed by this in the chain rule. -/
def weight (z e : Fin 4096 → EReal) : EReal :=
  FloatOps.divf (F := Ideal) (φ := .f32) ((∑ k, centred z k * e k) * (Ideal.ofBits .f32 0xBF000000#32 * FloatOps.divf (F := Ideal) (φ := .f32) (scale z) (spread z))) width

/-- What reaches the centred row. -/
def direct (z e : Fin 4096 → EReal) (k : Fin 4096) : EReal := e k * scale z
def through (z e : Fin 4096 → EReal) (k : Fin 4096) : EReal := weight z e * (Ideal.ofBits .f32 0x40000000#32 * centred z k)

/-- The same gradient by the chain rule. -/
def chained (z e : Fin 4096 → EReal) (k : Fin 4096) : EReal :=
  direct z e k + through z e k + FloatOps.divf (F := Ideal) (φ := .f32) (∑ k, -direct z e k + ∑ k, -through z e k) width

/-- A function of the row, zero past the last row. -/
def atRow (f : Fin 4096 → EReal) (R : ℕ) : EReal := if h : R < 4096 then f ⟨R, h⟩ else 0

theorem all_atRow (f : Fin 4096 → EReal) : ∑ t ∈ Finset.range 16, ∑ r : Fin 256, atRow f (t * 256 + r.val) = ∑ R, f R := by
  rw [Finset.sum_range, all_rows (atRow f)]
  refine Finset.sum_congr rfl fun R _ => ?_
  unfold atRow
  rw [dif_pos R.isLt]

section
variable (x y : Fin 4096 → ℝ)

theorem real_mean : mean (fun k => (x k : EReal)) = (((∑ k, x k) * (1 / 4096) : ℝ) : EReal) := by
  unfold mean
  rw [div_width, real_sum, per_width, ← EReal.coe_mul]

/-- The centred row, in the reals. -/
def off (k : Fin 4096) : ℝ := x k - (∑ k, x k) * (1 / 4096)

theorem off_sum : ∑ k, off x k = 0 := by
  unfold off
  rw [Finset.sum_sub_distrib, Finset.sum_const, Finset.card_univ, Fintype.card_fin, nsmul_eq_mul]
  push_cast
  ring

theorem real_centred (k : Fin 4096) : centred (fun k => (x k : EReal)) k = (off x k : EReal) := by
  unfold centred off
  rw [real_mean, ← EReal.coe_sub]

/-- The spread is a positive real and the scale is its reciprocal root. -/
theorem real_scale : ∃ v : ℝ, 0 < v ∧ spread (fun k => (x k : EReal)) = (v : EReal) ∧ scale (fun k => (x k : EReal)) = (((Real.sqrt v)⁻¹ : ℝ) : EReal) := by
  obtain ⟨ε, hε, h⟩ := slack
  have e : spread (fun k => (x k : EReal)) = (((∑ k, off x k * off x k) * (1 / 4096) + ε : ℝ) : EReal) := by
    unfold spread
    rw [div_width, per_width, h, EReal.coe_add, EReal.coe_mul, ← real_sum]
    refine congrArg (· * _ + _) (Finset.sum_congr rfl fun k _ => ?_)
    rw [real_centred, EReal.coe_mul]
  have hs : 0 ≤ ∑ k, off x k * off x k := Finset.sum_nonneg fun k _ => mul_self_nonneg _
  have hv : 0 < (∑ k, off x k * off x k) * (1 / 4096) + ε := by positivity
  refine ⟨_, hv, e, ?_⟩
  show Ideal.rsqrt (spread fun k => (x k : EReal)) = _
  rw [e, Ideal.rsqrt_coe, if_neg (not_lt.mpr hv.le), if_neg hv.ne']

/-- Where everything is real the kernel's form and the chain rule's agree. -/
theorem gradient_eq_chained (k : Fin 4096) :
    gradient (fun k => (x k : EReal)) (fun k => (y k : EReal)) k = chained (fun k => (x k : EReal)) (fun k => (y k : EReal)) k := by
  obtain ⟨v, hv, ew, es⟩ := real_scale x
  obtain ⟨s, hs⟩ : ∃ s : ℝ, s = (Real.sqrt v)⁻¹ := ⟨_, rfl⟩
  rw [← hs] at es
  have hsv : s * s = v⁻¹ := by rw [hs, ← mul_inv, Real.mul_self_sqrt hv.le]
  obtain ⟨p, hp⟩ : ∃ p : ℝ, p = ∑ k, off x k * y k := ⟨_, rfl⟩
  have hn : ∀ k, normed (fun k => (x k : EReal)) k = ((off x k * s : ℝ) : EReal) := fun k => by
    unfold normed
    rw [real_centred, es, ← EReal.coe_mul]
  have hq : mean (fun k => (y k : EReal) * normed (fun k => (x k : EReal)) k) = ((p * s * (1 / 4096) : ℝ) : EReal) := by
    have e : (fun k => (y k : EReal) * normed (fun k => (x k : EReal)) k) = fun k => ((off x k * y k * s : ℝ) : EReal) := funext fun k => by
      rw [hn, ← EReal.coe_mul]
      congr 1
      ring
    rw [e, real_mean, ← Finset.sum_mul, ← hp]
  have hw : weight (fun k => (x k : EReal)) (fun k => (y k : EReal)) = ((p * (-(1 / 2) * (s * v⁻¹)) * (1 / 4096) : ℝ) : EReal) := by
    have e : ∑ k, centred (fun k => (x k : EReal)) k * (y k : EReal) = (p : EReal) := by
      rw [hp, ← real_sum]
      refine Finset.sum_congr rfl fun k _ => ?_
      rw [real_centred, ← EReal.coe_mul]
    unfold weight
    rw [div_width, per_width, e, half_below, es, ew, Ideal.divf_def, Ideal.div, if_neg (by exact_mod_cast hv.ne'), ← EReal.coe_inv]
    norm_cast
  have hd : ∀ k, direct (fun k => (x k : EReal)) (fun k => (y k : EReal)) k = ((y k * s : ℝ) : EReal) := fun k => by
    unfold direct
    rw [es, ← EReal.coe_mul]
  obtain ⟨w, hw'⟩ : ∃ w : ℝ, w = p * (-(1 / 2) * (s * v⁻¹)) * (1 / 4096) := ⟨_, rfl⟩
  rw [← hw'] at hw
  have ht : ∀ k, through (fun k => (x k : EReal)) (fun k => (y k : EReal)) k = ((w * (2 * off x k) : ℝ) : EReal) := fun k => by
    unfold through
    rw [hw, two, real_centred, ← EReal.coe_mul, ← EReal.coe_mul]
  have h1 : ∑ k, -direct (fun k => (x k : EReal)) (fun k => (y k : EReal)) k = ((-((∑ k, y k) * s) : ℝ) : EReal) := by
    rw [Finset.sum_mul, ← Finset.sum_neg_distrib, ← real_sum]
    refine Finset.sum_congr rfl fun k _ => ?_
    rw [hd, ← EReal.coe_neg]
  have h2 : ∑ k, -through (fun k => (x k : EReal)) (fun k => (y k : EReal)) k = ((0 : ℝ) : EReal) := by
    have e : ∑ k, -(w * (2 * off x k)) = 0 := by
      rw [Finset.sum_neg_distrib, ← Finset.mul_sum, ← Finset.mul_sum, off_sum]
      ring
    rw [← e, ← real_sum]
    refine Finset.sum_congr rfl fun k _ => ?_
    rw [ht, ← EReal.coe_neg]
  unfold gradient chained
  rw [h1, h2, hd, ht, hq, hn, es, real_mean, div_width, per_width]
  simp only [← EReal.coe_add, ← EReal.coe_mul, ← EReal.coe_sub]
  congr 1
  rw [hw', ← hsv]
  ring
end

/-- A row of the normed form's gradient: the incoming one times the gain. -/
def incoming (dy : (⟨2, ![4096, 4096]⟩ : Shape).Idx → EReal) (g : (⟨1, ![4096]⟩ : Shape).Idx → EReal) (R k : Fin 4096) : EReal := dy (pair R k) * g (single k)

/-- What a row adds to the gradient of the gain's entry `k`. -/
def gainTerm (dy z : (⟨2, ![4096, 4096]⟩ : Shape).Idx → EReal) (k R : Fin 4096) : EReal := dy (pair R k) * normed (row z R) k

/-- An infinite entry makes a row's sum infinite. -/
theorem infinite_sum (z : Fin 4096 → EReal) (k : Fin 4096) (h : z k = ⊤ ∨ z k = ⊥) : mean z = ⊤ ∨ mean z = ⊥ := by
  have hp : (0 : EReal) < ((1 / 4096 : ℝ) : EReal) := by exact_mod_cast (by norm_num : (0 : ℝ) < 1 / 4096)
  unfold mean
  rw [div_width, per_width, ← Finset.add_sum_erase _ z (Finset.mem_univ k)]
  generalize ∑ j ∈ Finset.univ.erase k, z j = r
  rcases h with h | h
  · rw [h]
    induction r with
    | bot => exact Or.inr (EReal.bot_mul_of_pos hp)
    | coe r => exact Or.inl (EReal.top_mul_of_pos hp)
    | top => exact Or.inl (EReal.top_mul_of_pos hp)
  · rw [h, EReal.bot_add]
    exact Or.inr (EReal.bot_mul_of_pos hp)

/-- Then every entry of the centred row is infinite, -/
theorem infinite_centred (z : Fin 4096 → EReal) (h : mean z = ⊤ ∨ mean z = ⊥) (k : Fin 4096) : centred z k * centred z k = ⊤ := by
  have e : centred z k = ⊤ ∨ centred z k = ⊥ := by
    unfold centred
    generalize z k = r
    rcases h with h | h
    · rw [h]
      induction r with
      | bot => exact Or.inr rfl
      | coe r => exact Or.inr rfl
      | top => exact Or.inr rfl
    · rw [h]
      induction r with
      | bot => exact Or.inr rfl
      | coe r => exact Or.inl rfl
      | top => exact Or.inl rfl
  rcases e with e | e
  · rw [e, EReal.top_mul_top]
  · rw [e, EReal.bot_mul_bot]

/-- the spread is infinite and the scale is zero. -/
theorem infinite_scale (z : Fin 4096 → EReal) (h : mean z = ⊤ ∨ mean z = ⊥) : spread z = ⊤ ∧ scale z = 0 := by
  have hp : (0 : EReal) < ((1 / 4096 : ℝ) : EReal) := by exact_mod_cast (by norm_num : (0 : ℝ) < 1 / 4096)
  obtain ⟨ε, hε, hs⟩ := slack
  have e : spread z = ⊤ := by
    unfold spread
    rw [div_width, per_width, hs, Finset.sum_congr rfl fun k _ => infinite_centred z h k, Finset.sum_const, Finset.card_univ, Fintype.card_fin]
    have t : (4096 : ℕ) • (⊤ : EReal) = ⊤ := by
      have : ∀ n : ℕ, (n + 1) • (⊤ : EReal) = ⊤ := fun n => by
        induction n with
        | zero => simp
        | succ n ih => rw [succ_nsmul, ih]; rfl
      exact this 4095
    rw [t, EReal.top_mul_of_pos hp]
    rfl
  refine ⟨e, ?_⟩
  show Ideal.rsqrt (spread z) = 0
  rw [e]
  rfl

/-- so both forms are zero. -/
theorem infinite_agree (z e : Fin 4096 → EReal) (h : mean z = ⊤ ∨ mean z = ⊥) (k : Fin 4096) : gradient z e k = chained z e k := by
  obtain ⟨hw, hs⟩ := infinite_scale z h
  have h0 : weight z e = 0 := by
    have q : FloatOps.divf (F := Ideal) (φ := .f32) (0 : EReal) (⊤ : EReal) = (0 : EReal) := by
      rw [Ideal.divf_def, Ideal.div, if_neg EReal.top_ne_zero]
      exact zero_mul _
    unfold weight
    rw [hs, hw, q, mul_zero, mul_zero, div_width, zero_mul]
  have hd : ∀ k, direct z e k = 0 := fun k => by
    unfold direct
    rw [hs, mul_zero]
  have ht : ∀ k, through z e k = 0 := fun k => by
    unfold through
    rw [h0, zero_mul]
  unfold gradient chained
  simp only [hd, ht, hs, neg_zero, Finset.sum_const_zero, zero_mul, add_zero, div_width]

theorem rows_agree (dy z : (⟨2, ![4096, 4096]⟩ : Shape).Idx → EReal) (g : (⟨1, ![4096]⟩ : Shape).Idx → EReal) (hdy : ∀ i, ((dy i).toReal : EReal) = dy i)
    (hg : ∀ i, ((g i).toReal : EReal) = g i) (R k : Fin 4096) : gradient (row z R) (incoming dy g R) k = chained (row z R) (incoming dy g R) k := by
  by_cases hz : ∃ k, row z R k = ⊤ ∨ row z R k = ⊥
  · obtain ⟨j, hj⟩ := hz
    exact infinite_agree _ _ (infinite_sum _ j hj) k
  have ez : row z R = fun k => (((z (pair R k)).toReal : ℝ) : EReal) := funext fun k =>
    (EReal.coe_toReal (fun h => hz ⟨k, Or.inl h⟩) (fun h => hz ⟨k, Or.inr h⟩)).symm
  have ee : incoming dy g R = fun k => (((dy (pair R k)).toReal * (g (single k)).toReal : ℝ) : EReal) := funext fun k => by
    rw [EReal.coe_mul, hdy, hg]
    rfl
  rw [ez, ee]
  exact gradient_eq_chained _ _ k

end Cert.Proof

end
-- ==== Proof.LnBwd.lean ====
/-
  The backward layer norm: each grid point takes 256 rows, stores the gradient with respect to them twice, the second time for the
  product that follows, and adds their shares of the gain's and the offset's gradients to the two rows it carries.
-/
module

public import proofs.«01_k».proof.Defs
public import proofs.«01_k».proof.Proof.NormGrad
public import proofs.«01_k».proof.Proof.Gen.LnBwd
public import proofs.«01_k».proof.Proof.Gen.LnBwdIdeal.Value
public import proofs.«01_k».proof.Proof.Gen.LnBwdRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.LnBwdIdeal.Back

open Cert.LnBwdIdeal Cert.LnBwdIdeal.Gen Cert.Proof

section
variable {F : FTy → Type} [FloatOps F] (m : (ℓ : Loc nD τ sig) → Buf (Elt F) ℓ)

/-- The first grid point starts both carried rows from zero. -/
theorem first (c : Dev nD) (t : Fin cfg0.N) (h0 : t.val % 16 = 0) : outsAt0 m c t.val t.isLt
    = (k0_pay9 (iblk m c 1 t) (iblk m c 0 t) (iblk m c 2 t), k0_pay1 (k0_pay9 (iblk m c 1 t) (iblk m c 0 t) (iblk m c 2 t)),
       k0_pay2 (iblk m c 0 t) (k0_pay8 (iblk m c 1 t)) k0_pay4, k0_pay3 (iblk m c 0 t) k0_pay5) := by
  rw [outsAt0_A m c t h0]
  refine Prod.ext ?_ (Prod.ext ?_ (Prod.ext ?_ ?_))
  · dsimp only
    unfold out0_A_4
    rw [View.read_writes_eq_canon _ _ _ (fun y => cover0_A_4 (y := y) ..)]
    unfold kernelRun0_A
    dsimp only
    sl_unfold_words
    rw [View.canon_cons_unit_zero zeros2]
    simp only [View.readAt_eq_ld, (hs0_0 t).read_unread, (hs0_1 t).read_unread, (hs0_2 t).read_unread, (hs0_6 t).read_unread, View.ld_unit_zero (S := S256x4096) zeros2, View.ld_unit_zero (S := S1x4096) zeros2]
  · dsimp only
    unfold out0_A_5
    rw [View.read_writes_eq_canon _ _ _ (fun y => cover0_A_5 (y := y) ..)]
    unfold kernelRun0_A
    dsimp only
    sl_unfold_words
    rw [View.canon_cons_unit_zero zeros2]
    simp only [View.readAt_eq_ld, (hs0_0 t).read_unread, (hs0_1 t).read_unread, (hs0_2 t).read_unread, (hs0_6 t).read_unread, View.ld_unit_zero (S := S256x4096) zeros2, View.ld_unit_zero (S := S1x4096) zeros2]
  · dsimp only
    unfold out0_A_6
    rw [View.read_writes_eq_canon _ _ _ (fun y => cover0_A_6 (y := y) ..)]
    unfold kernelRun0_A
    dsimp only
    sl_unfold_words
    rw [View.canon_cons_unit_zero zeros2]
    simp only [View.readAt_eq_ld, (hs0_0 t).read_unread, (hs0_1 t).read_unread, (hs0_2 t).read_unread, (hs0_6 t).read_unread, View.ld_unit_zero (S := S256x4096) zeros2, View.ld_unit_zero (S := S1x4096) zeros2]
    rw [View.readCov_unit_zero _ zeros2]
  · dsimp only
    unfold out0_A_7
    rw [View.read_writes_eq_canon _ _ _ (fun y => cover0_A_7 (y := y) ..)]
    unfold kernelRun0_A
    dsimp only
    sl_unfold_words
    rw [View.canon_cons_unit_zero zeros2]
    simp only [View.readAt_eq_ld, (hs0_0 t).read_unread, (hs0_1 t).read_unread, (hs0_2 t).read_unread, (hs0_7 t).read_unread, View.ld_unit_zero (S := S256x4096) zeros2, View.ld_unit_zero (S := S1x4096) zeros2]
    rw [View.readCov_unit_zero _ zeros2]

/-- Every other one adds to what the one before left. -/
theorem later (c : Dev nD) (t : Fin cfg0.N) (h0 : ¬ t.val % 16 = 0) : outsAt0 m c t.val t.isLt
    = (k0_pay9 (iblk m c 1 t) (iblk m c 0 t) (iblk m c 2 t), k0_pay1 (k0_pay9 (iblk m c 1 t) (iblk m c 0 t) (iblk m c 2 t)),
       k0_pay2 (iblk m c 0 t) (k0_pay8 (iblk m c 1 t)) (outsAt0 m c (t.val - 1) (Nat.lt_of_le_of_lt (Nat.sub_le _ _) t.isLt)).2.2.1,
       k0_pay3 (iblk m c 0 t) (outsAt0 m c (t.val - 1) (Nat.lt_of_le_of_lt (Nat.sub_le _ _) t.isLt)).2.2.2) := by
  rw [outsAt0_B m c t h0]
  refine Prod.ext ?_ (Prod.ext ?_ (Prod.ext ?_ ?_))
  · dsimp only
    unfold out0_B_4
    rw [View.read_writes_eq_canon _ _ _ (fun y => cover0_B_4 (y := y) ..)]
    unfold kernelRun0_B
    dsimp only
    sl_unfold_words
    rw [View.canon_cons_unit_zero zeros2]
    simp only [View.readAt_eq_ld, (hs0_0 t).read_unread, (hs0_1 t).read_unread, (hs0_2 t).read_unread, (hs0_6 t).read_unread, View.ld_unit_zero (S := S256x4096) zeros2, View.ld_unit_zero (S := S1x4096) zeros2]
  · dsimp only
    unfold out0_B_5
    rw [View.read_writes_eq_canon _ _ _ (fun y => cover0_B_5 (y := y) ..)]
    unfold kernelRun0_B
    dsimp only
    sl_unfold_words
    rw [View.canon_cons_unit_zero zeros2]
    simp only [View.readAt_eq_ld, (hs0_0 t).read_unread, (hs0_1 t).read_unread, (hs0_2 t).read_unread, (hs0_6 t).read_unread, View.ld_unit_zero (S := S256x4096) zeros2, View.ld_unit_zero (S := S1x4096) zeros2]
  · dsimp only
    unfold out0_B_6
    rw [View.read_writes_eq_canon _ _ _ (fun y => cover0_B_6 (y := y) ..)]
    unfold kernelRun0_B
    dsimp only
    sl_unfold_words
    rw [View.canon_cons_unit_zero zeros2]
    simp only [View.readAt_eq_ld, (hs0_0 t).read_unread, (hs0_1 t).read_unread, (hs0_2 t).read_unread, (hs0_6 t).read_unread, View.ld_unit_zero (S := S256x4096) zeros2, View.ld_unit_zero (S := S1x4096) zeros2]
  · dsimp only
    unfold out0_B_7
    rw [View.read_writes_eq_canon _ _ _ (fun y => cover0_B_7 (y := y) ..)]
    unfold kernelRun0_B
    dsimp only
    sl_unfold_words
    rw [View.canon_cons_unit_zero zeros2]
    simp only [View.readAt_eq_ld, (hs0_0 t).read_unread, (hs0_1 t).read_unread, (hs0_2 t).read_unread, (hs0_7 t).read_unread, View.ld_unit_zero (S := S256x4096) zeros2, View.ld_unit_zero (S := S1x4096) zeros2]
end

/-- The centred block, the scales and the normed block. -/
theorem centred_block (v3 : Vec Ideal S256x4096 .f32) (j : S256x4096.Idx) : k0_pay6 (F := Ideal) v3 j = centred (row v3 (j 0)) (j 1) := by
  unfold k0_pay6
  exact block_centred v3 _ _ _ _ _ j
theorem scale_block (v3 : Vec Ideal S256x4096 .f32) (i : S256x1.Idx) : k0_pay7 (F := Ideal) v3 i = scale (row v3 (i 0)) := by
  unfold k0_pay7
  exact block_scale _ _ _ _ _ (row v3 (i 0)) i fun k => centred_block v3 (pair (i 0) k)
theorem normed_block (v3 : Vec Ideal S256x4096 .f32) (j : S256x4096.Idx) : k0_pay8 (F := Ideal) v3 j = normed (row v3 (j 0)) (j 1) := by
  unfold k0_pay8
  refine congrArg₂ (fun x y : EReal => x * y) (centred_block v3 j) ?_
  exact (spread_column (by decide) _ _ j).trans (scale_block v3 _)

/-- The gradient a grid point stores, at an index. -/
theorem payload (v3 v4 : Vec Ideal S256x4096 .f32) (v21 : Vec Ideal S1x4096 .f32) (j : S256x4096.Idx) :
    k0_pay9 (F := Ideal) v3 v4 v21 j = gradient (row v3 (j 0)) (fun k => v4 (pair (j 0) k) * v21 (pair 0 k)) (j 1) := by
  unfold k0_pay9
  dsimp only
  simp only [shapeCast_self]
  have e : ∀ j : S256x4096.Idx, (mulf v4 (broadcastTo S256x4096 v21 broadcasts_S1x4096_S256x4096) : FVec Ideal S256x4096 .f32) j = v4 (pair (j 0) (j 1)) * v21 (pair 0 (j 1)) := fun j =>
    congrArg₂ (fun x y : EReal => x * y) (congrArg v4 (pair_eta j).symm) (spread_row (by decide) v21 broadcasts_S1x4096_S256x4096 j)
  refine congrArg₂ (fun x y : EReal => x * y) ?_ (congrArg₂ (fun x y : EReal => x - y) (congrArg₂ (fun x y : EReal => x - y) (e j) ?_) (congrArg₂ (fun x y : EReal => x * y) (normed_block v3 j) ?_))
  · exact (spread_column (by decide) _ _ j).trans (scale_block v3 _)
  · refine (spread_column (by decide) _ _ j).trans ?_
    refine congrArg₂ (FloatOps.divf (F := Ideal) (φ := .f32)) ?_ rfl
    refine (row_sums _ _ _ _ _ _).trans (Finset.sum_congr rfl fun k _ => ?_)
    exact e _
  · refine (spread_column (by decide) _ _ j).trans ?_
    refine congrArg₂ (FloatOps.divf (F := Ideal) (φ := .f32)) ?_ rfl
    refine (row_sums _ _ _ _ _ _).trans (Finset.sum_congr rfl fun k _ => ?_)
    exact congrArg₂ (fun x y : EReal => x * y) (e _) (normed_block v3 _)

/-- What a grid point adds to the gain's gradient, and to the offset's. -/
theorem gain_share (v4 v20 : Vec Ideal S256x4096 .f32) (v : Vec Ideal S1x4096 .f32) (j : S1x4096.Idx) :
    k0_pay2 (F := Ideal) v4 v20 v j = v j + ∑ r : Fin 256, v4 (pair r (j 1)) * v20 (pair r (j 1)) := by
  unfold k0_pay2
  dsimp only
  rw [shapeCast_self]
  exact congrArg (v j + ·) (col_sums _ _ _ _ _ j)
theorem offset_share (v4 : Vec Ideal S256x4096 .f32) (v : Vec Ideal S1x4096 .f32) (j : S1x4096.Idx) :
    k0_pay3 (F := Ideal) v4 v j = v j + ∑ r : Fin 256, v4 (pair r (j 1)) := by
  unfold k0_pay3
  dsimp only
  rw [shapeCast_self]
  exact congrArg (v j + ·) (col_sums _ _ _ _ _ j)

end Cert.LnBwdIdeal.Back

namespace Cert.LnBwdRefIdeal.Back

open Cert.LnBwdRefIdeal Cert.LnBwdRefIdeal.Read Cert.Proof

variable (x0 x1 : Vec Ideal S4096x4096 .f32) (x2 : Vec Ideal S4096 .f32)

theorem less_means (i : S4096x4096.Idx) : val_main_v15 (F := Ideal) x1 i = centred (row x1 (i 0)) (i 1) := Cert.LnFwdRefIdeal.Rows.less_means x1 i
theorem less_means' (i : S4096x4096.Idx) : val_main_v6 (F := Ideal) x1 i = centred (row x1 (i 0)) (i 1) := Cert.LnFwdRefIdeal.Rows.less_means x1 i
theorem scales (i : S4096x1.Idx) : val_main_v18 (F := Ideal) x1 i = scale (row x1 (i 0)) := Cert.LnFwdRefIdeal.Rows.scales x1 i
theorem norms (i : S4096x4096.Idx) : val_main_v23 (F := Ideal) x1 i = normed (row x1 (i 0)) (i 1) := Cert.LnFwdRefIdeal.Rows.norms x1 i

theorem spreads (i : S4096x1.Idx) : val_main_v17 (F := Ideal) x1 i = spread (row x1 (i 0)) := by
  rw [val_main_v17_apply, val_main_v13_apply, val_main_v11_apply, val_main_v10_apply, val_main_v12_apply, val_main_v16_apply]
  refine congrArg₂ (fun x y : EReal => x + y) (congrArg₂ (FloatOps.divf (F := Ideal) (φ := .f32)) ?_ rfl) rfl
  refine (congrArg (· + _) Ideal.ofBits_zero_f32).trans ((zero_add _).trans (Finset.sum_congr rfl fun k _ => ?_))
  rw [val_main_v7_apply, less_means']
  rfl

/-- The incoming gradient, found again behind a change of shape. -/
theorem arrives (i : S4096x4096.Idx) : val_main_v30 (F := Ideal) x0 i = x0 (pair (i 0) (i 1)) := by
  rw [val_main_v30_apply]
  have h1 : (i 1).val < 4096 := (i 1).isLt
  refine congrArg x0 (funext fun a => Fin.ext ?_)
  match a with
  | ⟨0, _⟩ => show ((i 0).val * 4096 + (i 1).val) / 4096 = (i 0).val; omega
  | ⟨1, _⟩ => show ((i 0).val * 4096 + (i 1).val) % 4096 = (i 1).val; omega

theorem incomings (i : S4096x4096.Idx) : val_main_v38 (F := Ideal) x0 x2 i = incoming x0 x2 (i 0) (i 1) := by
  rw [val_main_v38_apply, arrives, val_main_v37_apply, val_main_v24_apply]
  refine congrArg (fun y : EReal => _ * y) (congrArg x2 (funext fun a => Fin.ext ?_))
  match a with
  | ⟨0, _⟩ => rfl

theorem directs (i : S4096x4096.Idx) : val_main_v44 (F := Ideal) x0 x1 x2 i = direct (row x1 (i 0)) (incoming x0 x2 (i 0)) (i 1) := by
  rw [val_main_v44_apply, incomings, val_main_v43_apply, scales]
  rfl

theorem forms (i : S4096x4096.Idx) : val_main_v40 (F := Ideal) x0 x1 x2 i = centred (row x1 (i 0)) (i 1) * incoming x0 x2 (i 0) (i 1) := by
  rw [val_main_v40_apply, less_means, incomings]
  rfl

theorem weights (i : S4096x1.Idx) : val_main_v50 (F := Ideal) x0 x1 x2 i = weight (row x1 (i 0)) (incoming x0 x2 (i 0)) := by
  rw [val_main_v50_apply, val_main_v45_apply, val_main_v42_apply, val_main_v41_apply, val_main_v21_apply, val_main_v20_apply, val_main_v19_apply, scales, spreads, val_main_v49_apply]
  refine congrArg₂ (FloatOps.divf (F := Ideal) (φ := .f32)) (congrArg₂ (fun x y : EReal => x * y) ?_ rfl) rfl
  refine (congrArg (· + _) Ideal.ofBits_zero_f32).trans ((zero_add _).trans (Finset.sum_congr rfl fun k _ => ?_))
  have h1 : (i 1).val < 1 := (i 1).isLt
  have e : idx_main_v41 (idx_main_v42 i) k = pair (i 0) k := funext fun a => Fin.ext (by
    match a with
    | ⟨0, _⟩ => show (i 0).val * 1 + (i 1).val = (i 0).val; omega
    | ⟨1, _⟩ => rfl)
  exact (congrArg (val_main_v40 (F := Ideal) x0 x1 x2) e).trans (forms x0 x1 x2 _)

theorem throughs (i : S4096x4096.Idx) : val_main_v53 (F := Ideal) x0 x1 x2 i = through (row x1 (i 0)) (incoming x0 x2 (i 0)) (i 1) := by
  rw [val_main_v53_apply, val_main_v52_apply, val_main_v51_apply, val_main_v9_apply, val_main_v8_apply, less_means']
  refine congrArg₂ (fun x y : EReal => x * y) ?_ rfl
  refine (congrArg (· + _) Ideal.ofBits_zero_f32).trans ((zero_add _).trans ?_)
  rw [Fin.sum_univ_one, weights]
  rfl

/-- The reference's gradient with respect to its input. -/
theorem gradients (i : S4096x4096.Idx) : val_main_v63 (F := Ideal) x0 x1 x2 i = chained (row x1 (i 0)) (incoming x0 x2 (i 0)) (i 1) := by
  rw [val_main_v63_apply, val_main_v57_apply, directs, throughs, val_main_v62_apply, val_main_v61_apply]
  refine congrArg (fun y : EReal => direct (row x1 (i 0)) (incoming x0 x2 (i 0)) (i 1) + through (row x1 (i 0)) (incoming x0 x2 (i 0)) (i 1) + y) ?_
  refine (congrArg (· + _) Ideal.ofBits_zero_f32).trans ((zero_add _).trans ?_)
  rw [Fin.sum_univ_one, val_main_v60_apply, val_main_v59_apply, val_main_v58_apply, val_main_v48_apply, val_main_v47_apply, val_main_v56_apply, val_main_v55_apply]
  refine congrArg₂ (FloatOps.divf (F := Ideal) (φ := .f32)) (congrArg₂ (fun x y : EReal => x + y) ?_ ?_) rfl
  · refine (congrArg (· + _) Ideal.ofBits_zero_f32).trans ((zero_add _).trans (Finset.sum_congr rfl fun k _ => ?_))
    have e : idx_main_v47 (idx_main_v48 (idx_main_v61 (idx_main_v62 i) 0)) k = pair (i 0) k := funext fun a => Fin.ext (by
      match a with
      | ⟨0, _⟩ => first | rfl | (show (i 0).val * 1 + 0 = (i 0).val; omega)
      | ⟨1, _⟩ => rfl)
    rw [val_main_v46_apply]
    exact congrArg (fun y : EReal => -y) ((congrArg (val_main_v44 (F := Ideal) x0 x1 x2) e).trans (directs x0 x1 x2 _))
  · refine (congrArg (· + _) Ideal.ofBits_zero_f32).trans ((zero_add _).trans (Finset.sum_congr rfl fun k _ => ?_))
    have e : idx_main_v55 (idx_main_v56 (idx_main_v61 (idx_main_v62 i) 0)) k = pair (i 0) k := funext fun a => Fin.ext (by
      match a with
      | ⟨0, _⟩ => first | rfl | (show (i 0).val * 1 + 0 = (i 0).val; omega)
      | ⟨1, _⟩ => rfl)
    rw [val_main_v54_apply]
    exact congrArg (fun y : EReal => -y) ((congrArg (val_main_v53 (F := Ideal) x0 x1 x2) e).trans (throughs x0 x1 x2 _))

theorem shares (i : S4096x4096.Idx) : val_main_v34 (F := Ideal) x0 x1 i = gainTerm x0 x1 (i 1) (i 0) := by
  rw [val_main_v34_apply, norms, arrives]
  exact mul_comm (G := EReal) _ _

theorem gains (i : S1x4096.Idx) : val_main_v65 (F := Ideal) x0 x1 i = ∑ R, gainTerm x0 x1 (i 1) R := by
  rw [val_main_v65_apply, val_main_v39_apply, Fin.sum_univ_one, val_main_v36_apply, val_main_v35_apply]
  refine (congrArg (· + _) Ideal.ofBits_zero_f32).trans ((zero_add _).trans ?_)
  refine (congrArg (· + _) Ideal.ofBits_zero_f32).trans ((zero_add _).trans (Finset.sum_congr rfl fun k _ => ?_))
  have e : idx_main_v35 (idx_main_v36 (idx_main_v39 (idx_main_v65 i) 0)) k = pair k (i 1) := funext fun a => Fin.ext (by
    match a with
    | ⟨0, _⟩ => rfl
    | ⟨1, _⟩ => show 0 * 4096 + (i 1).val = (i 1).val; omega)
  exact (congrArg (val_main_v34 (F := Ideal) x0 x1) e).trans (shares x0 x1 _)

theorem offsets (i : S1x4096.Idx) : val_main_v66 (F := Ideal) x0 i = ∑ R, x0 (pair R (i 1)) := by
  rw [val_main_v66_apply, val_main_v33_apply, Fin.sum_univ_one, val_main_v32_apply, val_main_v31_apply]
  refine (congrArg (· + _) Ideal.ofBits_zero_f32).trans ((zero_add _).trans ?_)
  refine (congrArg (· + _) Ideal.ofBits_zero_f32).trans ((zero_add _).trans (Finset.sum_congr rfl fun k _ => congrArg x0 (funext fun a => Fin.ext ?_)))
  match a with
  | ⟨0, _⟩ => rfl
  | ⟨1, _⟩ => show 0 * 4096 + (i 1).val = (i 1).val; omega

end Cert.LnBwdRefIdeal.Back

namespace Cert.LnBwdIdeal.Back

open Cert.LnBwdIdeal Cert.LnBwdIdeal.Gen Cert.Proof
open Cert.LnBwdRefIdeal.Read (val_main_v63 val_main_v64 val_main_v65 val_main_v66)

variable (m : (ℓ : Loc nD τ sig) → Buf (Elt Ideal) ℓ) (ρ : Dev nD → PrngReg)

/-- The gain the region finds is the argument, laid along a row. -/
theorem gain (c : Dev nD) (k : Fin 4096) : V m c main_v0 (pair 0 k) = m ((c : Thread nD τ).loc main_arg2) (single k) := by
  have h : V m c main_v0 = (broadcastInDim S1x4096 ![1] bcast_S4096_S1x4096_1 (m ((c : Thread nD τ).loc main_arg2)) : Vec Ideal S1x4096 .f32) := by
    unfold V
    after_results
  rw [h]
  refine (Cert.LnFwdRefIdeal.Read.val_main_v18_apply (F := Ideal) (m ((c : Thread nD τ).loc main_arg2)) (pair 0 k)).trans (congrArg _ (funext fun a => Fin.ext ?_))
  match a with
  | ⟨0, _⟩ => rfl

/-- The blocks each grid point reads and writes. -/
theorem bands : ∀ t : Fin cfg0.N, win0_0.index t 0 = t.val ∧ win0_0.index t 1 = 0 ∧ win0_1.index t 0 = t.val ∧ win0_1.index t 1 = 0 ∧ win0_2.index t 0 = 0 ∧ win0_2.index t 1 = 0
      ∧ win0_4.index t 0 = t.val ∧ win0_4.index t 1 = 0 ∧ win0_5.index t 0 = t.val ∧ win0_5.index t 1 = 0 ∧ (cfg0.win 4).flush t = true ∧ (cfg0.win 5).flush t = true
      ∧ win0_6.index t 0 = 0 ∧ win0_6.index t 1 = 0 ∧ win0_7.index t 0 = 0 ∧ win0_7.index t 1 = 0 :=
  (by decide +kernel : ∀ t : Fin grid0.N, win0_0.index t 0 = t.val ∧ win0_0.index t 1 = 0 ∧ win0_1.index t 0 = t.val ∧ win0_1.index t 1 = 0 ∧ win0_2.index t 0 = 0 ∧ win0_2.index t 1 = 0
      ∧ win0_4.index t 0 = t.val ∧ win0_4.index t 1 = 0 ∧ win0_5.index t 0 = t.val ∧ win0_5.index t 1 = 0 ∧ (cfg0.win 4).flush t = true ∧ (cfg0.win 5).flush t = true
      ∧ win0_6.index t 0 = 0 ∧ win0_6.index t 1 = 0 ∧ win0_7.index t 0 = 0 ∧ win0_7.index t 1 = 0)

theorem band_lt (t : Fin cfg0.N) (r : Fin 256) : t.val * 256 + r.val < 4096 := by
  have h : t.val < 16 := t.isLt
  omega

/-- Row `r` of grid point `t`'s blocks. -/
theorem block_incoming (c : Dev nD) (t : Fin cfg0.N) (r : Fin 256) (k : Fin 4096) :
    iblk m c 0 t (pair r k) = m ((c : Thread nD τ).loc main_arg0) (pair ⟨t.val * 256 + r.val, band_lt t r⟩ k) := by
  unfold iblk
  rw [View.read_apply]
  show V m c main_arg0 _ = m ((c : Thread nD τ).loc main_arg0) _
  rw [V_main_arg0]
  refine congrArg (m ((c : Thread nD τ).loc main_arg0)) (funext fun a => Fin.ext ?_)
  obtain ⟨h0, h1, -⟩ := bands t
  match a with
  | ⟨0, _⟩ => show win0_0.index t 0 * 256 + 1 * r.val = t.val * 256 + r.val; rw [h0]; omega
  | ⟨1, _⟩ => show win0_0.index t 1 * 4096 + 1 * k.val = k.val; rw [h1]; omega

theorem block_row (c : Dev nD) (t : Fin cfg0.N) (r : Fin 256) (k : Fin 4096) :
    iblk m c 1 t (pair r k) = row (m ((c : Thread nD τ).loc main_arg1)) ⟨t.val * 256 + r.val, band_lt t r⟩ k := by
  unfold iblk
  rw [View.read_apply]
  show V m c main_arg1 _ = m ((c : Thread nD τ).loc main_arg1) _
  rw [V_main_arg1]
  refine congrArg (m ((c : Thread nD τ).loc main_arg1)) (funext fun a => Fin.ext ?_)
  obtain ⟨-, -, h0, h1, -⟩ := bands t
  match a with
  | ⟨0, _⟩ => show win0_1.index t 0 * 256 + 1 * r.val = t.val * 256 + r.val; rw [h0]; omega
  | ⟨1, _⟩ => show win0_1.index t 1 * 4096 + 1 * k.val = k.val; rw [h1]; omega

theorem block_gain (c : Dev nD) (t : Fin cfg0.N) (k : Fin 4096) : iblk m c 2 t (pair 0 k) = m ((c : Thread nD τ).loc main_arg2) (single k) := by
  unfold iblk
  rw [View.read_apply]
  refine Eq.trans (congrArg (V m c main_v0) (funext fun a => Fin.ext ?_)) (gain m c k)
  obtain ⟨-, -, -, -, h0, h1, -⟩ := bands t
  match a with
  | ⟨0, _⟩ => show win0_2.index t 0 * 1 + 1 * 0 = 0; rw [h0]
  | ⟨1, _⟩ => show win0_2.index t 1 * 4096 + 1 * k.val = k.val; rw [h1]; omega

/-- A grid point's gradients are its rows of them. -/
theorem block_gradient (c : Dev nD) (t : Fin cfg0.N) (j : S256x4096.Idx) :
    k0_pay9 (F := Ideal) (iblk m c 1 t) (iblk m c 0 t) (iblk m c 2 t) j
      = gradient (row (m ((c : Thread nD τ).loc main_arg1)) ⟨t.val * 256 + (j 0).val, band_lt t (j 0)⟩)
          (incoming (m ((c : Thread nD τ).loc main_arg0)) (m ((c : Thread nD τ).loc main_arg2)) ⟨t.val * 256 + (j 0).val, band_lt t (j 0)⟩) (j 1) := by
  refine (payload (iblk m c 1 t) (iblk m c 0 t) (iblk m c 2 t) j).trans ?_
  have f1 := funext (block_row m c t (j 0))
  exact congr (congrArg₂ gradient f1 (funext fun k => congrArg₂ (fun x y : EReal => x * y) (block_incoming m c t (j 0) k) (block_gain m c t k))) rfl

/-- The gain's and the offset's gradients after each grid point. -/
theorem carried_gain (c : Dev nD) (j : S1x4096.Idx) : ∀ (n : ℕ) (hn : n < cfg0.N), (outsAt0 m c n hn).2.2.1 j
    = ∑ t ∈ Finset.range (n + 1), ∑ r : Fin 256, atRow (gainTerm (m ((c : Thread nD τ).loc main_arg0)) (m ((c : Thread nD τ).loc main_arg1)) (j 1)) (t * 256 + r.val) := by
  have e : ∀ (t : Fin cfg0.N) (v : Vec Ideal S1x4096 .f32), k0_pay2 (F := Ideal) (iblk m c 0 t) (k0_pay8 (iblk m c 1 t)) v j
      = v j + ∑ r : Fin 256, atRow (gainTerm (m ((c : Thread nD τ).loc main_arg0)) (m ((c : Thread nD τ).loc main_arg1)) (j 1)) (t.val * 256 + r.val) := fun t v => by
    refine (gain_share _ _ v j).trans (congrArg (v j + ·) (Finset.sum_congr rfl fun r _ => ?_))
    unfold atRow
    rw [dif_pos (band_lt t r)]
    refine congrArg₂ (fun x y : EReal => x * y) (block_incoming m c t r (j 1)) ((normed_block _ _).trans ?_)
    exact congrArg (fun f => normed f (j 1)) (funext (block_row m c t r))
  intro n
  induction n with
  | zero =>
    intro hn
    rw [first m c ⟨0, hn⟩ rfl, Finset.sum_range_one]
    refine (e ⟨0, hn⟩ _).trans ?_
    exact (congrArg (· + _) Ideal.ofBits_zero_f32).trans (zero_add _)
  | succ n ih =>
    intro hn
    have h : (n + 1) < 16 := hn
    rw [Finset.sum_range_succ, ← ih (Nat.lt_of_succ_lt hn)]
    have l := later m c ⟨n + 1, hn⟩ (by dsimp only; omega)
    dsimp only at l
    rw [l]
    exact e ⟨n + 1, hn⟩ _

theorem carried_offset (c : Dev nD) (j : S1x4096.Idx) : ∀ (n : ℕ) (hn : n < cfg0.N), (outsAt0 m c n hn).2.2.2 j
    = ∑ t ∈ Finset.range (n + 1), ∑ r : Fin 256, atRow (fun R => m ((c : Thread nD τ).loc main_arg0) (pair R (j 1))) (t * 256 + r.val) := by
  have e : ∀ (t : Fin cfg0.N) (v : Vec Ideal S1x4096 .f32), k0_pay3 (F := Ideal) (iblk m c 0 t) v j
      = v j + ∑ r : Fin 256, atRow (fun R => m ((c : Thread nD τ).loc main_arg0) (pair R (j 1))) (t.val * 256 + r.val) := fun t v => by
    refine (offset_share _ v j).trans (congrArg (v j + ·) (Finset.sum_congr rfl fun r _ => ?_))
    unfold atRow
    rw [dif_pos (band_lt t r)]
    exact block_incoming m c t r (j 1)
  intro n
  induction n with
  | zero =>
    intro hn
    rw [first m c ⟨0, hn⟩ rfl, Finset.sum_range_one]
    refine (e ⟨0, hn⟩ _).trans ?_
    exact (congrArg (· + _) Ideal.ofBits_zero_f32).trans (zero_add _)
  | succ n ih =>
    intro hn
    have h : (n + 1) < 16 := hn
    rw [Finset.sum_range_succ, ← ih (Nat.lt_of_succ_lt hn)]
    have l := later m c ⟨n + 1, hn⟩ (by dsimp only; omega)
    dsimp only at l
    rw [l]
    exact e ⟨n + 1, hn⟩ _

/-- What the precondition says of the arguments. -/
structure Finite (c : Dev nD) : Prop where
  dy : ∀ i, (EReal.toReal (m ((c : Thread nD τ).loc main_arg0) i) : EReal) = m ((c : Thread nD τ).loc main_arg0) i
  g : ∀ i, (EReal.toReal (m ((c : Thread nD τ).loc main_arg2) i) : EReal) = m ((c : Thread nD τ).loc main_arg2) i

/-- The stored gradients are the reference's where the incoming gradient and the gain are real. -/
theorem stored (c : Dev nD) (hr : Finite m c) (t : Fin cfg0.N) (j : S256x4096.Idx) (i : S4096x4096.Idx) (h0 : (i 0).val = t.val * 256 + (j 0).val) (h1 : (i 1).val = (j 1).val) :
    (outsAt0 m c t.val t.isLt).1 j = val_main_v63 (F := Ideal) (m ((c : Thread nD τ).loc main_arg0)) (m ((c : Thread nD τ).loc main_arg1)) (m ((c : Thread nD τ).loc main_arg2)) i
      ∧ (outsAt0 m c t.val t.isLt).2.1 j = val_main_v63 (F := Ideal) (m ((c : Thread nD τ).loc main_arg0)) (m ((c : Thread nD τ).loc main_arg1)) (m ((c : Thread nD τ).loc main_arg2)) i := by
  have e : (outsAt0 m c t.val t.isLt).1 = k0_pay9 (iblk m c 1 t) (iblk m c 0 t) (iblk m c 2 t)
      ∧ (outsAt0 m c t.val t.isLt).2.1 = k0_pay1 (k0_pay9 (iblk m c 1 t) (iblk m c 0 t) (iblk m c 2 t)) := by
    by_cases h0 : t.val % 16 = 0
    · rw [first m c t h0]
      exact ⟨rfl, rfl⟩
    · rw [later m c t h0]
      exact ⟨rfl, rfl⟩
  have g : k0_pay9 (F := Ideal) (iblk m c 1 t) (iblk m c 0 t) (iblk m c 2 t) j
      = val_main_v63 (F := Ideal) (m ((c : Thread nD τ).loc main_arg0)) (m ((c : Thread nD τ).loc main_arg1)) (m ((c : Thread nD τ).loc main_arg2)) i := by
    rw [block_gradient, Cert.LnBwdRefIdeal.Back.gradients]
    have e0 : (⟨t.val * 256 + (j 0).val, band_lt t (j 0)⟩ : Fin 4096) = i 0 := Fin.ext h0.symm
    have e1 : (j 1 : Fin 4096) = i 1 := Fin.ext h1.symm
    rw [e0]
    refine (congrArg (gradient (row (m ((c : Thread nD τ).loc main_arg1)) (i 0)) (incoming (m ((c : Thread nD τ).loc main_arg0)) (m ((c : Thread nD τ).loc main_arg2)) (i 0))) e1).trans ?_
    exact rows_agree _ _ _ hr.dy hr.g (i 0) (i 1)
  rw [e.1, e.2]
  exact ⟨g, g⟩

theorem final4 (c : Dev nD) (hr : Finite m c) : (dats m 0 c).arrAt 4 cfg0.N = val_main_v63 (F := Ideal) (m ((c : Thread nD τ).loc main_arg0)) (m ((c : Thread nD τ).loc main_arg1)) (m ((c : Thread nD τ).loc main_arg2)) :=
  (dats m 0 c).arrAt_eq_of_cover 4 _ (fun t _ => funext fun j => by
    obtain ⟨-, -, -, -, -, -, h, h', -, -, f, -⟩ := bands t
    rw [View.read_apply, Value.flushed4]
    refine (stored m c hr t j _ ?_ ?_).1
    · show win0_4.index t 0 * 256 + 1 * (j 0).val = t.val * 256 + (j 0).val
      rw [h]; omega
    · show win0_4.index t 1 * 4096 + 1 * (j 1).val = (j 1).val
      rw [h']; omega) fun i => by
    have i0 : (i 0 : Nat) < 4096 := (i 0).isLt
    have i1 : (i 1 : Nat) < 4096 := (i 1).isLt
    let t : Fin cfg0.N := ⟨(i 0 : Nat) / 256, by show _ < 16; omega⟩
    obtain ⟨-, -, -, -, -, -, h, h', -, -, f, -⟩ := bands t
    refine ⟨t, f, ?_⟩
    show i ∈ ((View.whole main_v2_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [h]; dsimp only [t]; omega
    | ⟨1, _⟩ => show win0_4.index t 1 * 4096 ≤ (i 1 : Nat) ∧ (i 1 : Nat) < win0_4.index t 1 * 4096 + 4096
                rw [h']; omega

theorem final5 (c : Dev nD) (hr : Finite m c) : (dats m 0 c).arrAt 5 cfg0.N = val_main_v64 (F := Ideal) (m ((c : Thread nD τ).loc main_arg0)) (m ((c : Thread nD τ).loc main_arg1)) (m ((c : Thread nD τ).loc main_arg2)) :=
  (dats m 0 c).arrAt_eq_of_cover 5 _ (fun t _ => funext fun j => by
    obtain ⟨-, -, -, -, -, -, -, -, h, h', -, f, -⟩ := bands t
    rw [View.read_apply, Value.flushed5]
    refine (stored m c hr t j _ ?_ ?_).2
    · show win0_5.index t 0 * 256 + 1 * (j 0).val = t.val * 256 + (j 0).val
      rw [h]; omega
    · show win0_5.index t 1 * 4096 + 1 * (j 1).val = (j 1).val
      rw [h']; omega) fun i => by
    have i0 : (i 0 : Nat) < 4096 := (i 0).isLt
    have i1 : (i 1 : Nat) < 4096 := (i 1).isLt
    let t : Fin cfg0.N := ⟨(i 0 : Nat) / 256, by show _ < 16; omega⟩
    obtain ⟨-, -, -, -, -, -, -, -, h, h', -, f, -⟩ := bands t
    refine ⟨t, f, ?_⟩
    show i ∈ ((View.whole main_v2_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [h]; dsimp only [t]; omega
    | ⟨1, _⟩ => show win0_5.index t 1 * 4096 ≤ (i 1 : Nat) ∧ (i 1 : Nat) < win0_5.index t 1 * 4096 + 4096
                rw [h']; omega

/-- Only the last grid point writes the carried rows. -/
theorem last : ∀ t : Fin cfg0.N, ((cfg0.win 6).flush t = true → t.val = 15) ∧ ((cfg0.win 7).flush t = true → t.val = 15) :=
  (by decide +kernel : ∀ t : Fin grid0.N, ((cfg0.win 6).flush t = true → t.val = 15) ∧ ((cfg0.win 7).flush t = true → t.val = 15))
theorem last_flushes : (cfg0.win 6).flush (⟨15, by decide⟩ : Fin grid0.N) = true ∧ (cfg0.win 7).flush (⟨15, by decide⟩ : Fin grid0.N) = true := by decide +kernel

theorem final6 (c : Dev nD) : (dats m 0 c).arrAt 6 cfg0.N = val_main_v65 (F := Ideal) (m ((c : Thread nD τ).loc main_arg0)) (m ((c : Thread nD τ).loc main_arg1)) :=
  (dats m 0 c).arrAt_eq_of_cover 6 _ (fun t hf => funext fun j => by
    obtain ⟨-, -, -, -, -, -, -, -, -, -, -, -, h, h', -⟩ := bands t
    rw [View.read_apply, Cert.LnBwdRefIdeal.Back.gains, Value.flushed6]
    refine (carried_gain m c j t.val t.isLt).trans ?_
    rw [(last t).1 hf, all_atRow]
    have e : ((((cfg0.win 6).blk t).view.emb j) 1 : Fin 4096) = j 1 := Fin.ext (by
      show win0_6.index t 1 * 4096 + 1 * (j 1).val = (j 1).val
      rw [h']; omega)
    rw [e]
    rfl) fun i => by
    have i0 : (i 0 : Nat) < 1 := (i 0).isLt
    have i1 : (i 1 : Nat) < 4096 := (i 1).isLt
    let t : Fin cfg0.N := ⟨15, by decide⟩
    obtain ⟨-, -, -, -, -, -, -, -, -, -, -, -, h, h', -⟩ := bands t
    refine ⟨t, last_flushes.1, ?_⟩
    show i ∈ ((View.whole main_v2_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [h]; omega
    | ⟨1, _⟩ => show win0_6.index t 1 * 4096 ≤ (i 1 : Nat) ∧ (i 1 : Nat) < win0_6.index t 1 * 4096 + 4096
                rw [h']; omega

theorem final7 (c : Dev nD) : (dats m 0 c).arrAt 7 cfg0.N = val_main_v66 (F := Ideal) (m ((c : Thread nD τ).loc main_arg0)) :=
  (dats m 0 c).arrAt_eq_of_cover 7 _ (fun t hf => funext fun j => by
    obtain ⟨-, -, -, -, -, -, -, -, -, -, -, -, -, -, h, h'⟩ := bands t
    rw [View.read_apply, Cert.LnBwdRefIdeal.Back.offsets, Value.flushed7]
    refine (carried_offset m c j t.val t.isLt).trans ?_
    rw [(last t).2 hf, all_atRow]
    have e : ((((cfg0.win 7).blk t).view.emb j) 1 : Fin 4096) = j 1 := Fin.ext (by
      show win0_7.index t 1 * 4096 + 1 * (j 1).val = (j 1).val
      rw [h']; omega)
    rw [e]
    rfl) fun i => by
    have i0 : (i 0 : Nat) < 1 := (i 0).isLt
    have i1 : (i 1 : Nat) < 4096 := (i 1).isLt
    let t : Fin cfg0.N := ⟨15, by decide⟩
    obtain ⟨-, -, -, -, -, -, -, -, -, -, -, -, -, -, h, h'⟩ := bands t
    refine ⟨t, last_flushes.2, ?_⟩
    show i ∈ ((View.whole main_v2_3).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [h]; omega
    | ⟨1, _⟩ => show win0_7.index t 1 * 4096 ≤ (i 1 : Nat) ∧ (i 1 : Nat) < win0_7.index t 1 * 4096 + 4096
                rw [h']; omega

end Cert.LnBwdIdeal.Back

namespace Cert.Proof.LnBwd

/-- The two programs have one body table, read at the machine's floats. -/
theorem bodies : @Cert.LnBwd.defs₀ Bits _ _ = @Cert.LnBwdIdeal.defs₀ Bits _ _ := by
  unfold Cert.LnBwd.defs₀ Cert.LnBwdIdeal.defs₀
  refine congrArg Defs.onTc (funext fun l => ?_)
  match l with
  | 0 => rfl
theorem table : @Cert.LnBwd.defs Bits _ _ = @Cert.LnBwdIdeal.defs Bits _ _ := congrArg (Pipeline.defs _) bodies

theorem frame_kernel : Cert.quiescent_LnBwd := fun m ρ _ => by
  rw [table]
  exact Cert.LnBwdIdeal.Gen.frame (F := Bits) m ρ
theorem frame_ideal : Cert.quiescent_LnBwdIdeal := fun m ρ _ => Cert.LnBwdIdeal.Gen.frame m ρ
theorem frame_ref : Cert.quiescent_LnBwdRefIdeal := fun m ρ _ =>
  (θ_run Cert.LnBwdRefIdeal.defs _ _).mono
    (fun r h => ⟨fun c => (h c).2.2.2.2, Idealize.ShloMosaic.sem_eq_zero_of_no_sems (by decide) r.2⟩)
    (Cert.LnBwdRefIdeal.Value.run (F := Ideal) m ρ)

/-- The precondition's shapes fit. -/
theorem pre_facts : Cert.Pre_finite.Facts := ⟨by decide, by decide⟩

variable [hPre_finite : Cert.Pre_finite.Facts]

/-- Under the precondition the incoming gradient's and the gain's entries are real. -/
theorem entries (m : (ℓ : Loc Cert.LnBwdIdeal.nD Cert.LnBwdIdeal.τ Cert.LnBwdIdeal.sig) → Buf (Elt Ideal) ℓ) (h : Cert.Pre_LnBwdIdeal_finite m) (c : Dev Cert.LnBwdIdeal.nD) :
    Cert.LnBwdIdeal.Back.Finite m c where
  dy i := real_of_below _ (congrFun (h c).1 i)
  g i := real_of_below _ (congrFun (h c).2 i)

theorem frame_ideal_pre : Cert.quiescent_LnBwdIdeal_pre_finite := fun m ρ _ => Cert.LnBwdIdeal.Gen.frame m ρ
theorem frame_ref_pre : Cert.quiescent_LnBwdRefIdeal_pre_finite := fun m ρ _ =>
  (θ_run Cert.LnBwdRefIdeal.defs _ _).mono
    (fun r h => ⟨fun c => (h c).2.2.2.2, Idealize.ShloMosaic.sem_eq_zero_of_no_sems (by decide) r.2⟩)
    (Cert.LnBwdRefIdeal.Value.run (F := Ideal) m ρ)

theorem value : Cert.algebraic_LnBwdIdeal_LnBwdRefIdeal_pre_finite := fun m ρ m' ρ' hp hag =>
  ⟨fun c => Cert.LnBwdRefIdeal.Read.val_main_v63 (F := Ideal) (m ((c.tc : Thread _ _).loc Cert.LnBwdIdeal.main_arg0)) (m ((c.tc : Thread _ _).loc Cert.LnBwdIdeal.main_arg1)) (m ((c.tc : Thread _ _).loc Cert.LnBwdIdeal.main_arg2)),
    fun c => Cert.LnBwdRefIdeal.Read.val_main_v64 (F := Ideal) (m ((c.tc : Thread _ _).loc Cert.LnBwdIdeal.main_arg0)) (m ((c.tc : Thread _ _).loc Cert.LnBwdIdeal.main_arg1)) (m ((c.tc : Thread _ _).loc Cert.LnBwdIdeal.main_arg2)),
    fun c => Cert.LnBwdRefIdeal.Read.val_main_v65 (F := Ideal) (m ((c.tc : Thread _ _).loc Cert.LnBwdIdeal.main_arg0)) (m ((c.tc : Thread _ _).loc Cert.LnBwdIdeal.main_arg1)),
    fun c => Cert.LnBwdRefIdeal.Read.val_main_v66 (F := Ideal) (m ((c.tc : Thread _ _).loc Cert.LnBwdIdeal.main_arg0)),
    (θ_run Cert.LnBwdIdeal.defs _ _).mono
      (fun _ h c => ⟨(h c).1.trans (Cert.LnBwdIdeal.Back.final4 m c (entries m hp c)), (h c).2.1.trans (Cert.LnBwdIdeal.Back.final5 m c (entries m hp c)),
        (h c).2.2.1.trans (Cert.LnBwdIdeal.Back.final6 m c), (h c).2.2.2.1.trans (Cert.LnBwdIdeal.Back.final7 m c), (h c).2.2.2.2⟩)
      (Cert.LnBwdIdeal.Value.run_blocks m ρ),
    (θ_run Cert.LnBwdRefIdeal.defs _ _).mono
      (fun _ h c => ⟨(h c).1.trans ((Cert.LnBwdRefIdeal.Read.val_main_v63_eq _ _).trans (by rw [(hag c).1, (hag c).2.1, (hag c).2.2])),
        (h c).2.1.trans ((Cert.LnBwdRefIdeal.Read.val_main_v64_eq _ _).trans (by rw [(hag c).1, (hag c).2.1, (hag c).2.2])),
        (h c).2.2.1.trans ((Cert.LnBwdRefIdeal.Read.val_main_v65_eq _ _).trans (by rw [(hag c).1, (hag c).2.1])),
        (h c).2.2.2.1.trans ((Cert.LnBwdRefIdeal.Read.val_main_v66_eq _).trans (by rw [(hag c).1])), (h c).2.2.2.2⟩)
      (Cert.LnBwdRefIdeal.Value.run m' ρ')⟩

end Cert.Proof.LnBwd

end
-- ==== Proof.Layers.lean ====
/-
  An array of four layers of which one is updated: the optimiser's call for the first layer of a sharded weight writes
  that layer's rows of its results and leaves the other three as it found them.

  Here are the update of one number, an array with one layer new, and the two ways in which such an array is met: joined
  from the new layer and the old three, and filled row band by row band.
-/
module

public import Idealize.ShloMosaic.Lib.Pipeline.Value
public import Idealize.ShloMosaic.PureOps.Ideal.Laws

@[expose] public section

noncomputable section

open Idealize.ShloMosaic

namespace Cert.Proof.Layers

theorem zeros3 : (![0, 0, 0] : Fin 3 → Nat) = fun _ => 0 := funext fun a => by fin_cases a <;> rfl

/-- `l` layers of `R` rows of 4096 numbers. -/
abbrev cube (l R : Nat) : Shape := ⟨3, ![l, R, 4096]⟩

/-- Number `k` of row `b` of layer `a`. -/
def spot {l R : Nat} (a : Fin l) (b : Fin R) (k : Fin 4096) : (cube l R).Idx := fun x => match x with
  | ⟨0, _⟩ => a
  | ⟨1, _⟩ => b
  | ⟨2, _⟩ => k

theorem spot_eta {l R : Nat} (i : (cube l R).Idx) : spot (i 0) (i 1) (i 2) = i := funext fun x => match x with
  | ⟨0, _⟩ => rfl
  | ⟨1, _⟩ => rfl
  | ⟨2, _⟩ => rfl

/-- Two indices with the same coordinates are one. -/
theorem spot_ext {l R : Nat} {i j : (cube l R).Idx} (h0 : (i 0).val = (j 0).val) (h1 : (i 1).val = (j 1).val) (h2 : (i 2).val = (j 2).val) : i = j :=
  funext fun x => Fin.ext (match x with
    | ⟨0, _⟩ => h0
    | ⟨1, _⟩ => h1
    | ⟨2, _⟩ => h2)

/-- The gradient of a weight: this device's part and the parts of the three other groups. -/
def grad (s f0 f1 f2 : EReal) : EReal := s + (f0 + f1 + f2)

/-- The parts may be added one after another. -/
theorem grad_in_turn (s f0 f1 f2 : EReal) : s + f0 + f1 + f2 = grad s f0 f1 f2 := by
  unfold grad
  simp only [add_assoc]

/-- The new first moment. -/
def first (v g : EReal) : EReal := Ideal.ofBits .f32 0x3F666666#32 * v + Ideal.ofBits .f32 0x3DCCCCCD#32 * g
/-- The new second moment. -/
def second (v g : EReal) : EReal := Ideal.ofBits .f32 0x3F7FBE77#32 * v + Ideal.ofBits .f32 0x3A83126F#32 * (g * g)
/-- The update of a weight `w` with new moments `a` and `b`. -/
def update (w a b : EReal) : EReal := Ideal.ofBits .f32 0xBA83126F#32 * (FloatOps.divf (F := Ideal) (φ := .f32)
    (FloatOps.divf (F := Ideal) (φ := .f32) a (Ideal.ofBits .f32 0x3F26BD02#32))
    (FloatOps.sqrt (F := Ideal) (φ := .f32) (FloatOps.divf (F := Ideal) (φ := .f32) b (Ideal.ofBits .f32 0x3C231ACC#32)) + Ideal.ofBits .f32 0x322BCC77#32)
  + Ideal.ofBits .f32 0x3C23D70A#32 * w)

section
variable {R : Nat} (w m v s : (cube 4 R).Idx → EReal) (f : (cube 3 R).Idx → EReal) (b : Fin R) (k : Fin 4096)

/-- The four results for a number of the first layer, from the arrays of the weight, its moments and its gradient's parts. -/
def gradAt : EReal := grad (s (spot 0 b k)) (f (spot 0 b k)) (f (spot 1 b k)) (f (spot 2 b k))
def firstAt : EReal := first (m (spot 0 b k)) (gradAt s f b k)
def secondAt : EReal := second (v (spot 0 b k)) (gradAt s f b k)
def updateAt : EReal := update (w (spot 0 b k)) (firstAt m s f b k) (secondAt v s f b k)
end

/-- The array with a new first layer. -/
def layered {R : Nat} (new : Fin R → Fin 4096 → EReal) (old : (cube 4 R).Idx → EReal) : (cube 4 R).Idx → EReal :=
  fun i => if (i 0).val = 0 then new (i 1) (i 2) else old i

/-- Joining the new layer to the last three of the old array. -/
theorem joined {R : Nat} (new : (cube 1 R).Idx → EReal) (old : (cube 4 R).Idx → EReal) (hs : (cube 4 R).Slices ![1, 0, 0] (cube 3 R))
    (h : Shape.Concatenates [cube 1 R, cube 3 R] (cube 4 R) 0) :
    concatenate (cube 4 R) 0 [⟨cube 1 R, new⟩, ⟨cube 3 R, extractStridedSlice (cube 3 R) ![1, 0, 0] old hs⟩] h = layered (fun b k => new (spot 0 b k)) old := by
  funext i
  unfold layered
  have i0 : (i 0).val < 4 := (i 0).isLt
  split
  · rename_i e
    exact concatenate_pair_apply_left 0 new _ h i rfl (spot 0 (i 1) (i 2)) (fun x => match x with
      | ⟨0, _⟩ => e.symm
      | ⟨1, _⟩ => rfl
      | ⟨2, _⟩ => rfl)
  · rename_i e
    refine (concatenate_pair_apply_right 0 new _ h i rfl rfl (spot ⟨(i 0).val - 1, by omega⟩ (i 1) (i 2)) (fun x => match x with
      | ⟨0, _⟩ => fun n => absurd rfl n
      | ⟨1, _⟩ => fun _ => rfl
      | ⟨2, _⟩ => fun _ => rfl) (by show (i 0).val - 1 + 1 = (i 0).val; omega)).trans ?_
    exact extractStridedSlice_apply ![1, 0, 0] old hs _ i (fun x => match x with
      | ⟨0, _⟩ => by show (i 0).val = 1 + ((i 0).val - 1); omega
      | ⟨1, _⟩ => (Nat.zero_add _).symm
      | ⟨2, _⟩ => (Nat.zero_add _).symm)

/-- An array whose first layer is filled by bands of rows, and whose other layers are the old ones. -/
theorem banded {N r R : Nat} (hR : R = N * r) (new : Fin R → Fin 4096 → EReal) (old A : (cube 4 R).Idx → EReal)
    (hb : ∀ (t : Fin N) (j : (cube 1 r).Idx) (b : Fin R), b.val = t.val * r + (j 1).val → A (spot 0 b (j 2)) = new b (j 2))
    (hr : ∀ i : (cube 4 R).Idx, (i 0).val ≠ 0 → A i = old i) : A = layered new old := by
  funext i
  unfold layered
  split
  · rename_i e
    have i1 : (i 1).val < N * r := lt_of_lt_of_eq (i 1).isLt hR
    have hrp : 0 < r := by
      rcases Nat.eq_zero_or_pos r with h | h
      · rw [h, Nat.mul_zero] at i1; exact absurd i1 (Nat.not_lt_zero _)
      · exact h
    refine Eq.trans (congrArg A ?_) (hb ⟨(i 1).val / r, Nat.div_lt_of_lt_mul (lt_of_lt_of_eq i1 (Nat.mul_comm _ _))⟩
      (spot 0 ⟨(i 1).val % r, Nat.mod_lt _ hrp⟩ (i 2)) (i 1) (Nat.div_add_mod' _ _).symm)
    exact spot_ext e rfl rfl
  · exact hr i (by assumption)

/-- An element of band `t` of the first layer, by the coordinates a window gives it. -/
theorem in_band {r R : Nat} {ix : Fin 3 → Nat} {t : Nat} (h : ∀ a, ix a = ![0, t, 0] a) (j : (cube 1 r).Idx) (b : Fin R) (hb : b.val = t * r + (j 1).val)
    (i : (cube 4 R).Idx) (h0 : (i 0).val = ix 0 * 1 + 1 * (j 0).val) (h1 : (i 1).val = ix 1 * r + 1 * (j 1).val) (h2 : (i 2).val = ix 2 * 4096 + 1 * (j 2).val) :
    i = spot 0 b (j 2) := by
  have j0 : (j 0).val < 1 := (j 0).isLt
  have e0 : ix 0 = 0 := h 0
  have e1 : ix 1 = t := h 1
  have e2 : ix 2 = 0 := h 2
  rw [e0] at h0
  rw [e1] at h1
  rw [e2] at h2
  exact spot_ext (by show (i 0).val = 0; omega) (by show (i 1).val = b.val; omega) (by show (i 2).val = (j 2).val; omega)

/-- The same of part `n` of the far groups' gradients, taken out of the block of the three. -/
theorem in_far_band {r R : Nat} {ix : Fin 3 → Nat} {t : Nat} (h : ∀ a, ix a = ![0, t, 0] a) (n : Fin 3) (j : (cube 1 r).Idx) (b : Fin R) (hb : b.val = t * r + (j 1).val)
    (i : (cube 3 R).Idx) (h0 : (i 0).val = ix 0 * 3 + 1 * (n.val + 1 * (j 0).val)) (h1 : (i 1).val = ix 1 * r + 1 * (0 + 1 * (j 1).val))
    (h2 : (i 2).val = ix 2 * 4096 + 1 * (0 + 1 * (j 2).val)) :
    i = spot n b (j 2) := by
  have j0 : (j 0).val < 1 := (j 0).isLt
  have e0 : ix 0 = 0 := h 0
  have e1 : ix 1 = t := h 1
  have e2 : ix 2 = 0 := h 2
  rw [e0] at h0
  rw [e1] at h1
  rw [e2] at h2
  exact spot_ext (by show (i 0).val = n.val; omega) (by show (i 1).val = b.val; omega) (by show (i 2).val = (j 2).val; omega)

end Cert.Proof.Layers

end
-- ==== Proof.AdamwIn.lean ====
/-
  The optimiser of the input weights: from the weight, its two moments, this device's part of the gradient and the parts
  of the three other groups, the call for the first layer makes that layer's gradient, update and new moments, and leaves
  the other three layers of the four result arrays as they were handed over.

  The kernel works on bands of 112 rows.
-/
module

public import proofs.«01_k».proof.Defs
public import proofs.«01_k».proof.Proof.Common
public import proofs.«01_k».proof.Proof.Layers
public import proofs.«01_k».proof.Proof.Gen.AdamwIn
public import proofs.«01_k».proof.Proof.Gen.AdamwInIdeal.Value
public import proofs.«01_k».proof.Proof.Gen.AdamwInRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.AdamwInRefIdeal.Layer

open Cert.AdamwInRefIdeal Cert.AdamwInRefIdeal.Read Cert.Proof.Layers

variable (w m v : (⟨S4x1344x4096, .f32⟩ : BufTy).Contents (Elt Ideal)) (s : (⟨S4x1344x4096, .bf16⟩ : BufTy).Contents (Elt Ideal))
  (f : (⟨S3x1344x4096, .bf16⟩ : BufTy).Contents (Elt Ideal)) (b : Fin 1344) (k : Fin 4096)

theorem grads : val_main_v6 (F := Ideal) s f (spot 0 b k) = gradAt s f b k := by
  rw [val_main_v6_apply, val_main_v2_apply, val_main_v1_apply, val_main_v5_apply, val_main_v4_apply, Fin.sum_univ_three]
  refine congrArg₂ (· + ·) (congrArg s (spot_ext rfl rfl rfl)) ?_
  refine (congrArg (· + _) Ideal.ofBits_zero_f32).trans ((zero_add _).trans ?_)
  exact congrArg₂ (· + ·) (congrArg₂ (· + ·) (congrArg f (spot_ext rfl rfl rfl)) (congrArg f (spot_ext rfl rfl rfl))) (congrArg f (spot_ext rfl rfl rfl))

theorem firsts : val_main_v13 (F := Ideal) m s f (spot 0 b k) = firstAt m s f b k := by
  rw [val_main_v13_apply, val_main_v12_apply, val_main_v10_apply, grads, val_main_v7_apply]
  exact congrArg (fun x => first x (gradAt s f b k)) (congrArg m (spot_ext rfl rfl rfl))

theorem seconds : val_main_v19 (F := Ideal) v s f (spot 0 b k) = secondAt v s f b k := by
  rw [val_main_v19_apply, val_main_v18_apply, val_main_v16_apply, val_main_v15_apply, grads, val_main_v8_apply]
  exact congrArg (fun x => second x (gradAt s f b k)) (congrArg v (spot_ext rfl rfl rfl))

theorem updates : val_main_v32 (F := Ideal) w m v s f (spot 0 b k) = updateAt w m v s f b k := by
  rw [val_main_v32_apply, val_main_v30_apply, val_main_v27_apply, val_main_v21_apply, val_main_v26_apply, val_main_v24_apply, val_main_v23_apply,
    val_main_v29_apply, firsts, seconds, val_main_v0_apply]
  exact congrArg (fun x => update x (firstAt m s f b k) (secondAt v s f b k)) (congrArg w (spot_ext rfl rfl rfl))

variable (old : (⟨S4x1344x4096, .f32⟩ : BufTy).Contents (Elt Ideal))

theorem grad_array : val_main_v34 (F := Ideal) s f old = layered (gradAt s f) old :=
  (joined _ old _ _).trans (congrArg (layered · old) (funext fun b => funext fun k => grads s f b k))
theorem update_array : val_main_v36 (F := Ideal) w m v s f old = layered (updateAt w m v s f) old :=
  (joined _ old _ _).trans (congrArg (layered · old) (funext fun b => funext fun k => updates w m v s f b k))
theorem first_array : val_main_v38 (F := Ideal) m s f old = layered (firstAt m s f) old :=
  (joined _ old _ _).trans (congrArg (layered · old) (funext fun b => funext fun k => firsts m s f b k))
theorem second_array : val_main_v40 (F := Ideal) v s f old = layered (secondAt v s f) old :=
  (joined _ old _ _).trans (congrArg (layered · old) (funext fun b => funext fun k => seconds v s f b k))

end Cert.AdamwInRefIdeal.Layer

namespace Cert.AdamwInIdeal.Layer

open Cert.AdamwInIdeal Cert.AdamwInIdeal.Gen Cert.Proof Cert.Proof.Layers

variable (m : (ℓ : Loc nD τ sig) → Buf (Elt Ideal) ℓ) (ρ : Dev nD → PrngReg)

/-- The arguments by what they are. -/
abbrev weight (c : Dev nD) : (cube 4 1344).Idx → EReal := m ((c : Thread nD τ).loc main_arg0)
abbrev moment (c : Dev nD) : (cube 4 1344).Idx → EReal := m ((c : Thread nD τ).loc main_arg1)
abbrev square (c : Dev nD) : (cube 4 1344).Idx → EReal := m ((c : Thread nD τ).loc main_arg2)
abbrev near (c : Dev nD) : (cube 4 1344).Idx → EReal := m ((c : Thread nD τ).loc main_arg3)
abbrev far (c : Dev nD) : (cube 3 1344).Idx → EReal := m ((c : Thread nD τ).loc main_arg4)

/-- Point `t` works on band `t` of the first layer's rows, and writes its four results back. -/
theorem bands : ∀ t : Fin cfg0.N, (∀ a, win0_0.index t a = ![0, t.val, 0] a) ∧ (∀ a, win0_1.index t a = ![0, t.val, 0] a)
    ∧ (∀ a, win0_2.index t a = ![0, t.val, 0] a) ∧ (∀ a, win0_3.index t a = ![0, t.val, 0] a) ∧ (∀ a, win0_4.index t a = ![0, t.val, 0] a)
    ∧ (∀ a, win0_5.index t a = ![0, t.val, 0] a) ∧ (∀ a, win0_6.index t a = ![0, t.val, 0] a)
    ∧ (∀ a, win0_7.index t a = ![0, t.val, 0] a) ∧ (∀ a, win0_8.index t a = ![0, t.val, 0] a)
    ∧ (cfg0.win 5).flush t = true ∧ (cfg0.win 6).flush t = true ∧ (cfg0.win 7).flush t = true ∧ (cfg0.win 8).flush t = true :=
  (by decide +kernel : ∀ t : Fin grid0.N, (∀ a, win0_0.index t a = ![0, t.val, 0] a) ∧ (∀ a, win0_1.index t a = ![0, t.val, 0] a)
    ∧ (∀ a, win0_2.index t a = ![0, t.val, 0] a) ∧ (∀ a, win0_3.index t a = ![0, t.val, 0] a) ∧ (∀ a, win0_4.index t a = ![0, t.val, 0] a)
    ∧ (∀ a, win0_5.index t a = ![0, t.val, 0] a) ∧ (∀ a, win0_6.index t a = ![0, t.val, 0] a)
    ∧ (∀ a, win0_7.index t a = ![0, t.val, 0] a) ∧ (∀ a, win0_8.index t a = ![0, t.val, 0] a)
    ∧ (cfg0.win 5).flush t = true ∧ (cfg0.win 6).flush t = true ∧ (cfg0.win 7).flush t = true ∧ (cfg0.win 8).flush t = true)

section
variable (c : Dev nD) (t : Fin cfg0.N) (j : S1x112x4096.Idx) (b : Fin 1344) (hb : b.val = t.val * 112 + (j 1).val)
include hb

/-- What the windows' blocks hold. -/
theorem block0 : iblk m c 0 t j = weight m c (spot 0 b (j 2)) := by
  unfold iblk
  rw [View.read_apply]
  exact (congrFun (V_main_arg0 m c) _).trans (congrArg (weight m c) (in_band (bands t).1 j b hb _ rfl rfl rfl))
theorem block1 : iblk m c 1 t j = moment m c (spot 0 b (j 2)) := by
  unfold iblk
  rw [View.read_apply]
  exact (congrFun (V_main_arg1 m c) _).trans (congrArg (moment m c) (in_band (bands t).2.1 j b hb _ rfl rfl rfl))
theorem block2 : iblk m c 2 t j = square m c (spot 0 b (j 2)) := by
  unfold iblk
  rw [View.read_apply]
  exact (congrFun (V_main_arg2 m c) _).trans (congrArg (square m c) (in_band (bands t).2.2.1 j b hb _ rfl rfl rfl))
theorem block3 : iblk m c 3 t j = near m c (spot 0 b (j 2)) := by
  unfold iblk
  rw [View.read_apply]
  exact (congrFun (V_main_arg3 m c) _).trans (congrArg (near m c) (in_band (bands t).2.2.2.1 j b hb _ rfl rfl rfl))
theorem block4 (n : Fin 3) (h) : View.ld (iblk m c 4 t) (Rect.unit (s := S3x112x4096) ![n.val, 0, 0] S1x112x4096.size h) j = far m c (spot n b (j 2)) := by
  unfold View.ld iblk
  rw [View.read_apply]
  exact (congrFun (V_main_arg4 m c) _).trans (congrArg (far m c) (in_far_band (bands t).2.2.2.2.1 n j b hb _ rfl rfl rfl))
end

/-- One of the three far parts in the block of point `t`. -/
abbrev part (c : Dev nD) (t : Fin cfg0.N) (n : Nat) (h : ∀ a, (![n, 0, 0] : Fin 3 → Nat) a + S1x112x4096.size a ≤ S3x112x4096.size a) : Vec Ideal S1x112x4096 .bf16 :=
  View.ld (iblk m c 4 t) (Rect.unit (s := S3x112x4096) ![n, 0, 0] S1x112x4096.size h)

/-- The gradient, first moment, second moment and update that point `t` makes. -/
abbrev newGrad (c : Dev nD) (t : Fin cfg0.N) : Vec Ideal S1x112x4096 .f32 :=
  k0_pay2 (iblk m c 3 t) (part m c t 0 inb_S3x112x4096_S1x112x4096_0_0_0) (part m c t 1 inb_S3x112x4096_S1x112x4096_1_0_0) (part m c t 2 inb_S3x112x4096_S1x112x4096_2_0_0)
abbrev newFirst (c : Dev nD) (t : Fin cfg0.N) : Vec Ideal S1x112x4096 .f32 :=
  k0_pay3 (iblk m c 3 t) (part m c t 0 inb_S3x112x4096_S1x112x4096_0_0_0) (part m c t 1 inb_S3x112x4096_S1x112x4096_1_0_0) (part m c t 2 inb_S3x112x4096_S1x112x4096_2_0_0) (iblk m c 1 t)
abbrev newSecond (c : Dev nD) (t : Fin cfg0.N) : Vec Ideal S1x112x4096 .f32 :=
  k0_pay4 (iblk m c 3 t) (part m c t 0 inb_S3x112x4096_S1x112x4096_0_0_0) (part m c t 1 inb_S3x112x4096_S1x112x4096_1_0_0) (part m c t 2 inb_S3x112x4096_S1x112x4096_2_0_0) (iblk m c 2 t)
abbrev newUpdate (c : Dev nD) (t : Fin cfg0.N) : Vec Ideal S1x112x4096 .f32 :=
  k0_pay1
    (k0_pay5 (iblk m c 3 t) (part m c t 0 inb_S3x112x4096_S1x112x4096_0_0_0) (part m c t 1 inb_S3x112x4096_S1x112x4096_1_0_0) (part m c t 2 inb_S3x112x4096_S1x112x4096_2_0_0) (iblk m c 1 t))
    (k0_pay6 (iblk m c 3 t) (part m c t 0 inb_S3x112x4096_S1x112x4096_0_0_0) (part m c t 1 inb_S3x112x4096_S1x112x4096_1_0_0) (part m c t 2 inb_S3x112x4096_S1x112x4096_2_0_0) (iblk m c 2 t))
    (FloatOps.ofBits .f32 0x322BCC77#32) (iblk m c 0 t)

/-- What point `t` leaves in its four blocks. -/
theorem left (c : Dev nD) (t : Fin cfg0.N) : outsAt0 m c t = (newGrad m c t, newUpdate m c t, newFirst m c t, newSecond m c t) := by
  unfold outsAt0
  refine Prod.ext ?_ (Prod.ext ?_ (Prod.ext ?_ ?_))
  · dsimp only
    unfold out0_A_5
    rw [View.read_writes_eq_canon _ _ _ (fun y => cover0_A_5 (y := y) ..)]
    unfold kernelRun0_A
    dsimp only
    sl_unfold_words
    rw [View.canon_unit_zero zeros3]
    simp only [View.readAt_eq_ld, (hs0_3 t).read_unread, (hs0_4 t).read_unread, View.ld_unit_zero (S := S1x112x4096) zeros3]
    rfl
  · dsimp only
    unfold out0_A_6
    rw [View.read_writes_eq_canon _ _ _ (fun y => cover0_A_6 (y := y) ..)]
    unfold kernelRun0_A
    dsimp only
    sl_unfold_words
    rw [View.canon_unit_zero zeros3]
    simp only [View.readAt_eq_ld, (hs0_0 t).read_unread, (hs0_1 t).read_unread, (hs0_2 t).read_unread, (hs0_3 t).read_unread, (hs0_4 t).read_unread, View.ld_unit_zero (S := S1x112x4096) zeros3]
    rfl
  · dsimp only
    unfold out0_A_7
    rw [View.read_writes_eq_canon _ _ _ (fun y => cover0_A_7 (y := y) ..)]
    unfold kernelRun0_A
    dsimp only
    sl_unfold_words
    rw [View.canon_unit_zero zeros3]
    simp only [View.readAt_eq_ld, (hs0_1 t).read_unread, (hs0_3 t).read_unread, (hs0_4 t).read_unread, View.ld_unit_zero (S := S1x112x4096) zeros3]
    rfl
  · dsimp only
    unfold out0_A_8
    rw [View.read_writes_eq_canon _ _ _ (fun y => cover0_A_8 (y := y) ..)]
    unfold kernelRun0_A
    dsimp only
    sl_unfold_words
    rw [View.canon_unit_zero zeros3]
    simp only [View.readAt_eq_ld, (hs0_2 t).read_unread, (hs0_3 t).read_unread, (hs0_4 t).read_unread, View.ld_unit_zero (S := S1x112x4096) zeros3]
    rfl

section
variable (c : Dev nD) (t : Fin cfg0.N) (j : S1x112x4096.Idx) (b : Fin 1344) (hb : b.val = t.val * 112 + (j 1).val)
include hb

/-- … and these are the update of the numbers of band `t`. -/
theorem gradient : newGrad m c t j = gradAt (near m c) (far m c) b (j 2) := by
  refine Eq.trans ?_ (grad_in_turn _ _ _ _)
  exact congrArg₂ (fun x y : EReal => x + y) (congrArg₂ (fun x y : EReal => x + y) (congrArg₂ (fun x y : EReal => x + y) (block3 m c t j b hb)
    (block4 m c t j b hb 0 _)) (block4 m c t j b hb 1 _)) (block4 m c t j b hb 2 _)

theorem firstMoment : newFirst m c t j = firstAt (moment m c) (near m c) (far m c) b (j 2) := by
  refine Eq.trans (b := first (iblk m c 1 t j) (newGrad m c t j)) rfl ?_
  rw [gradient m c t j b hb, block1 m c t j b hb]
  rfl

theorem secondMoment : newSecond m c t j = secondAt (square m c) (near m c) (far m c) b (j 2) := by
  refine Eq.trans (b := second (iblk m c 2 t j) (newGrad m c t j)) rfl ?_
  rw [gradient m c t j b hb, block2 m c t j b hb]
  rfl

theorem weightUpdate : newUpdate m c t j = updateAt (weight m c) (moment m c) (square m c) (near m c) (far m c) b (j 2) := by
  refine Eq.trans (b := update (iblk m c 0 t j) (newFirst m c t j) (newSecond m c t j)) rfl ?_
  rw [firstMoment m c t j b hb, secondMoment m c t j b hb, block0 m c t j b hb]
  rfl
end

/-- The result arrays start as the arrays handed over. -/
theorem start5 (c : Dev nD) : V m c main_v0_0 = m ((c : Thread nD τ).loc main_arg5) := by
  unfold V
  after_results
  rfl
theorem start6 (c : Dev nD) : V m c main_v0_1 = m ((c : Thread nD τ).loc main_arg6) := by
  unfold V
  after_results
  rfl
theorem start7 (c : Dev nD) : V m c main_v0_2 = m ((c : Thread nD τ).loc main_arg7) := by
  unfold V
  after_results
  rfl
theorem start8 (c : Dev nD) : V m c main_v0_3 = m ((c : Thread nD τ).loc main_arg8) := by
  unfold V
  after_results
  rfl

/-- A block that starts at the first layer and is one layer thick holds nothing of the others. -/
theorem outside {i : S4x1344x4096.Idx} (hi : (i 0).val ≠ 0) {o : Fin 3 → Nat} {t : Nat} (h : ∀ a, o a = ![0, t, 0] a)
    (hm : ∀ a, o a * S1x112x4096.size a ≤ (i a : Nat) ∧ (i a : Nat) < o a * S1x112x4096.size a + S1x112x4096.size a) : False := by
  have e : (i 0 : Nat) < o 0 * 1 + 1 := (hm 0).2
  have e0 : o 0 = 0 := h 0
  rw [e0] at e
  exact hi (by omega)

theorem rows_N : 1344 = cfg0.N * 112 := by rw [show cfg0.N = 12 from N_0]

/-- The gradient array: the first layer new, the others as handed over. -/
theorem final5 (c : Dev nD) : (dats m 0 c).arrAt 5 cfg0.N = layered (gradAt (near m c) (far m c)) (m ((c : Thread nD τ).loc main_arg5)) :=
  banded rows_N _ _ _ (fun t j b hb => by
    have h := congrFun (Value.blocks5 m c t (bands t).2.2.2.2.2.2.2.2.2.1) j
    rw [View.read_apply] at h
    refine (congrArg ((dats m 0 c).arrAt 5 cfg0.N) (in_band (bands t).2.2.2.2.2.1 j b hb _ rfl rfl rfl).symm).trans (h.trans ?_)
    rw [Value.flushed5, left]
    exact gradient m c t j b hb) fun i hi => by
    rw [Value.entry5 m c i fun t _ hm => outside hi (bands t).2.2.2.2.2.1 (by
      change i ∈ ((View.whole main_v0_0).slice (win0_5.rect t)).set at hm
      rwa [View.set_slice_whole, Rect.mem_set_unit] at hm)]
    exact congrFun (start5 m c) i

/-- The update likewise, … -/
theorem final6 (c : Dev nD) : (dats m 0 c).arrAt 6 cfg0.N = layered (updateAt (weight m c) (moment m c) (square m c) (near m c) (far m c)) (m ((c : Thread nD τ).loc main_arg6)) :=
  banded rows_N _ _ _ (fun t j b hb => by
    have h := congrFun (Value.blocks6 m c t (bands t).2.2.2.2.2.2.2.2.2.2.1) j
    rw [View.read_apply] at h
    refine (congrArg ((dats m 0 c).arrAt 6 cfg0.N) (in_band (bands t).2.2.2.2.2.2.1 j b hb _ rfl rfl rfl).symm).trans (h.trans ?_)
    rw [Value.flushed6, left]
    exact weightUpdate m c t j b hb) fun i hi => by
    rw [Value.entry6 m c i fun t _ hm => outside hi (bands t).2.2.2.2.2.2.1 (by
      change i ∈ ((View.whole main_v0_1).slice (win0_6.rect t)).set at hm
      rwa [View.set_slice_whole, Rect.mem_set_unit] at hm)]
    exact congrFun (start6 m c) i

/-- … the first moment, … -/
theorem final7 (c : Dev nD) : (dats m 0 c).arrAt 7 cfg0.N = layered (firstAt (moment m c) (near m c) (far m c)) (m ((c : Thread nD τ).loc main_arg7)) :=
  banded rows_N _ _ _ (fun t j b hb => by
    have h := congrFun (Value.blocks7 m c t (bands t).2.2.2.2.2.2.2.2.2.2.2.1) j
    rw [View.read_apply] at h
    refine (congrArg ((dats m 0 c).arrAt 7 cfg0.N) (in_band (bands t).2.2.2.2.2.2.2.1 j b hb _ rfl rfl rfl).symm).trans (h.trans ?_)
    rw [Value.flushed7, left]
    exact firstMoment m c t j b hb) fun i hi => by
    rw [Value.entry7 m c i fun t _ hm => outside hi (bands t).2.2.2.2.2.2.2.1 (by
      change i ∈ ((View.whole main_v0_2).slice (win0_7.rect t)).set at hm
      rwa [View.set_slice_whole, Rect.mem_set_unit] at hm)]
    exact congrFun (start7 m c) i

/-- … and the second. -/
theorem final8 (c : Dev nD) : (dats m 0 c).arrAt 8 cfg0.N = layered (secondAt (square m c) (near m c) (far m c)) (m ((c : Thread nD τ).loc main_arg8)) :=
  banded rows_N _ _ _ (fun t j b hb => by
    have h := congrFun (Value.blocks8 m c t (bands t).2.2.2.2.2.2.2.2.2.2.2.2) j
    rw [View.read_apply] at h
    refine (congrArg ((dats m 0 c).arrAt 8 cfg0.N) (in_band (bands t).2.2.2.2.2.2.2.2.1 j b hb _ rfl rfl rfl).symm).trans (h.trans ?_)
    rw [Value.flushed8, left]
    exact secondMoment m c t j b hb) fun i hi => by
    rw [Value.entry8 m c i fun t _ hm => outside hi (bands t).2.2.2.2.2.2.2.2.1 (by
      change i ∈ ((View.whole main_v0_3).slice (win0_8.rect t)).set at hm
      rwa [View.set_slice_whole, Rect.mem_set_unit] at hm)]
    exact congrFun (start8 m c) i

end Cert.AdamwInIdeal.Layer

namespace Cert.Proof.AdamwIn

/-- The two programs have one body table, read at the machine's floats. -/
theorem bodies : @Cert.AdamwIn.defs₀ Bits _ _ = @Cert.AdamwInIdeal.defs₀ Bits _ _ := by
  unfold Cert.AdamwIn.defs₀ Cert.AdamwInIdeal.defs₀
  refine congrArg Defs.onTc (funext fun l => ?_)
  match l with
  | 0 => rfl
theorem table : @Cert.AdamwIn.defs Bits _ _ = @Cert.AdamwInIdeal.defs Bits _ _ := congrArg (Pipeline.defs _) bodies

theorem frame_kernel : Cert.quiescent_AdamwIn := fun m ρ _ => by
  rw [table]
  exact Cert.AdamwInIdeal.Gen.frame (F := Bits) m ρ
theorem frame_ideal : Cert.quiescent_AdamwInIdeal := fun m ρ _ => Cert.AdamwInIdeal.Gen.frame m ρ
theorem frame_ref : Cert.quiescent_AdamwInRefIdeal := fun m ρ _ =>
  (θ_run Cert.AdamwInRefIdeal.defs _ _).mono
    (fun r h => ⟨fun c => (h c).2.2.2.2, Idealize.ShloMosaic.sem_eq_zero_of_no_sems (by decide) r.2⟩)
    (Cert.AdamwInRefIdeal.Value.run (F := Ideal) m ρ)

theorem value : Cert.algebraic_AdamwInIdeal_AdamwInRefIdeal := fun m ρ m' ρ' _ hag =>
  ⟨fun c => Cert.AdamwInRefIdeal.Read.val_main_v34 (F := Ideal) (m ((c.tc : Thread _ _).loc Cert.AdamwInIdeal.main_arg3)) (m ((c.tc : Thread _ _).loc Cert.AdamwInIdeal.main_arg4)) (m ((c.tc : Thread _ _).loc Cert.AdamwInIdeal.main_arg5)),
    fun c => Cert.AdamwInRefIdeal.Read.val_main_v36 (F := Ideal) (m ((c.tc : Thread _ _).loc Cert.AdamwInIdeal.main_arg0)) (m ((c.tc : Thread _ _).loc Cert.AdamwInIdeal.main_arg1)) (m ((c.tc : Thread _ _).loc Cert.AdamwInIdeal.main_arg2)) (m ((c.tc : Thread _ _).loc Cert.AdamwInIdeal.main_arg3)) (m ((c.tc : Thread _ _).loc Cert.AdamwInIdeal.main_arg4)) (m ((c.tc : Thread _ _).loc Cert.AdamwInIdeal.main_arg6)),
    fun c => Cert.AdamwInRefIdeal.Read.val_main_v38 (F := Ideal) (m ((c.tc : Thread _ _).loc Cert.AdamwInIdeal.main_arg1)) (m ((c.tc : Thread _ _).loc Cert.AdamwInIdeal.main_arg3)) (m ((c.tc : Thread _ _).loc Cert.AdamwInIdeal.main_arg4)) (m ((c.tc : Thread _ _).loc Cert.AdamwInIdeal.main_arg7)),
    fun c => Cert.AdamwInRefIdeal.Read.val_main_v40 (F := Ideal) (m ((c.tc : Thread _ _).loc Cert.AdamwInIdeal.main_arg2)) (m ((c.tc : Thread _ _).loc Cert.AdamwInIdeal.main_arg3)) (m ((c.tc : Thread _ _).loc Cert.AdamwInIdeal.main_arg4)) (m ((c.tc : Thread _ _).loc Cert.AdamwInIdeal.main_arg8)),
    (θ_run Cert.AdamwInIdeal.defs _ _).mono
      (fun _ h c => ⟨(h c).1.trans ((Cert.AdamwInIdeal.Layer.final5 m c).trans (Cert.AdamwInRefIdeal.Layer.grad_array _ _ _ ).symm),
        (h c).2.1.trans ((Cert.AdamwInIdeal.Layer.final6 m c).trans (Cert.AdamwInRefIdeal.Layer.update_array _ _ _ _ _ _ ).symm),
        (h c).2.2.1.trans ((Cert.AdamwInIdeal.Layer.final7 m c).trans (Cert.AdamwInRefIdeal.Layer.first_array _ _ _ _ ).symm),
        (h c).2.2.2.1.trans ((Cert.AdamwInIdeal.Layer.final8 m c).trans (Cert.AdamwInRefIdeal.Layer.second_array _ _ _ _ ).symm),
        (h c).2.2.2.2⟩)
      (Cert.AdamwInIdeal.Value.run_blocks m ρ),
    (θ_run Cert.AdamwInRefIdeal.defs _ _).mono
      (fun _ h c => ⟨(h c).1.trans ((Cert.AdamwInRefIdeal.Read.val_main_v34_eq _ _ _ ).trans (by rw [(hag c).2.2.2.1, (hag c).2.2.2.2.1, (hag c).2.2.2.2.2.1])),
        (h c).2.1.trans ((Cert.AdamwInRefIdeal.Read.val_main_v36_eq _ _ _ _ _ _ ).trans (by rw [(hag c).1, (hag c).2.1, (hag c).2.2.1, (hag c).2.2.2.1, (hag c).2.2.2.2.1, (hag c).2.2.2.2.2.2.1])),
        (h c).2.2.1.trans ((Cert.AdamwInRefIdeal.Read.val_main_v38_eq _ _ _ _ ).trans (by rw [(hag c).2.1, (hag c).2.2.2.1, (hag c).2.2.2.2.1, (hag c).2.2.2.2.2.2.2.1])),
        (h c).2.2.2.1.trans ((Cert.AdamwInRefIdeal.Read.val_main_v40_eq _ _ _ _ ).trans (by rw [(hag c).2.2.1, (hag c).2.2.2.1, (hag c).2.2.2.2.1, (hag c).2.2.2.2.2.2.2.2])),
        (h c).2.2.2.2⟩)
      (Cert.AdamwInRefIdeal.Value.run m' ρ')⟩

end Cert.Proof.AdamwIn

end
-- ==== Proof.AdamwOut.lean ====
/-
  The optimiser of the output weights: from the weight, its two moments, this device's part of the gradient and the parts
  of the three other groups, the call for the first layer makes that layer's gradient, update and new moments, and leaves
  the other three layers of the four result arrays as they were handed over.

  The kernel works on bands of 128 rows.
-/
module

public import proofs.«01_k».proof.Defs
public import proofs.«01_k».proof.Proof.Common
public import proofs.«01_k».proof.Proof.Layers
public import proofs.«01_k».proof.Proof.Gen.AdamwOut
public import proofs.«01_k».proof.Proof.Gen.AdamwOutIdeal.Value
public import proofs.«01_k».proof.Proof.Gen.AdamwOutRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.AdamwOutRefIdeal.Layer

open Cert.AdamwOutRefIdeal Cert.AdamwOutRefIdeal.Read Cert.Proof.Layers

variable (w m v : (⟨S4x512x4096, .f32⟩ : BufTy).Contents (Elt Ideal)) (s : (⟨S4x512x4096, .bf16⟩ : BufTy).Contents (Elt Ideal))
  (f : (⟨S3x512x4096, .bf16⟩ : BufTy).Contents (Elt Ideal)) (b : Fin 512) (k : Fin 4096)

theorem grads : val_main_v6 (F := Ideal) s f (spot 0 b k) = gradAt s f b k := by
  rw [val_main_v6_apply, val_main_v2_apply, val_main_v1_apply, val_main_v5_apply, val_main_v4_apply, Fin.sum_univ_three]
  refine congrArg₂ (· + ·) (congrArg s (spot_ext rfl rfl rfl)) ?_
  refine (congrArg (· + _) Ideal.ofBits_zero_f32).trans ((zero_add _).trans ?_)
  exact congrArg₂ (· + ·) (congrArg₂ (· + ·) (congrArg f (spot_ext rfl rfl rfl)) (congrArg f (spot_ext rfl rfl rfl))) (congrArg f (spot_ext rfl rfl rfl))

theorem firsts : val_main_v13 (F := Ideal) m s f (spot 0 b k) = firstAt m s f b k := by
  rw [val_main_v13_apply, val_main_v12_apply, val_main_v10_apply, grads, val_main_v7_apply]
  exact congrArg (fun x => first x (gradAt s f b k)) (congrArg m (spot_ext rfl rfl rfl))

theorem seconds : val_main_v19 (F := Ideal) v s f (spot 0 b k) = secondAt v s f b k := by
  rw [val_main_v19_apply, val_main_v18_apply, val_main_v16_apply, val_main_v15_apply, grads, val_main_v8_apply]
  exact congrArg (fun x => second x (gradAt s f b k)) (congrArg v (spot_ext rfl rfl rfl))

theorem updates : val_main_v32 (F := Ideal) w m v s f (spot 0 b k) = updateAt w m v s f b k := by
  rw [val_main_v32_apply, val_main_v30_apply, val_main_v27_apply, val_main_v21_apply, val_main_v26_apply, val_main_v24_apply, val_main_v23_apply,
    val_main_v29_apply, firsts, seconds, val_main_v0_apply]
  exact congrArg (fun x => update x (firstAt m s f b k) (secondAt v s f b k)) (congrArg w (spot_ext rfl rfl rfl))

variable (old : (⟨S4x512x4096, .f32⟩ : BufTy).Contents (Elt Ideal))

theorem grad_array : val_main_v34 (F := Ideal) s f old = layered (gradAt s f) old :=
  (joined _ old _ _).trans (congrArg (layered · old) (funext fun b => funext fun k => grads s f b k))
theorem update_array : val_main_v36 (F := Ideal) w m v s f old = layered (updateAt w m v s f) old :=
  (joined _ old _ _).trans (congrArg (layered · old) (funext fun b => funext fun k => updates w m v s f b k))
theorem first_array : val_main_v38 (F := Ideal) m s f old = layered (firstAt m s f) old :=
  (joined _ old _ _).trans (congrArg (layered · old) (funext fun b => funext fun k => firsts m s f b k))
theorem second_array : val_main_v40 (F := Ideal) v s f old = layered (secondAt v s f) old :=
  (joined _ old _ _).trans (congrArg (layered · old) (funext fun b => funext fun k => seconds v s f b k))

end Cert.AdamwOutRefIdeal.Layer

namespace Cert.AdamwOutIdeal.Layer

open Cert.AdamwOutIdeal Cert.AdamwOutIdeal.Gen Cert.Proof Cert.Proof.Layers

variable (m : (ℓ : Loc nD τ sig) → Buf (Elt Ideal) ℓ) (ρ : Dev nD → PrngReg)

/-- The arguments by what they are. -/
abbrev weight (c : Dev nD) : (cube 4 512).Idx → EReal := m ((c : Thread nD τ).loc main_arg0)
abbrev moment (c : Dev nD) : (cube 4 512).Idx → EReal := m ((c : Thread nD τ).loc main_arg1)
abbrev square (c : Dev nD) : (cube 4 512).Idx → EReal := m ((c : Thread nD τ).loc main_arg2)
abbrev near (c : Dev nD) : (cube 4 512).Idx → EReal := m ((c : Thread nD τ).loc main_arg3)
abbrev far (c : Dev nD) : (cube 3 512).Idx → EReal := m ((c : Thread nD τ).loc main_arg4)

/-- Point `t` works on band `t` of the first layer's rows, and writes its four results back. -/
theorem bands : ∀ t : Fin cfg0.N, (∀ a, win0_0.index t a = ![0, t.val, 0] a) ∧ (∀ a, win0_1.index t a = ![0, t.val, 0] a)
    ∧ (∀ a, win0_2.index t a = ![0, t.val, 0] a) ∧ (∀ a, win0_3.index t a = ![0, t.val, 0] a) ∧ (∀ a, win0_4.index t a = ![0, t.val, 0] a)
    ∧ (∀ a, win0_5.index t a = ![0, t.val, 0] a) ∧ (∀ a, win0_6.index t a = ![0, t.val, 0] a)
    ∧ (∀ a, win0_7.index t a = ![0, t.val, 0] a) ∧ (∀ a, win0_8.index t a = ![0, t.val, 0] a)
    ∧ (cfg0.win 5).flush t = true ∧ (cfg0.win 6).flush t = true ∧ (cfg0.win 7).flush t = true ∧ (cfg0.win 8).flush t = true :=
  (by decide +kernel : ∀ t : Fin grid0.N, (∀ a, win0_0.index t a = ![0, t.val, 0] a) ∧ (∀ a, win0_1.index t a = ![0, t.val, 0] a)
    ∧ (∀ a, win0_2.index t a = ![0, t.val, 0] a) ∧ (∀ a, win0_3.index t a = ![0, t.val, 0] a) ∧ (∀ a, win0_4.index t a = ![0, t.val, 0] a)
    ∧ (∀ a, win0_5.index t a = ![0, t.val, 0] a) ∧ (∀ a, win0_6.index t a = ![0, t.val, 0] a)
    ∧ (∀ a, win0_7.index t a = ![0, t.val, 0] a) ∧ (∀ a, win0_8.index t a = ![0, t.val, 0] a)
    ∧ (cfg0.win 5).flush t = true ∧ (cfg0.win 6).flush t = true ∧ (cfg0.win 7).flush t = true ∧ (cfg0.win 8).flush t = true)

section
variable (c : Dev nD) (t : Fin cfg0.N) (j : S1x128x4096.Idx) (b : Fin 512) (hb : b.val = t.val * 128 + (j 1).val)
include hb

/-- What the windows' blocks hold. -/
theorem block0 : iblk m c 0 t j = weight m c (spot 0 b (j 2)) := by
  unfold iblk
  rw [View.read_apply]
  exact (congrFun (V_main_arg0 m c) _).trans (congrArg (weight m c) (in_band (bands t).1 j b hb _ rfl rfl rfl))
theorem block1 : iblk m c 1 t j = moment m c (spot 0 b (j 2)) := by
  unfold iblk
  rw [View.read_apply]
  exact (congrFun (V_main_arg1 m c) _).trans (congrArg (moment m c) (in_band (bands t).2.1 j b hb _ rfl rfl rfl))
theorem block2 : iblk m c 2 t j = square m c (spot 0 b (j 2)) := by
  unfold iblk
  rw [View.read_apply]
  exact (congrFun (V_main_arg2 m c) _).trans (congrArg (square m c) (in_band (bands t).2.2.1 j b hb _ rfl rfl rfl))
theorem block3 : iblk m c 3 t j = near m c (spot 0 b (j 2)) := by
  unfold iblk
  rw [View.read_apply]
  exact (congrFun (V_main_arg3 m c) _).trans (congrArg (near m c) (in_band (bands t).2.2.2.1 j b hb _ rfl rfl rfl))
theorem block4 (n : Fin 3) (h) : View.ld (iblk m c 4 t) (Rect.unit (s := S3x128x4096) ![n.val, 0, 0] S1x128x4096.size h) j = far m c (spot n b (j 2)) := by
  unfold View.ld iblk
  rw [View.read_apply]
  exact (congrFun (V_main_arg4 m c) _).trans (congrArg (far m c) (in_far_band (bands t).2.2.2.2.1 n j b hb _ rfl rfl rfl))
end

/-- One of the three far parts in the block of point `t`. -/
abbrev part (c : Dev nD) (t : Fin cfg0.N) (n : Nat) (h : ∀ a, (![n, 0, 0] : Fin 3 → Nat) a + S1x128x4096.size a ≤ S3x128x4096.size a) : Vec Ideal S1x128x4096 .bf16 :=
  View.ld (iblk m c 4 t) (Rect.unit (s := S3x128x4096) ![n, 0, 0] S1x128x4096.size h)

/-- The gradient, first moment, second moment and update that point `t` makes. -/
abbrev newGrad (c : Dev nD) (t : Fin cfg0.N) : Vec Ideal S1x128x4096 .f32 :=
  k0_pay2 (iblk m c 3 t) (part m c t 0 inb_S3x128x4096_S1x128x4096_0_0_0) (part m c t 1 inb_S3x128x4096_S1x128x4096_1_0_0) (part m c t 2 inb_S3x128x4096_S1x128x4096_2_0_0)
abbrev newFirst (c : Dev nD) (t : Fin cfg0.N) : Vec Ideal S1x128x4096 .f32 :=
  k0_pay3 (iblk m c 3 t) (part m c t 0 inb_S3x128x4096_S1x128x4096_0_0_0) (part m c t 1 inb_S3x128x4096_S1x128x4096_1_0_0) (part m c t 2 inb_S3x128x4096_S1x128x4096_2_0_0) (iblk m c 1 t)
abbrev newSecond (c : Dev nD) (t : Fin cfg0.N) : Vec Ideal S1x128x4096 .f32 :=
  k0_pay4 (iblk m c 3 t) (part m c t 0 inb_S3x128x4096_S1x128x4096_0_0_0) (part m c t 1 inb_S3x128x4096_S1x128x4096_1_0_0) (part m c t 2 inb_S3x128x4096_S1x128x4096_2_0_0) (iblk m c 2 t)
abbrev newUpdate (c : Dev nD) (t : Fin cfg0.N) : Vec Ideal S1x128x4096 .f32 :=
  k0_pay1
    (k0_pay5 (iblk m c 3 t) (part m c t 0 inb_S3x128x4096_S1x128x4096_0_0_0) (part m c t 1 inb_S3x128x4096_S1x128x4096_1_0_0) (part m c t 2 inb_S3x128x4096_S1x128x4096_2_0_0) (iblk m c 1 t))
    (k0_pay6 (iblk m c 3 t) (part m c t 0 inb_S3x128x4096_S1x128x4096_0_0_0) (part m c t 1 inb_S3x128x4096_S1x128x4096_1_0_0) (part m c t 2 inb_S3x128x4096_S1x128x4096_2_0_0) (iblk m c 2 t))
    (FloatOps.ofBits .f32 0x322BCC77#32) (iblk m c 0 t)

/-- What point `t` leaves in its four blocks. -/
theorem left (c : Dev nD) (t : Fin cfg0.N) : outsAt0 m c t = (newGrad m c t, newUpdate m c t, newFirst m c t, newSecond m c t) := by
  unfold outsAt0
  refine Prod.ext ?_ (Prod.ext ?_ (Prod.ext ?_ ?_))
  · dsimp only
    unfold out0_A_5
    rw [View.read_writes_eq_canon _ _ _ (fun y => cover0_A_5 (y := y) ..)]
    unfold kernelRun0_A
    dsimp only
    sl_unfold_words
    rw [View.canon_unit_zero zeros3]
    simp only [View.readAt_eq_ld, (hs0_3 t).read_unread, (hs0_4 t).read_unread, View.ld_unit_zero (S := S1x128x4096) zeros3]
    rfl
  · dsimp only
    unfold out0_A_6
    rw [View.read_writes_eq_canon _ _ _ (fun y => cover0_A_6 (y := y) ..)]
    unfold kernelRun0_A
    dsimp only
    sl_unfold_words
    rw [View.canon_unit_zero zeros3]
    simp only [View.readAt_eq_ld, (hs0_0 t).read_unread, (hs0_1 t).read_unread, (hs0_2 t).read_unread, (hs0_3 t).read_unread, (hs0_4 t).read_unread, View.ld_unit_zero (S := S1x128x4096) zeros3]
    rfl
  · dsimp only
    unfold out0_A_7
    rw [View.read_writes_eq_canon _ _ _ (fun y => cover0_A_7 (y := y) ..)]
    unfold kernelRun0_A
    dsimp only
    sl_unfold_words
    rw [View.canon_unit_zero zeros3]
    simp only [View.readAt_eq_ld, (hs0_1 t).read_unread, (hs0_3 t).read_unread, (hs0_4 t).read_unread, View.ld_unit_zero (S := S1x128x4096) zeros3]
    rfl
  · dsimp only
    unfold out0_A_8
    rw [View.read_writes_eq_canon _ _ _ (fun y => cover0_A_8 (y := y) ..)]
    unfold kernelRun0_A
    dsimp only
    sl_unfold_words
    rw [View.canon_unit_zero zeros3]
    simp only [View.readAt_eq_ld, (hs0_2 t).read_unread, (hs0_3 t).read_unread, (hs0_4 t).read_unread, View.ld_unit_zero (S := S1x128x4096) zeros3]
    rfl

section
variable (c : Dev nD) (t : Fin cfg0.N) (j : S1x128x4096.Idx) (b : Fin 512) (hb : b.val = t.val * 128 + (j 1).val)
include hb

/-- … and these are the update of the numbers of band `t`. -/
theorem gradient : newGrad m c t j = gradAt (near m c) (far m c) b (j 2) := by
  refine Eq.trans ?_ (grad_in_turn _ _ _ _)
  exact congrArg₂ (fun x y : EReal => x + y) (congrArg₂ (fun x y : EReal => x + y) (congrArg₂ (fun x y : EReal => x + y) (block3 m c t j b hb)
    (block4 m c t j b hb 0 _)) (block4 m c t j b hb 1 _)) (block4 m c t j b hb 2 _)

theorem firstMoment : newFirst m c t j = firstAt (moment m c) (near m c) (far m c) b (j 2) := by
  refine Eq.trans (b := first (iblk m c 1 t j) (newGrad m c t j)) rfl ?_
  rw [gradient m c t j b hb, block1 m c t j b hb]
  rfl

theorem secondMoment : newSecond m c t j = secondAt (square m c) (near m c) (far m c) b (j 2) := by
  refine Eq.trans (b := second (iblk m c 2 t j) (newGrad m c t j)) rfl ?_
  rw [gradient m c t j b hb, block2 m c t j b hb]
  rfl

theorem weightUpdate : newUpdate m c t j = updateAt (weight m c) (moment m c) (square m c) (near m c) (far m c) b (j 2) := by
  refine Eq.trans (b := update (iblk m c 0 t j) (newFirst m c t j) (newSecond m c t j)) rfl ?_
  rw [firstMoment m c t j b hb, secondMoment m c t j b hb, block0 m c t j b hb]
  rfl
end

/-- The result arrays start as the arrays handed over. -/
theorem start5 (c : Dev nD) : V m c main_v0_0 = m ((c : Thread nD τ).loc main_arg5) := by
  unfold V
  after_results
  rfl
theorem start6 (c : Dev nD) : V m c main_v0_1 = m ((c : Thread nD τ).loc main_arg6) := by
  unfold V
  after_results
  rfl
theorem start7 (c : Dev nD) : V m c main_v0_2 = m ((c : Thread nD τ).loc main_arg7) := by
  unfold V
  after_results
  rfl
theorem start8 (c : Dev nD) : V m c main_v0_3 = m ((c : Thread nD τ).loc main_arg8) := by
  unfold V
  after_results
  rfl

/-- A block that starts at the first layer and is one layer thick holds nothing of the others. -/
theorem outside {i : S4x512x4096.Idx} (hi : (i 0).val ≠ 0) {o : Fin 3 → Nat} {t : Nat} (h : ∀ a, o a = ![0, t, 0] a)
    (hm : ∀ a, o a * S1x128x4096.size a ≤ (i a : Nat) ∧ (i a : Nat) < o a * S1x128x4096.size a + S1x128x4096.size a) : False := by
  have e : (i 0 : Nat) < o 0 * 1 + 1 := (hm 0).2
  have e0 : o 0 = 0 := h 0
  rw [e0] at e
  exact hi (by omega)

theorem rows_N : 512 = cfg0.N * 128 := by rw [show cfg0.N = 4 from N_0]

/-- The gradient array: the first layer new, the others as handed over. -/
theorem final5 (c : Dev nD) : (dats m 0 c).arrAt 5 cfg0.N = layered (gradAt (near m c) (far m c)) (m ((c : Thread nD τ).loc main_arg5)) :=
  banded rows_N _ _ _ (fun t j b hb => by
    have h := congrFun (Value.blocks5 m c t (bands t).2.2.2.2.2.2.2.2.2.1) j
    rw [View.read_apply] at h
    refine (congrArg ((dats m 0 c).arrAt 5 cfg0.N) (in_band (bands t).2.2.2.2.2.1 j b hb _ rfl rfl rfl).symm).trans (h.trans ?_)
    rw [Value.flushed5, left]
    exact gradient m c t j b hb) fun i hi => by
    rw [Value.entry5 m c i fun t _ hm => outside hi (bands t).2.2.2.2.2.1 (by
      change i ∈ ((View.whole main_v0_0).slice (win0_5.rect t)).set at hm
      rwa [View.set_slice_whole, Rect.mem_set_unit] at hm)]
    exact congrFun (start5 m c) i

/-- The update likewise, … -/
theorem final6 (c : Dev nD) : (dats m 0 c).arrAt 6 cfg0.N = layered (updateAt (weight m c) (moment m c) (square m c) (near m c) (far m c)) (m ((c : Thread nD τ).loc main_arg6)) :=
  banded rows_N _ _ _ (fun t j b hb => by
    have h := congrFun (Value.blocks6 m c t (bands t).2.2.2.2.2.2.2.2.2.2.1) j
    rw [View.read_apply] at h
    refine (congrArg ((dats m 0 c).arrAt 6 cfg0.N) (in_band (bands t).2.2.2.2.2.2.1 j b hb _ rfl rfl rfl).symm).trans (h.trans ?_)
    rw [Value.flushed6, left]
    exact weightUpdate m c t j b hb) fun i hi => by
    rw [Value.entry6 m c i fun t _ hm => outside hi (bands t).2.2.2.2.2.2.1 (by
      change i ∈ ((View.whole main_v0_1).slice (win0_6.rect t)).set at hm
      rwa [View.set_slice_whole, Rect.mem_set_unit] at hm)]
    exact congrFun (start6 m c) i

/-- … the first moment, … -/
theorem final7 (c : Dev nD) : (dats m 0 c).arrAt 7 cfg0.N = layered (firstAt (moment m c) (near m c) (far m c)) (m ((c : Thread nD τ).loc main_arg7)) :=
  banded rows_N _ _ _ (fun t j b hb => by
    have h := congrFun (Value.blocks7 m c t (bands t).2.2.2.2.2.2.2.2.2.2.2.1) j
    rw [View.read_apply] at h
    refine (congrArg ((dats m 0 c).arrAt 7 cfg0.N) (in_band (bands t).2.2.2.2.2.2.2.1 j b hb _ rfl rfl rfl).symm).trans (h.trans ?_)
    rw [Value.flushed7, left]
    exact firstMoment m c t j b hb) fun i hi => by
    rw [Value.entry7 m c i fun t _ hm => outside hi (bands t).2.2.2.2.2.2.2.1 (by
      change i ∈ ((View.whole main_v0_2).slice (win0_7.rect t)).set at hm
      rwa [View.set_slice_whole, Rect.mem_set_unit] at hm)]
    exact congrFun (start7 m c) i

/-- … and the second. -/
theorem final8 (c : Dev nD) : (dats m 0 c).arrAt 8 cfg0.N = layered (secondAt (square m c) (near m c) (far m c)) (m ((c : Thread nD τ).loc main_arg8)) :=
  banded rows_N _ _ _ (fun t j b hb => by
    have h := congrFun (Value.blocks8 m c t (bands t).2.2.2.2.2.2.2.2.2.2.2.2) j
    rw [View.read_apply] at h
    refine (congrArg ((dats m 0 c).arrAt 8 cfg0.N) (in_band (bands t).2.2.2.2.2.2.2.2.1 j b hb _ rfl rfl rfl).symm).trans (h.trans ?_)
    rw [Value.flushed8, left]
    exact secondMoment m c t j b hb) fun i hi => by
    rw [Value.entry8 m c i fun t _ hm => outside hi (bands t).2.2.2.2.2.2.2.2.1 (by
      change i ∈ ((View.whole main_v0_3).slice (win0_8.rect t)).set at hm
      rwa [View.set_slice_whole, Rect.mem_set_unit] at hm)]
    exact congrFun (start8 m c) i

end Cert.AdamwOutIdeal.Layer

namespace Cert.Proof.AdamwOut

/-- The two programs have one body table, read at the machine's floats. -/
theorem bodies : @Cert.AdamwOut.defs₀ Bits _ _ = @Cert.AdamwOutIdeal.defs₀ Bits _ _ := by
  unfold Cert.AdamwOut.defs₀ Cert.AdamwOutIdeal.defs₀
  refine congrArg Defs.onTc (funext fun l => ?_)
  match l with
  | 0 => rfl
theorem table : @Cert.AdamwOut.defs Bits _ _ = @Cert.AdamwOutIdeal.defs Bits _ _ := congrArg (Pipeline.defs _) bodies

theorem frame_kernel : Cert.quiescent_AdamwOut := fun m ρ _ => by
  rw [table]
  exact Cert.AdamwOutIdeal.Gen.frame (F := Bits) m ρ
theorem frame_ideal : Cert.quiescent_AdamwOutIdeal := fun m ρ _ => Cert.AdamwOutIdeal.Gen.frame m ρ
theorem frame_ref : Cert.quiescent_AdamwOutRefIdeal := fun m ρ _ =>
  (θ_run Cert.AdamwOutRefIdeal.defs _ _).mono
    (fun r h => ⟨fun c => (h c).2.2.2.2, Idealize.ShloMosaic.sem_eq_zero_of_no_sems (by decide) r.2⟩)
    (Cert.AdamwOutRefIdeal.Value.run (F := Ideal) m ρ)

theorem value : Cert.algebraic_AdamwOutIdeal_AdamwOutRefIdeal := fun m ρ m' ρ' _ hag =>
  ⟨fun c => Cert.AdamwOutRefIdeal.Read.val_main_v34 (F := Ideal) (m ((c.tc : Thread _ _).loc Cert.AdamwOutIdeal.main_arg3)) (m ((c.tc : Thread _ _).loc Cert.AdamwOutIdeal.main_arg4)) (m ((c.tc : Thread _ _).loc Cert.AdamwOutIdeal.main_arg5)),
    fun c => Cert.AdamwOutRefIdeal.Read.val_main_v36 (F := Ideal) (m ((c.tc : Thread _ _).loc Cert.AdamwOutIdeal.main_arg0)) (m ((c.tc : Thread _ _).loc Cert.AdamwOutIdeal.main_arg1)) (m ((c.tc : Thread _ _).loc Cert.AdamwOutIdeal.main_arg2)) (m ((c.tc : Thread _ _).loc Cert.AdamwOutIdeal.main_arg3)) (m ((c.tc : Thread _ _).loc Cert.AdamwOutIdeal.main_arg4)) (m ((c.tc : Thread _ _).loc Cert.AdamwOutIdeal.main_arg6)),
    fun c => Cert.AdamwOutRefIdeal.Read.val_main_v38 (F := Ideal) (m ((c.tc : Thread _ _).loc Cert.AdamwOutIdeal.main_arg1)) (m ((c.tc : Thread _ _).loc Cert.AdamwOutIdeal.main_arg3)) (m ((c.tc : Thread _ _).loc Cert.AdamwOutIdeal.main_arg4)) (m ((c.tc : Thread _ _).loc Cert.AdamwOutIdeal.main_arg7)),
    fun c => Cert.AdamwOutRefIdeal.Read.val_main_v40 (F := Ideal) (m ((c.tc : Thread _ _).loc Cert.AdamwOutIdeal.main_arg2)) (m ((c.tc : Thread _ _).loc Cert.AdamwOutIdeal.main_arg3)) (m ((c.tc : Thread _ _).loc Cert.AdamwOutIdeal.main_arg4)) (m ((c.tc : Thread _ _).loc Cert.AdamwOutIdeal.main_arg8)),
    (θ_run Cert.AdamwOutIdeal.defs _ _).mono
      (fun _ h c => ⟨(h c).1.trans ((Cert.AdamwOutIdeal.Layer.final5 m c).trans (Cert.AdamwOutRefIdeal.Layer.grad_array _ _ _ ).symm),
        (h c).2.1.trans ((Cert.AdamwOutIdeal.Layer.final6 m c).trans (Cert.AdamwOutRefIdeal.Layer.update_array _ _ _ _ _ _ ).symm),
        (h c).2.2.1.trans ((Cert.AdamwOutIdeal.Layer.final7 m c).trans (Cert.AdamwOutRefIdeal.Layer.first_array _ _ _ _ ).symm),
        (h c).2.2.2.1.trans ((Cert.AdamwOutIdeal.Layer.final8 m c).trans (Cert.AdamwOutRefIdeal.Layer.second_array _ _ _ _ ).symm),
        (h c).2.2.2.2⟩)
      (Cert.AdamwOutIdeal.Value.run_blocks m ρ),
    (θ_run Cert.AdamwOutRefIdeal.defs _ _).mono
      (fun _ h c => ⟨(h c).1.trans ((Cert.AdamwOutRefIdeal.Read.val_main_v34_eq _ _ _ ).trans (by rw [(hag c).2.2.2.1, (hag c).2.2.2.2.1, (hag c).2.2.2.2.2.1])),
        (h c).2.1.trans ((Cert.AdamwOutRefIdeal.Read.val_main_v36_eq _ _ _ _ _ _ ).trans (by rw [(hag c).1, (hag c).2.1, (hag c).2.2.1, (hag c).2.2.2.1, (hag c).2.2.2.2.1, (hag c).2.2.2.2.2.2.1])),
        (h c).2.2.1.trans ((Cert.AdamwOutRefIdeal.Read.val_main_v38_eq _ _ _ _ ).trans (by rw [(hag c).2.1, (hag c).2.2.2.1, (hag c).2.2.2.2.1, (hag c).2.2.2.2.2.2.2.1])),
        (h c).2.2.2.1.trans ((Cert.AdamwOutRefIdeal.Read.val_main_v40_eq _ _ _ _ ).trans (by rw [(hag c).2.2.1, (hag c).2.2.2.1, (hag c).2.2.2.2.1, (hag c).2.2.2.2.2.2.2.2])),
        (h c).2.2.2.2⟩)
      (Cert.AdamwOutRefIdeal.Value.run m' ρ')⟩

end Cert.Proof.AdamwOut

end
-- ==== Proof.Adamw.lean ====
/-
  The optimiser of the fourteen small weights: the devices' eight gradient parts are summed, and weight, first moment and
  second moment give the gradient, the update and the two new moments.

  The kernel works on blocks of 224 rows and does, element by element, the reference's operations; only the sum over the
  eight parts is taken in another order.
-/
module

public import proofs.«01_k».proof.Defs
public import proofs.«01_k».proof.Proof.Common
public import proofs.«01_k».proof.Proof.Gen.Adamw
public import proofs.«01_k».proof.Proof.Gen.AdamwIdeal.Value
public import proofs.«01_k».proof.Proof.Gen.AdamwRefIdeal.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.AdamwIdeal.Update

open Cert.AdamwIdeal Cert.AdamwIdeal.Gen Cert.Proof
open Cert.AdamwRefIdeal.Read

variable (m : (ℓ : Loc nD τ sig) → Buf (Elt Ideal) ℓ) (ρ : Dev nD → PrngReg)

/-- Every window's block at point `t` is the `t`-th band of rows. -/
theorem bands : ∀ t : Fin cfg0.N, (win0_0.index t 0 = t.val ∧ win0_0.index t 1 = 0)
    ∧ (win0_1.index t 0 = 0 ∧ win0_1.index t 1 = t.val ∧ win0_1.index t 2 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0)
    ∧ (win0_1.index t 0 = 0 ∧ win0_1.index t 1 = t.val ∧ win0_1.index t 2 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-- Every point writes its blocks back. -/
theorem written : ∀ t : Fin cfg0.N, (cfg0.win 4).flush t = true ∧ (cfg0.win 5).flush t = true ∧ (cfg0.win 6).flush t = true ∧ (cfg0.win 7).flush t = true :=
  (by decide +kernel : ∀ t : Fin grid0.N, (cfg0.win 4).flush t = true ∧ (cfg0.win 5).flush t = true ∧ (cfg0.win 6).flush t = true ∧ (cfg0.win 7).flush t = true)

/-- The array index under element `j` of the block of point `t`. -/
def at_ (t : Fin cfg0.N) (j : S224x1024.Idx) : S1120x1024.Idx := fun a => match a with
  | ⟨0, _⟩ => ⟨t.val * 224 + (j 0).val, by
      have h : (j 0).val < 224 := (j 0).isLt
      have ht : t.val < 5 := lt_of_lt_of_eq t.isLt (show cfg0.N = 5 from N_0)
      show t.val * 224 + (j 0).val < 1120; omega⟩
  | ⟨1, _⟩ => ⟨(j 1).val, (j 1).isLt⟩

/-- A row window's block, read at an element. -/
theorem row0 (c : Dev nD) (t : Fin cfg0.N) (j : S224x1024.Idx) : View.ld (iblk m c 0 t) r0_8 j = m ((c : Thread nD τ).loc main_arg0) (at_ t j) := by
  rw [View.ld_unit_zero (S := S224x1024) zeros2]
  unfold iblk
  rw [View.read_apply]
  show V m c main_arg0 _ = m ((c : Thread nD τ).loc main_arg0) _
  rw [V_main_arg0]
  congr 1
  funext a
  apply Fin.ext
  match a with
  | ⟨0, _⟩ => show win0_0.index t 0 * 224 + 1 * (j 0).val = t.val * 224 + (j 0).val; rw [(bands t).1.1]; omega
  | ⟨1, _⟩ => show win0_0.index t 1 * 1024 + 1 * (j 1).val = (j 1).val; rw [(bands t).1.2]; omega
theorem row2 (c : Dev nD) (t : Fin cfg0.N) (j : S224x1024.Idx) : View.ld (iblk m c 2 t) r0_8 j = m ((c : Thread nD τ).loc main_arg2) (at_ t j) := by
  rw [View.ld_unit_zero (S := S224x1024) zeros2]
  unfold iblk
  rw [View.read_apply]
  show V m c main_arg2 _ = m ((c : Thread nD τ).loc main_arg2) _
  rw [V_main_arg2]
  congr 1
  funext a
  apply Fin.ext
  match a with
  | ⟨0, _⟩ => show win0_2.index t 0 * 224 + 1 * (j 0).val = t.val * 224 + (j 0).val; rw [(bands t).2.2.1.1]; omega
  | ⟨1, _⟩ => show win0_2.index t 1 * 1024 + 1 * (j 1).val = (j 1).val; rw [(bands t).2.2.1.2]; omega
theorem row3 (c : Dev nD) (t : Fin cfg0.N) (j : S224x1024.Idx) : View.ld (iblk m c 3 t) r0_8 j = m ((c : Thread nD τ).loc main_arg3) (at_ t j) := by
  rw [View.ld_unit_zero (S := S224x1024) zeros2]
  unfold iblk
  rw [View.read_apply]
  show V m c main_arg3 _ = m ((c : Thread nD τ).loc main_arg3) _
  rw [V_main_arg3]
  congr 1
  funext a
  apply Fin.ext
  match a with
  | ⟨0, _⟩ => show win0_3.index t 0 * 224 + 1 * (j 0).val = t.val * 224 + (j 0).val; rw [(bands t).2.2.2.1.1]; omega
  | ⟨1, _⟩ => show win0_3.index t 1 * 1024 + 1 * (j 1).val = (j 1).val; rw [(bands t).2.2.2.1.2]; omega

/-- The `k`-th part of the gradient in the block, read at an element. -/
theorem part (c : Dev nD) (t : Fin cfg0.N) (j : S224x1024.Idx) (k : Fin 8)
    (h : ∀ a, (![k.val, 0, 0] : Fin 3 → Nat) a + S1x224x1024.size a ≤ S8x224x1024.size a) (x : S1x224x1024.Idx)
    (h1 : (x 1).val = (j 0).val) (h2 : (x 2).val = (j 1).val) :
    View.ld (iblk m c 1 t) (Rect.unit (s := S8x224x1024) ![k.val, 0, 0] S1x224x1024.size h) x = m ((c : Thread nD τ).loc main_arg1) (idx_main_v0 (at_ t j) k) := by
  unfold View.ld
  unfold iblk
  rw [View.read_apply]
  show V m c main_arg1 _ = m ((c : Thread nD τ).loc main_arg1) _
  rw [V_main_arg1]
  obtain ⟨-, ⟨e0, e1, e2⟩, -⟩ := bands t
  have x0 : (x 0).val < 1 := (x 0).isLt
  congr 1
  funext a
  apply Fin.ext
  match a with
  | ⟨0, _⟩ => show win0_1.index t 0 * 8 + 1 * (k.val + 1 * (x 0).val) = k.val; rw [e0]; omega
  | ⟨1, _⟩ => show win0_1.index t 1 * 224 + 1 * (0 + 1 * (x 1).val) = t.val * 224 + (j 0).val; rw [e1]; omega
  | ⟨2, _⟩ => show win0_1.index t 2 * 1024 + 1 * (0 + 1 * (x 2).val) = (j 1).val; rw [e2]; omega

/-- The block of the gradient is the sum of the eight parts. -/
theorem gradient (c : Dev nD) (t : Fin cfg0.N) (j : S224x1024.Idx) :
    k0_pay5 (F := Ideal) (iblk m c 0 t) (iblk m c 1 t) (iblk m c 2 t) (iblk m c 3 t) j
      = val_main_v0 (F := Ideal) (m ((c : Thread nD τ).loc main_arg1)) (at_ t j) := by
  unfold k0_pay5
  refine (Value.piece4_0 _ _ _ _ _ _ _ _ j).trans ?_
  rw [val_main_v0_apply, Fin.sum_univ_eight]
  refine Eq.trans ?_ (zero_add _).symm |>.trans (congrArg (· + _) Ideal.ofBits_zero_f32.symm)
  have hj0 : (r0_8.idx j 0).val = (j 0).val := by show 0 + 1 * (j 0).val = (j 0).val; omega
  have hj1 : (r0_8.idx j 1).val = (j 1).val := by show 0 + 1 * (j 1).val = (j 1).val; omega
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact part m c t j 0 _ _ hj0 hj1
  · exact part m c t j 1 _ _ hj0 hj1
  · exact part m c t j 2 _ _ hj0 hj1
  · exact part m c t j 3 _ _ hj0 hj1
  · exact part m c t j 4 _ _ hj0 hj1
  · exact part m c t j 5 _ _ hj0 hj1
  · exact part m c t j 6 _ _ hj0 hj1
  · exact part m c t j 7 _ _ hj0 hj1

/-- The block of the first moment. -/
theorem first (c : Dev nD) (t : Fin cfg0.N) (j : S224x1024.Idx) :
    k0_pay6 (F := Ideal) (iblk m c 0 t) (iblk m c 1 t) (iblk m c 2 t) (iblk m c 3 t) j
      = val_main_v5 (F := Ideal) (m ((c : Thread nD τ).loc main_arg1)) (m ((c : Thread nD τ).loc main_arg2)) (at_ t j) := by
  refine Eq.trans (b := (Ideal.ofBits .f32 0x3F666666#32 * View.ld (iblk m c 2 t) r0_8 j + Ideal.ofBits .f32 0x3DCCCCCD#32
    * k0_pay5 (F := Ideal) (iblk m c 0 t) (iblk m c 1 t) (iblk m c 2 t) (iblk m c 3 t) j : EReal)) rfl ?_
  rw [gradient, row2, val_main_v5_apply, val_main_v2_apply, val_main_v4_apply, val_main_v1_apply, val_main_v3_apply]
  rfl

/-- The block of the second moment. -/
theorem second (c : Dev nD) (t : Fin cfg0.N) (j : S224x1024.Idx) :
    k0_pay1 (F := Ideal) (k0_pay5 (iblk m c 0 t) (iblk m c 1 t) (iblk m c 2 t) (iblk m c 3 t)) (View.ld (iblk m c 3 t) r0_8) j
      = val_main_v11 (F := Ideal) (m ((c : Thread nD τ).loc main_arg1)) (m ((c : Thread nD τ).loc main_arg3)) (at_ t j) := by
  refine Eq.trans (b := (Ideal.ofBits .f32 0x3F7FBE77#32 * View.ld (iblk m c 3 t) r0_8 j + Ideal.ofBits .f32 0x3A83126F#32
    * (k0_pay5 (F := Ideal) (iblk m c 0 t) (iblk m c 1 t) (iblk m c 2 t) (iblk m c 3 t) j
      * k0_pay5 (F := Ideal) (iblk m c 0 t) (iblk m c 1 t) (iblk m c 2 t) (iblk m c 3 t) j) : EReal)) rfl ?_
  rw [gradient, row3, val_main_v11_apply, val_main_v7_apply, val_main_v10_apply, val_main_v6_apply, val_main_v9_apply, val_main_v8_apply]
  rfl

/-- The block of the update. -/
theorem update (c : Dev nD) (t : Fin cfg0.N) (j : S224x1024.Idx) :
    k0_pay2 (F := Ideal) (k0_pay5 (iblk m c 0 t) (iblk m c 1 t) (iblk m c 2 t) (iblk m c 3 t)) (k0_pay6 (iblk m c 0 t) (iblk m c 1 t) (iblk m c 2 t) (iblk m c 3 t))
        (View.ld (iblk m c 3 t) r0_8) (View.ld (iblk m c 0 t) r0_8) j
      = val_main_v24 (F := Ideal) (m ((c : Thread nD τ).loc main_arg0)) (m ((c : Thread nD τ).loc main_arg1)) (m ((c : Thread nD τ).loc main_arg2)) (m ((c : Thread nD τ).loc main_arg3)) (at_ t j) := by
  refine Eq.trans (b := (Ideal.ofBits .f32 0xBA83126F#32 * (FloatOps.divf (F := Ideal) (φ := .f32)
      (FloatOps.divf (F := Ideal) (φ := .f32) (k0_pay6 (F := Ideal) (iblk m c 0 t) (iblk m c 1 t) (iblk m c 2 t) (iblk m c 3 t) j) (Ideal.ofBits .f32 0x3F26BD02#32))
      (FloatOps.sqrt (F := Ideal) (φ := .f32) (FloatOps.divf (F := Ideal) (φ := .f32)
        (k0_pay1 (F := Ideal) (k0_pay5 (iblk m c 0 t) (iblk m c 1 t) (iblk m c 2 t) (iblk m c 3 t)) (View.ld (iblk m c 3 t) r0_8) j) (Ideal.ofBits .f32 0x3C231ACC#32))
        + Ideal.ofBits .f32 0x322BCC77#32)
      + Ideal.ofBits .f32 0x3C23D70A#32 * View.ld (iblk m c 0 t) r0_8 j) : EReal)) rfl ?_
  rw [first, second, row0, val_main_v24_apply, val_main_v22_apply, val_main_v23_apply, val_main_v19_apply, val_main_v21_apply, val_main_v13_apply,
    val_main_v18_apply, val_main_v16_apply, val_main_v15_apply, val_main_v20_apply, val_main_v17_apply, val_main_v14_apply, val_main_v12_apply]
  rfl

/-- The result array of window 4 ends at the reference's. -/
theorem final4 (c : Dev nD) : (dats m 0 c).arrAt 4 cfg0.N = val_main_v0 (F := Ideal) (m ((c : Thread nD τ).loc main_arg1)) := by
  refine (dats m 0 c).arrAt_eq_of_cover 4 _ (fun t _ => ?_) fun i => ?_
  · rw [Value.flushed4]
    unfold out0_4
    rw [View.canon_unit_zero zeros2]
    funext j
    refine (gradient m c t j).trans ?_
    rw [View.read_apply]
    refine congrArg _ (funext fun a => Fin.ext ?_)
    match a with
    | ⟨0, _⟩ => show t.val * 224 + (j 0).val = win0_4.index t 0 * 224 + 1 * (j 0).val; rw [(bands t).2.2.2.2.1.1]; omega
    | ⟨1, _⟩ => show (j 1).val = win0_4.index t 1 * 1024 + 1 * (j 1).val; rw [(bands t).2.2.2.2.1.2]; omega
  · have i0 : (i 0 : Nat) < 1120 := (i 0).isLt
    have i1 : (i 1 : Nat) < 1024 := (i 1).isLt
    let t : Fin cfg0.N := ⟨(i 0 : Nat) / 224, lt_of_lt_of_eq (show (i 0 : Nat) / 224 < 5 by omega) (show cfg0.N = 5 from N_0).symm⟩
    refine ⟨t, (written t).1, ?_⟩
    show i ∈ ((View.whole main_v0_0).slice (win0_4.rect t)).set
    rw [View.set_slice_whole, Rect.mem_set_unit]
    intro a
    match a with
    | ⟨0, _⟩ => show win0_4.index t 0 * 224 ≤ (i 0 : Nat) ∧ (i 0 : Nat) < win0_4.index t 0 * 224 + 224
                rw [(bands t).2.2.2.2.1.1]; show (i 0 : Nat) / 224 * 224 ≤ (i 0 : Nat) ∧ (i 0 : Nat) < (i 0 : Nat) / 224 * 224 + 224; omega
    | ⟨1, _⟩ => show win0_4.index t 1 * 1024 ≤ (i 1 : Nat) ∧ (i 1 : Nat) < win0_4.index t 1 * 1024 + 1024
                rw [(bands t).2.2.2.2.1.2]; omega

/-- The result array of window 5 ends at the reference's. -/
theorem final5 (c : Dev nD) : (dats m 0 c).arrAt 5 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t _ => ?_) fun i => ?_
  · rw [Value.flushed5]
    unfold out0_5
    rw [View.canon_unit_zero zeros2]
    funext j
    refine (update m c t j).trans ?_
    rw [View.read_apply]
    refine congrArg _ (funext fun a => Fin.ext ?_)
    match a with
    | ⟨0, _⟩ => show t.val * 224 + (j 0).val = win0_5.index t 0 * 224 + 1 * (j 0).val; rw [(bands t).2.2.2.2.2.1.1]; omega
    | ⟨1, _⟩ => show (j 1).val = win0_5.index t 1 * 1024 + 1 * (j 1).val; rw [(bands t).2.2.2.2.2.1.2]; omega
  · have i0 : (i 0 : Nat) < 1120 := (i 0).isLt
    have i1 : (i 1 : Nat) < 1024 := (i 1).isLt
    let t : Fin cfg0.N := ⟨(i 0 : Nat) / 224, lt_of_lt_of_eq (show (i 0 : Nat) / 224 < 5 by omega) (show cfg0.N = 5 from N_0).symm⟩
    refine ⟨t, (written t).2.1, ?_⟩
    show i ∈ ((View.whole main_v0_1).slice (win0_5.rect t)).set
    rw [View.set_slice_whole, Rect.mem_set_unit]
    intro a
    match a with
    | ⟨0, _⟩ => show win0_5.index t 0 * 224 ≤ (i 0 : Nat) ∧ (i 0 : Nat) < win0_5.index t 0 * 224 + 224
                rw [(bands t).2.2.2.2.2.1.1]; show (i 0 : Nat) / 224 * 224 ≤ (i 0 : Nat) ∧ (i 0 : Nat) < (i 0 : Nat) / 224 * 224 + 224; omega
    | ⟨1, _⟩ => show win0_5.index t 1 * 1024 ≤ (i 1 : Nat) ∧ (i 1 : Nat) < win0_5.index t 1 * 1024 + 1024
                rw [(bands t).2.2.2.2.2.1.2]; omega

/-- The result array of window 6 ends at the reference's. -/
theorem final6 (c : Dev nD) : (dats m 0 c).arrAt 6 cfg0.N = val_main_v5 (F := Ideal) (m ((c : Thread nD τ).loc main_arg1)) (m ((c : Thread nD τ).loc main_arg2)) := by
  refine (dats m 0 c).arrAt_eq_of_cover 6 _ (fun t _ => ?_) fun i => ?_
  · rw [Value.flushed6]
    unfold out0_6
    rw [View.canon_unit_zero zeros2]
    funext j
    refine (first m c t j).trans ?_
    rw [View.read_apply]
    refine congrArg _ (funext fun a => Fin.ext ?_)
    match a with
    | ⟨0, _⟩ => show t.val * 224 + (j 0).val = win0_6.index t 0 * 224 + 1 * (j 0).val; rw [(bands t).2.2.2.2.2.2.1.1]; omega
    | ⟨1, _⟩ => show (j 1).val = win0_6.index t 1 * 1024 + 1 * (j 1).val; rw [(bands t).2.2.2.2.2.2.1.2]; omega
  · have i0 : (i 0 : Nat) < 1120 := (i 0).isLt
    have i1 : (i 1 : Nat) < 1024 := (i 1).isLt
    let t : Fin cfg0.N := ⟨(i 0 : Nat) / 224, lt_of_lt_of_eq (show (i 0 : Nat) / 224 < 5 by omega) (show cfg0.N = 5 from N_0).symm⟩
    refine ⟨t, (written t).2.2.1, ?_⟩
    show i ∈ ((View.whole main_v0_2).slice (win0_6.rect t)).set
    rw [View.set_slice_whole, Rect.mem_set_unit]
    intro a
    match a with
    | ⟨0, _⟩ => show win0_6.index t 0 * 224 ≤ (i 0 : Nat) ∧ (i 0 : Nat) < win0_6.index t 0 * 224 + 224
                rw [(bands t).2.2.2.2.2.2.1.1]; show (i 0 : Nat) / 224 * 224 ≤ (i 0 : Nat) ∧ (i 0 : Nat) < (i 0 : Nat) / 224 * 224 + 224; omega
    | ⟨1, _⟩ => show win0_6.index t 1 * 1024 ≤ (i 1 : Nat) ∧ (i 1 : Nat) < win0_6.index t 1 * 1024 + 1024
                rw [(bands t).2.2.2.2.2.2.1.2]; omega

/-- The result array of window 7 ends at the reference's. -/
theorem final7 (c : Dev nD) : (dats m 0 c).arrAt 7 cfg0.N = val_main_v11 (F := Ideal) (m ((c : Thread nD τ).loc main_arg1)) (m ((c : Thread nD τ).loc main_arg3)) := by
  refine (dats m 0 c).arrAt_eq_of_cover 7 _ (fun t _ => ?_) fun i => ?_
  · rw [Value.flushed7]
    unfold out0_7
    rw [View.canon_unit_zero zeros2]
    funext j
    refine (second m c t j).trans ?_
    rw [View.read_apply]
    refine congrArg _ (funext fun a => Fin.ext ?_)
    match a with
    | ⟨0, _⟩ => show t.val * 224 + (j 0).val = win0_7.index t 0 * 224 + 1 * (j 0).val; rw [(bands t).2.2.2.2.2.2.2.1]; omega
    | ⟨1, _⟩ => show (j 1).val = win0_7.index t 1 * 1024 + 1 * (j 1).val; rw [(bands t).2.2.2.2.2.2.2.2]; omega
  · have i0 : (i 0 : Nat) < 1120 := (i 0).isLt
    have i1 : (i 1 : Nat) < 1024 := (i 1).isLt
    let t : Fin cfg0.N := ⟨(i 0 : Nat) / 224, lt_of_lt_of_eq (show (i 0 : Nat) / 224 < 5 by omega) (show cfg0.N = 5 from N_0).symm⟩
    refine ⟨t, (written t).2.2.2, ?_⟩
    show i ∈ ((View.whole main_v0_3).slice (win0_7.rect t)).set
    rw [View.set_slice_whole, Rect.mem_set_unit]
    intro a
    match a with
    | ⟨0, _⟩ => show win0_7.index t 0 * 224 ≤ (i 0 : Nat) ∧ (i 0 : Nat) < win0_7.index t 0 * 224 + 224
                rw [(bands t).2.2.2.2.2.2.2.1]; show (i 0 : Nat) / 224 * 224 ≤ (i 0 : Nat) ∧ (i 0 : Nat) < (i 0 : Nat) / 224 * 224 + 224; omega
    | ⟨1, _⟩ => show win0_7.index t 1 * 1024 ≤ (i 1 : Nat) ∧ (i 1 : Nat) < win0_7.index t 1 * 1024 + 1024
                rw [(bands t).2.2.2.2.2.2.2.2]; omega

end Cert.AdamwIdeal.Update

namespace Cert.Proof.Adamw
/-- The two programs have one body table, read at the machine's floats. -/
theorem bodies : @Cert.Adamw.defs₀ Bits _ _ = @Cert.AdamwIdeal.defs₀ Bits _ _ := by
  unfold Cert.Adamw.defs₀ Cert.AdamwIdeal.defs₀
  refine congrArg Defs.onTc (funext fun l => ?_)
  match l with
  | 0 => rfl
theorem table : @Cert.Adamw.defs Bits _ _ = @Cert.AdamwIdeal.defs Bits _ _ := congrArg (Pipeline.defs _) bodies

theorem frame_kernel : Cert.quiescent_Adamw := fun m ρ _ => by
  rw [table]
  exact Cert.AdamwIdeal.Gen.frame (F := Bits) m ρ
theorem frame_ideal : Cert.quiescent_AdamwIdeal := fun m ρ _ => Cert.AdamwIdeal.Gen.frame m ρ
theorem frame_ref : Cert.quiescent_AdamwRefIdeal := fun m ρ _ =>
  (θ_run Cert.AdamwRefIdeal.defs _ _).mono
    (fun r h => ⟨fun c => (h c).2.2.2.2, Idealize.ShloMosaic.sem_eq_zero_of_no_sems (by decide) r.2⟩)
    (Cert.AdamwRefIdeal.Value.run (F := Ideal) m ρ)

theorem value : Cert.algebraic_AdamwIdeal_AdamwRefIdeal := fun m ρ m' ρ' _ hag =>
  ⟨fun c => Cert.AdamwRefIdeal.Read.val_main_v0 (F := Ideal) (m ((c.tc : Thread _ _).loc Cert.AdamwIdeal.main_arg1)),
    fun c => Cert.AdamwRefIdeal.Read.val_main_v24 (F := Ideal) (m ((c.tc : Thread _ _).loc Cert.AdamwIdeal.main_arg0)) (m ((c.tc : Thread _ _).loc Cert.AdamwIdeal.main_arg1)) (m ((c.tc : Thread _ _).loc Cert.AdamwIdeal.main_arg2)) (m ((c.tc : Thread _ _).loc Cert.AdamwIdeal.main_arg3)),
    fun c => Cert.AdamwRefIdeal.Read.val_main_v5 (F := Ideal) (m ((c.tc : Thread _ _).loc Cert.AdamwIdeal.main_arg1)) (m ((c.tc : Thread _ _).loc Cert.AdamwIdeal.main_arg2)),
    fun c => Cert.AdamwRefIdeal.Read.val_main_v11 (F := Ideal) (m ((c.tc : Thread _ _).loc Cert.AdamwIdeal.main_arg1)) (m ((c.tc : Thread _ _).loc Cert.AdamwIdeal.main_arg3)),
    (θ_run Cert.AdamwIdeal.defs _ _).mono
      (fun _ h c => ⟨(h c).1.trans (Cert.AdamwIdeal.Update.final4 m c), (h c).2.1.trans (Cert.AdamwIdeal.Update.final5 m c), (h c).2.2.1.trans (Cert.AdamwIdeal.Update.final6 m c), (h c).2.2.2.1.trans (Cert.AdamwIdeal.Update.final7 m c), (h c).2.2.2.2⟩)
      (Cert.AdamwIdeal.Value.run_blocks m ρ),
    (θ_run Cert.AdamwRefIdeal.defs _ _).mono
      (fun _ h c => ⟨(h c).1.trans ((Cert.AdamwRefIdeal.Read.val_main_v0_eq _).trans (by rw [(hag c).2.1])), (h c).2.1.trans ((Cert.AdamwRefIdeal.Read.val_main_v24_eq _ _ _ _).trans (by rw [(hag c).1, (hag c).2.1, (hag c).2.2.1, (hag c).2.2.2])), (h c).2.2.1.trans ((Cert.AdamwRefIdeal.Read.val_main_v5_eq _ _).trans (by rw [(hag c).2.1, (hag c).2.2.1])), (h c).2.2.2.1.trans ((Cert.AdamwRefIdeal.Read.val_main_v11_eq _ _).trans (by rw [(hag c).2.1, (hag c).2.2.2])), (h c).2.2.2.2⟩)
      (Cert.AdamwRefIdeal.Value.run m' ρ')⟩

end Cert.Proof.Adamw

end
-- ==== Proof.PairIn.lean ====
/-
  The sum that joins two devices' parts of the gradient of the input weights: each of the four blocks the partner device sent
  is added to the block of this device's own gradient with which it belongs, every second one of the eight.

  The kernel works on bands of 224 rows, 6 bands to a block.
-/
module

public import proofs.«01_k».proof.Defs
public import proofs.«01_k».proof.Proof.Common
public import proofs.«01_k».proof.Proof.Layers
public import proofs.«01_k».proof.Proof.Gen.PairIn
public import proofs.«01_k».proof.Proof.Gen.PairInIdeal.Value
public import proofs.«01_k».proof.Proof.Gen.PairInRefIdeal.Read
public import proofs.«01_k».proof.Proof.Gen.PairInRef.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.PairInIdeal.Sum

open Cert.PairInIdeal Cert.PairInIdeal.Gen Cert.Proof Cert.Proof.Layers

variable {F : FTy → Type} [FloatOps F]
variable (m : (ℓ : Loc nD τ sig) → Buf (Elt F) ℓ) (ρ : Dev nD → PrngReg)

/-- The even block that belongs to block `q`. -/
def even (q : Fin 4) : Fin 8 := ⟨2 * q.val, by omega⟩

/-- The sum of two numbers, taken in the wide format and rounded to the narrow one. -/
def add (x y : F .bf16) : F .bf16 :=
  FloatOps.truncf .bf16 bitsLt_bf16_f32 (FloatOps.addf (FloatOps.extf .f32 bitsLt_bf16_f32 x) (FloatOps.extf .f32 bitsLt_bf16_f32 y))

/-- The reference's result at a number. -/
theorem reference_apply (x0 : (cube 8 1344).Idx → F .bf16) (x1 : (cube 4 1344).Idx → F .bf16) (q : Fin 4) (b : Fin 1344) (k : Fin 4096) :
    Cert.PairInRefIdeal.Read.val_main_v4 (F := F) x0 x1 (spot q b k) = add (x0 (spot (even q) b k)) (x1 (spot q b k)) := by
  rw [Cert.PairInRefIdeal.Read.val_main_v4_apply, Cert.PairInRefIdeal.Read.val_main_v3_apply, Cert.PairInRefIdeal.Read.val_main_v1_apply,
    Cert.PairInRefIdeal.Read.val_main_v2_apply]
  unfold Cert.PairInRefIdeal.Read.val_main_v0
  refine congrArg (fun x => add x (x1 (spot q b k))) (congrArg x0 (spot_ext ?_ ?_ ?_))
  · show 0 + 2 * q.val = 2 * q.val
    omega
  · show 0 + 1 * b.val = b.val
    omega
  · show 0 + 1 * k.val = k.val
    omega

/-- Point `t` works on one band of one block, of the gradient, of the other device's part and of the result. -/
theorem bands : ∀ t : Fin cfg0.N, (∀ a, win0_0.index t a = ![2 * win0_2.index t 0, win0_2.index t 1, 0] a)
    ∧ (∀ a, win0_1.index t a = ![win0_2.index t 0, win0_2.index t 1, 0] a) ∧ win0_2.index t 0 < 4 ∧ win0_2.index t 1 < 6 ∧ win0_2.index t 2 = 0 :=
  (by decide +kernel : ∀ t : Fin grid0.N, (∀ a, win0_0.index t a = ![2 * win0_2.index t 0, win0_2.index t 1, 0] a)
    ∧ (∀ a, win0_1.index t a = ![win0_2.index t 0, win0_2.index t 1, 0] a) ∧ win0_2.index t 0 < 4 ∧ win0_2.index t 1 < 6 ∧ win0_2.index t 2 = 0)

/-- Every band of the result is some grid point's. -/
theorem reached : ∀ (p : Fin 4) (q : Fin 6), ∃ t : Fin cfg0.N, (cfg0.win 2).flush t = true ∧ win0_2.index t 0 = p.val ∧ win0_2.index t 1 = q.val :=
  (by decide +kernel : ∀ (p : Fin 4) (q : Fin 6), ∃ t : Fin grid0.N, (cfg0.win 2).flush t = true ∧ win0_2.index t 0 = p.val ∧ win0_2.index t 1 = q.val)

theorem left (c : Dev nD) (t : Fin cfg0.N) (j : S1x224x4096.Idx) :
    (dats m 0 c).flushed 2 t j = k0_pay1 (F := F) (iblk m c 0 t) (iblk m c 1 t) j := by
  rw [Value.flushed2]
  show out0_2 _ _ j = _
  unfold out0_2
  rw [View.canon_unit_zero zeros3, View.ld_unit_zero (S := S1x224x4096) zeros3, View.ld_unit_zero (S := S1x224x4096) zeros3]

/-- What each grid point writes back is the reference's sum, read through the block. -/
theorem flushed_eq (c : Dev nD) (t : Fin cfg0.N) (hf : (cfg0.win 2).flush t = true) :
    (dats m 0 c).flushed 2 t = ((cfg0.win 2).blk t).view.read (Elt F)
      (Cert.PairInRefIdeal.Read.val_main_v4 (F := F) (m ((c : Thread nD τ).loc main_arg0)) (m ((c : Thread nD τ).loc main_arg1))) := by
  funext j
  obtain ⟨h0, h1, l0, l1, h2⟩ := bands t
  have j0 : (j 0).val < 1 := (j 0).isLt
  have j1 : (j 1).val < 224 := (j 1).isLt
  have j2 : (j 2).val < 4096 := (j 2).isLt
  have e : (((cfg0.win 2).blk t).view.emb j : (cube 4 1344).Idx)
      = spot ⟨win0_2.index t 0, l0⟩ ⟨win0_2.index t 1 * 224 + (j 1).val, by omega⟩ ⟨(j 2).val, j2⟩ := spot_ext
    (by show win0_2.index t 0 * 1 + 1 * (j 0).val = win0_2.index t 0; omega)
    (by show win0_2.index t 1 * 224 + 1 * (j 1).val = win0_2.index t 1 * 224 + (j 1).val; omega)
    (by show win0_2.index t 2 * 4096 + 1 * (j 2).val = (j 2).val; rw [h2]; omega)
  rw [View.read_apply, left]
  refine Eq.trans ?_ ((reference_apply _ _ _ _ _).symm.trans (congrArg _ e.symm))
  refine Eq.trans (b := add (F := F) (iblk m c 0 t j) (iblk m c 1 t j)) rfl (congrArg₂ (add (F := F)) ?_ ?_)
  · unfold iblk
    rw [View.read_apply]
    refine (congrFun (V_main_arg0 m c) _).trans (congrArg (m ((c : Thread nD τ).loc main_arg0)) (spot_ext ?_ ?_ ?_))
    · show win0_0.index t 0 * 1 + 1 * (j 0).val = 2 * win0_2.index t 0
      rw [show win0_0.index t 0 = 2 * win0_2.index t 0 from h0 0]; omega
    · show win0_0.index t 1 * 224 + 1 * (j 1).val = win0_2.index t 1 * 224 + (j 1).val
      rw [show win0_0.index t 1 = win0_2.index t 1 from h0 1]; omega
    · show win0_0.index t 2 * 4096 + 1 * (j 2).val = (j 2).val
      rw [show win0_0.index t 2 = 0 from h0 2]; omega
  · unfold iblk
    rw [View.read_apply]
    refine (congrFun (V_main_arg1 m c) _).trans (congrArg (m ((c : Thread nD τ).loc main_arg1)) (spot_ext ?_ ?_ ?_))
    · show win0_1.index t 0 * 1 + 1 * (j 0).val = win0_2.index t 0
      rw [show win0_1.index t 0 = win0_2.index t 0 from h1 0]; omega
    · show win0_1.index t 1 * 224 + 1 * (j 1).val = win0_2.index t 1 * 224 + (j 1).val
      rw [show win0_1.index t 1 = win0_2.index t 1 from h1 1]; omega
    · show win0_1.index t 2 * 4096 + 1 * (j 2).val = (j 2).val
      rw [show win0_1.index t 2 = 0 from h1 2]; omega

/-- The result array ends at the reference's sum. -/
theorem final (c : Dev nD) : (dats m 0 c).arrAt 2 cfg0.N
    = Cert.PairInRefIdeal.Read.val_main_v4 (F := F) (m ((c : Thread nD τ).loc main_arg0)) (m ((c : Thread nD τ).loc main_arg1)) :=
  (dats m 0 c).arrAt_eq_of_cover 2 _ (flushed_eq m c) fun i => by
    have i0 : (i 0 : Nat) < 4 := (i 0).isLt
    have i1 : (i 1 : Nat) < 1344 := (i 1).isLt
    have i2 : (i 2 : Nat) < 4096 := (i 2).isLt
    obtain ⟨t, hf, hp, hq⟩ := reached ⟨(i 0 : Nat), i0⟩ ⟨(i 1 : Nat) / 224, by omega⟩
    obtain ⟨-, -, -, -, h2⟩ := bands t
    refine ⟨t, hf, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [hp]; dsimp only; omega
    | ⟨1, _⟩ => show win0_2.index t 1 * 224 ≤ (i 1 : Nat) ∧ (i 1 : Nat) < win0_2.index t 1 * 224 + 224
                rw [hq]; dsimp only; omega
    | ⟨2, _⟩ => show win0_2.index t 2 * 4096 ≤ (i 2 : Nat) ∧ (i 2 : Nat) < win0_2.index t 2 * 4096 + 4096
                rw [h2]; omega

end Cert.PairInIdeal.Sum

namespace Cert.Proof.PairIn

/-- The two programs have one body table, read at the machine's floats. -/
theorem bodies : @Cert.PairIn.defs₀ Bits _ _ = @Cert.PairInIdeal.defs₀ Bits _ _ := by
  unfold Cert.PairIn.defs₀ Cert.PairInIdeal.defs₀
  refine congrArg Defs.onTc (funext fun l => ?_)
  match l with
  | 0 => rfl
theorem table : @Cert.PairIn.defs Bits _ _ = @Cert.PairInIdeal.defs Bits _ _ := congrArg (Pipeline.defs _) bodies

theorem frame_kernel : Cert.quiescent_PairIn := fun m ρ _ => by
  rw [table]
  exact Cert.PairInIdeal.Gen.frame (F := Bits) m ρ
theorem frame_ideal : Cert.quiescent_PairInIdeal := fun m ρ _ => Cert.PairInIdeal.Gen.frame m ρ
theorem frame_ref : Cert.quiescent_PairInRefIdeal := fun m ρ _ =>
  (θ_run Cert.PairInRefIdeal.defs _ _).mono
    (fun r h => ⟨fun c => (h c).2, Idealize.ShloMosaic.sem_eq_zero_of_no_sems (by decide) r.2⟩)
    (Cert.PairInRefIdeal.Value.run (F := Ideal) m ρ)

theorem value : Cert.algebraic_PairInIdeal_PairInRefIdeal := fun m ρ m' ρ' _ hag =>
  ⟨fun c => Cert.PairInRefIdeal.Read.val_main_v4 (F := Ideal) (m ((c.tc : Thread _ _).loc Cert.PairInIdeal.main_arg0)) (m ((c.tc : Thread _ _).loc Cert.PairInIdeal.main_arg1)),
    (θ_run Cert.PairInIdeal.defs _ _).mono
      (fun _ h c => ⟨(h c).1.trans (Cert.PairInIdeal.Sum.final m c), (h c).2⟩)
      (Cert.PairInIdeal.Value.run_blocks m ρ),
    (θ_run Cert.PairInRefIdeal.defs _ _).mono
      (fun _ h c => ⟨(h c).1.trans ((Cert.PairInRefIdeal.Read.val_main_v4_eq _ _).trans (by rw [(hag c).1, (hag c).2])), (h c).2⟩)
      (Cert.PairInRefIdeal.Value.run m' ρ')⟩

theorem frame_ref_bits : Cert.quiescent_PairInRef := fun m ρ _ =>
  (θ_run Cert.PairInRef.defs _ _).mono
    (fun r h => ⟨fun c => (h c).2, Idealize.ShloMosaic.sem_eq_zero_of_no_sems (by decide) r.2⟩)
    (Cert.PairInRef.Value.run (F := Bits) m ρ)

/-- The sums agree bit for bit. -/
theorem same : Cert.bitexact_PairIn_PairInRef := fun m ρ m' ρ' _ hag =>
  ⟨fun c => Cert.PairInRefIdeal.Read.val_main_v4 (F := Bits) (m ((c.tc : Thread _ _).loc Cert.PairInIdeal.main_arg0)) (m ((c.tc : Thread _ _).loc Cert.PairInIdeal.main_arg1)),
    by
      rw [table]
      exact (θ_run Cert.PairInIdeal.defs _ _).mono
        (fun _ h c => ⟨(h c).1.trans (Cert.PairInIdeal.Sum.final m c), (h c).2⟩)
        (Cert.PairInIdeal.Value.run_blocks (F := Bits) m ρ),
    (θ_run Cert.PairInRef.defs _ _).mono
      (fun _ h c => ⟨(h c).1.trans ((Cert.PairInRef.Read.val_main_v4_eq _ _).trans (by rw [(hag c).1, (hag c).2]; rfl)), (h c).2⟩)
      (Cert.PairInRef.Value.run (F := Bits) m' ρ')⟩

end Cert.Proof.PairIn

end
-- ==== Proof.PairOut.lean ====
/-
  The sum that joins two devices' parts of the gradient of the output weights: each of the four blocks the partner device sent
  is added to the block of this device's own gradient with which it belongs, every second one of the eight.

  The kernel works on bands of 256 rows, 2 bands to a block.
-/
module

public import proofs.«01_k».proof.Defs
public import proofs.«01_k».proof.Proof.Common
public import proofs.«01_k».proof.Proof.Layers
public import proofs.«01_k».proof.Proof.Gen.PairOut
public import proofs.«01_k».proof.Proof.Gen.PairOutIdeal.Value
public import proofs.«01_k».proof.Proof.Gen.PairOutRefIdeal.Read
public import proofs.«01_k».proof.Proof.Gen.PairOutRef.Read
public import Idealize.ShloMosaic.Lib.StableHlo.Run
public import Idealize.ShloMosaic.Lib.Quiescent

@[expose] public section

noncomputable section

open Idealize.ShloMosaic Idealize.ShloMosaic.TcCoe Idealize.SL.Sem
open Idealize.ShloMosaic.Pipeline (Dat)

namespace Cert.PairOutIdeal.Sum

open Cert.PairOutIdeal Cert.PairOutIdeal.Gen Cert.Proof Cert.Proof.Layers

variable {F : FTy → Type} [FloatOps F]
variable (m : (ℓ : Loc nD τ sig) → Buf (Elt F) ℓ) (ρ : Dev nD → PrngReg)

/-- The even block that belongs to block `q`. -/
def even (q : Fin 4) : Fin 8 := ⟨2 * q.val, by omega⟩

/-- The sum of two numbers, taken in the wide format and rounded to the narrow one. -/
def add (x y : F .bf16) : F .bf16 :=
  FloatOps.truncf .bf16 bitsLt_bf16_f32 (FloatOps.addf (FloatOps.extf .f32 bitsLt_bf16_f32 x) (FloatOps.extf .f32 bitsLt_bf16_f32 y))

/-- The reference's result at a number. -/
theorem reference_apply (x0 : (cube 8 512).Idx → F .bf16) (x1 : (cube 4 512).Idx → F .bf16) (q : Fin 4) (b : Fin 512) (k : Fin 4096) :
    Cert.PairOutRefIdeal.Read.val_main_v4 (F := F) x0 x1 (spot q b k) = add (x0 (spot (even q) b k)) (x1 (spot q b k)) := by
  rw [Cert.PairOutRefIdeal.Read.val_main_v4_apply, Cert.PairOutRefIdeal.Read.val_main_v3_apply, Cert.PairOutRefIdeal.Read.val_main_v1_apply,
    Cert.PairOutRefIdeal.Read.val_main_v2_apply]
  unfold Cert.PairOutRefIdeal.Read.val_main_v0
  refine congrArg (fun x => add x (x1 (spot q b k))) (congrArg x0 (spot_ext ?_ ?_ ?_))
  · show 0 + 2 * q.val = 2 * q.val
    omega
  · show 0 + 1 * b.val = b.val
    omega
  · show 0 + 1 * k.val = k.val
    omega

/-- Point `t` works on one band of one block, of the gradient, of the other device's part and of the result. -/
theorem bands : ∀ t : Fin cfg0.N, (∀ a, win0_0.index t a = ![2 * win0_2.index t 0, win0_2.index t 1, 0] a)
    ∧ (∀ a, win0_1.index t a = ![win0_2.index t 0, win0_2.index t 1, 0] a) ∧ win0_2.index t 0 < 4 ∧ win0_2.index t 1 < 2 ∧ win0_2.index t 2 = 0 :=
  (by decide +kernel : ∀ t : Fin grid0.N, (∀ a, win0_0.index t a = ![2 * win0_2.index t 0, win0_2.index t 1, 0] a)
    ∧ (∀ a, win0_1.index t a = ![win0_2.index t 0, win0_2.index t 1, 0] a) ∧ win0_2.index t 0 < 4 ∧ win0_2.index t 1 < 2 ∧ win0_2.index t 2 = 0)

/-- Every band of the result is some grid point's. -/
theorem reached : ∀ (p : Fin 4) (q : Fin 2), ∃ t : Fin cfg0.N, (cfg0.win 2).flush t = true ∧ win0_2.index t 0 = p.val ∧ win0_2.index t 1 = q.val :=
  (by decide +kernel : ∀ (p : Fin 4) (q : Fin 2), ∃ t : Fin grid0.N, (cfg0.win 2).flush t = true ∧ win0_2.index t 0 = p.val ∧ win0_2.index t 1 = q.val)

theorem left (c : Dev nD) (t : Fin cfg0.N) (j : S1x256x4096.Idx) :
    (dats m 0 c).flushed 2 t j = k0_pay1 (F := F) (iblk m c 0 t) (iblk m c 1 t) j := by
  rw [Value.flushed2]
  show out0_2 _ _ j = _
  unfold out0_2
  rw [View.canon_unit_zero zeros3, View.ld_unit_zero (S := S1x256x4096) zeros3, View.ld_unit_zero (S := S1x256x4096) zeros3]

/-- What each grid point writes back is the reference's sum, read through the block. -/
theorem flushed_eq (c : Dev nD) (t : Fin cfg0.N) (hf : (cfg0.win 2).flush t = true) :
    (dats m 0 c).flushed 2 t = ((cfg0.win 2).blk t).view.read (Elt F)
      (Cert.PairOutRefIdeal.Read.val_main_v4 (F := F) (m ((c : Thread nD τ).loc main_arg0)) (m ((c : Thread nD τ).loc main_arg1))) := by
  funext j
  obtain ⟨h0, h1, l0, l1, h2⟩ := bands t
  have j0 : (j 0).val < 1 := (j 0).isLt
  have j1 : (j 1).val < 256 := (j 1).isLt
  have j2 : (j 2).val < 4096 := (j 2).isLt
  have e : (((cfg0.win 2).blk t).view.emb j : (cube 4 512).Idx)
      = spot ⟨win0_2.index t 0, l0⟩ ⟨win0_2.index t 1 * 256 + (j 1).val, by omega⟩ ⟨(j 2).val, j2⟩ := spot_ext
    (by show win0_2.index t 0 * 1 + 1 * (j 0).val = win0_2.index t 0; omega)
    (by show win0_2.index t 1 * 256 + 1 * (j 1).val = win0_2.index t 1 * 256 + (j 1).val; omega)
    (by show win0_2.index t 2 * 4096 + 1 * (j 2).val = (j 2).val; rw [h2]; omega)
  rw [View.read_apply, left]
  refine Eq.trans ?_ ((reference_apply _ _ _ _ _).symm.trans (congrArg _ e.symm))
  refine Eq.trans (b := add (F := F) (iblk m c 0 t j) (iblk m c 1 t j)) rfl (congrArg₂ (add (F := F)) ?_ ?_)
  · unfold iblk
    rw [View.read_apply]
    refine (congrFun (V_main_arg0 m c) _).trans (congrArg (m ((c : Thread nD τ).loc main_arg0)) (spot_ext ?_ ?_ ?_))
    · show win0_0.index t 0 * 1 + 1 * (j 0).val = 2 * win0_2.index t 0
      rw [show win0_0.index t 0 = 2 * win0_2.index t 0 from h0 0]; omega
    · show win0_0.index t 1 * 256 + 1 * (j 1).val = win0_2.index t 1 * 256 + (j 1).val
      rw [show win0_0.index t 1 = win0_2.index t 1 from h0 1]; omega
    · show win0_0.index t 2 * 4096 + 1 * (j 2).val = (j 2).val
      rw [show win0_0.index t 2 = 0 from h0 2]; omega
  · unfold iblk
    rw [View.read_apply]
    refine (congrFun (V_main_arg1 m c) _).trans (congrArg (m ((c : Thread nD τ).loc main_arg1)) (spot_ext ?_ ?_ ?_))
    · show win0_1.index t 0 * 1 + 1 * (j 0).val = win0_2.index t 0
      rw [show win0_1.index t 0 = win0_2.index t 0 from h1 0]; omega
    · show win0_1.index t 1 * 256 + 1 * (j 1).val = win0_2.index t 1 * 256 + (j 1).val
      rw [show win0_1.index t 1 = win0_2.index t 1 from h1 1]; omega
    · show win0_1.index t 2 * 4096 + 1 * (j 2).val = (j 2).val
      rw [show win0_1.index t 2 = 0 from h1 2]; omega

/-- The result array ends at the reference's sum. -/
theorem final (c : Dev nD) : (dats m 0 c).arrAt 2 cfg0.N
    = Cert.PairOutRefIdeal.Read.val_main_v4 (F := F) (m ((c : Thread nD τ).loc main_arg0)) (m ((c : Thread nD τ).loc main_arg1)) :=
  (dats m 0 c).arrAt_eq_of_cover 2 _ (flushed_eq m c) fun i => by
    have i0 : (i 0 : Nat) < 4 := (i 0).isLt
    have i1 : (i 1 : Nat) < 512 := (i 1).isLt
    have i2 : (i 2 : Nat) < 4096 := (i 2).isLt
    obtain ⟨t, hf, hp, hq⟩ := reached ⟨(i 0 : Nat), i0⟩ ⟨(i 1 : Nat) / 256, by omega⟩
    obtain ⟨-, -, -, -, h2⟩ := bands t
    refine ⟨t, hf, ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [hp]; dsimp only; omega
    | ⟨1, _⟩ => show win0_2.index t 1 * 256 ≤ (i 1 : Nat) ∧ (i 1 : Nat) < win0_2.index t 1 * 256 + 256
                rw [hq]; dsimp only; omega
    | ⟨2, _⟩ => show win0_2.index t 2 * 4096 ≤ (i 2 : Nat) ∧ (i 2 : Nat) < win0_2.index t 2 * 4096 + 4096
                rw [h2]; omega

end Cert.PairOutIdeal.Sum

namespace Cert.Proof.PairOut

/-- The two programs have one body table, read at the machine's floats. -/
theorem bodies : @Cert.PairOut.defs₀ Bits _ _ = @Cert.PairOutIdeal.defs₀ Bits _ _ := by
  unfold Cert.PairOut.defs₀ Cert.PairOutIdeal.defs₀
  refine congrArg Defs.onTc (funext fun l => ?_)
  match l with
  | 0 => rfl
theorem table : @Cert.PairOut.defs Bits _ _ = @Cert.PairOutIdeal.defs Bits _ _ := congrArg (Pipeline.defs _) bodies

theorem frame_kernel : Cert.quiescent_PairOut := fun m ρ _ => by
  rw [table]
  exact Cert.PairOutIdeal.Gen.frame (F := Bits) m ρ
theorem frame_ideal : Cert.quiescent_PairOutIdeal := fun m ρ _ => Cert.PairOutIdeal.Gen.frame m ρ
theorem frame_ref : Cert.quiescent_PairOutRefIdeal := fun m ρ _ =>
  (θ_run Cert.PairOutRefIdeal.defs _ _).mono
    (fun r h => ⟨fun c => (h c).2, Idealize.ShloMosaic.sem_eq_zero_of_no_sems (by decide) r.2⟩)
    (Cert.PairOutRefIdeal.Value.run (F := Ideal) m ρ)

theorem value : Cert.algebraic_PairOutIdeal_PairOutRefIdeal := fun m ρ m' ρ' _ hag =>
  ⟨fun c => Cert.PairOutRefIdeal.Read.val_main_v4 (F := Ideal) (m ((c.tc : Thread _ _).loc Cert.PairOutIdeal.main_arg0)) (m ((c.tc : Thread _ _).loc Cert.PairOutIdeal.main_arg1)),
    (θ_run Cert.PairOutIdeal.defs _ _).mono
      (fun _ h c => ⟨(h c).1.trans (Cert.PairOutIdeal.Sum.final m c), (h c).2⟩)
      (Cert.PairOutIdeal.Value.run_blocks m ρ),
    (θ_run Cert.PairOutRefIdeal.defs _ _).mono
      (fun _ h c => ⟨(h c).1.trans ((Cert.PairOutRefIdeal.Read.val_main_v4_eq _ _).trans (by rw [(hag c).1, (hag c).2])), (h c).2⟩)
      (Cert.PairOutRefIdeal.Value.run m' ρ')⟩

theorem frame_ref_bits : Cert.quiescent_PairOutRef := fun m ρ _ =>
  (θ_run Cert.PairOutRef.defs _ _).mono
    (fun r h => ⟨fun c => (h c).2, Idealize.ShloMosaic.sem_eq_zero_of_no_sems (by decide) r.2⟩)
    (Cert.PairOutRef.Value.run (F := Bits) m ρ)

/-- The sums agree bit for bit. -/
theorem same : Cert.bitexact_PairOut_PairOutRef := fun m ρ m' ρ' _ hag =>
  ⟨fun c => Cert.PairOutRefIdeal.Read.val_main_v4 (F := Bits) (m ((c.tc : Thread _ _).loc Cert.PairOutIdeal.main_arg0)) (m ((c.tc : Thread _ _).loc Cert.PairOutIdeal.main_arg1)),
    by
      rw [table]
      exact (θ_run Cert.PairOutIdeal.defs _ _).mono
        (fun _ h c => ⟨(h c).1.trans (Cert.PairOutIdeal.Sum.final m c), (h c).2⟩)
        (Cert.PairOutIdeal.Value.run_blocks (F := Bits) m ρ),
    (θ_run Cert.PairOutRef.defs _ _).mono
      (fun _ h c => ⟨(h c).1.trans ((Cert.PairOutRef.Read.val_main_v4_eq _ _).trans (by rw [(hag c).1, (hag c).2]; rfl)), (h c).2⟩)
      (Cert.PairOutRef.Value.run (F := Bits) m' ρ')⟩

end Cert.Proof.PairOut

end
-- ==== Proof.Short.lean ====
/-
  The short-convolution branch of the mixer over the extended reals: three taps along a sequence, a norm of the row by its
  mean square, and a gate. A sequence is a function of the row and the column.
-/
module

public import proofs.«01_k».proof.Proof.Norm

@[expose] public section

noncomputable section

open Idealize.ShloMosaic Idealize.SL.Sem

namespace Cert.Proof

/-- An array of two axes read at two numbers, zero outside. -/
def cell {n l : ℕ} (X : (⟨2, ![n, l]⟩ : Shape).Idx → EReal) (r k : ℕ) : EReal :=
  if h : r < n ∧ k < l then X (pair ⟨r, h.1⟩ ⟨k, h.2⟩) else 0

theorem cell_eq {n l : ℕ} (X : (⟨2, ![n, l]⟩ : Shape).Idx → EReal) (j : (⟨2, ![n, l]⟩ : Shape).Idx) (r k : ℕ)
    (hr : (j 0).val = r) (hk : (j 1).val = k) : X j = cell X r k := by
  subst hr hk
  unfold cell
  rw [dif_pos ⟨(j 0).isLt, (j 1).isLt⟩]
  exact congrArg X (pair_eta j).symm

/-- The value `k` rows earlier, zero before the sequence starts. -/
def before (u : ℕ → EReal) (k s : ℕ) : EReal := if s < k then 0 else u (s - k)

/-- What the taps make of one column, at row `s`. -/
def tapped (h w : ℕ → ℕ → EReal) (s k : ℕ) : EReal :=
  h s k * (w 2 k * (h s (1024 + k) * h s (2048 + k)) + w 1 k * before (fun q => h q (1024 + k) * h q (2048 + k)) 1 s
    + w 0 k * before (fun q => h q (1024 + k) * h q (2048 + k)) 2 s)

/-- The reciprocal root mean square of a row. -/
def inverse (y : ℕ → EReal) : EReal :=
  FloatOps.rsqrt (F := Ideal) (φ := .f32) ((∑ c : Fin 1024, y c * y c) * Ideal.ofBits .f32 0x3A800000#32 + Ideal.ofBits .f32 0x358637BD#32)

/-- The gate of one number. -/
def gate (g : EReal) : EReal :=
  g * FloatOps.divf (F := Ideal) (φ := .f32) (Ideal.ofBits .f32 0x3F800000#32) (Ideal.ofBits .f32 0x3F800000#32 + FloatOps.exp (F := Ideal) (φ := .f32) (Ideal.ofBits .f32 0x00000000#32 - g))

/-- The branch at row `s`, column `k`. -/
def branch (h w : ℕ → ℕ → EReal) (n : ℕ → EReal) (s k : ℕ) : EReal :=
  tapped h w s k * inverse (tapped h w s) * n k * gate (h s (3072 + k))

/-- To divide by 1024 is to multiply by its reciprocal. -/
theorem divide_1024 (x : EReal) : FloatOps.divf (F := Ideal) (φ := .f32) x (Ideal.ofBits .f32 0x44800000#32) = x * Ideal.ofBits .f32 0x3A800000#32 := by
  have a : Ideal.ofBits .f32 0x44800000#32 = ((1024 : ℝ) : EReal) := by
    simp [Ideal.ofBits, Ideal.ieee, -EReal.coe_mul]; norm_num
  have b : Ideal.ofBits .f32 0x3A800000#32 = ((1024 : ℝ) : EReal)⁻¹ := by
    rw [← EReal.coe_inv]
    simp [Ideal.ofBits, Ideal.ieee, -EReal.coe_mul]; norm_num
  rw [a, b]
  show Ideal.div x _ = _
  unfold Ideal.div
  rw [if_neg (by norm_num)]

end Cert.Proof

end
-- ==== Proof.MixerPays.lean ====
/-
  The mixer kernel's short-convolution branch on one block of rows: each of its eight column chunks is the same three functions
  of what the chunk reads.
-/
module

public import proofs.«01_k».proof.Proof.Short
public import proofs.«01_k».proof.Proof.Gen.MixerIdeal.Skeleton
public import Idealize.ShloMosaic.Lib.KernelVsHost
public import Idealize.ShloMosaic.Lib.WordCmp

@[expose] public section

noncomputable section

open Idealize.ShloMosaic Idealize.ShloMosaic.TcCoe Idealize.SL.Sem

namespace Cert.MixerIdeal.Rows

open Cert.MixerIdeal Cert.MixerIdeal.Gen Cert.Proof

/-- The rows of `u` moved down by `k`, the first rows taken from the end of `p`. -/
def shifted (k : BitVec 32) (u : FVec Ideal S128x128 .f32) (p : FVec Ideal S8x128 .f32) : FVec Ideal S128x128 .f32 :=
  select (cmpi .slt (iota .tc S128x128 32 [0] iota_S128x128_d0_w32) (broadcast S128x128 k))
    (concatenate S128x128 0 [⟨S8x128, dynamicRotate 0 k none p rotates_S8x128_d0⟩, ⟨S120x128, broadcast S120x128 (Scalar.ofBits .f32 0x00000000#32)⟩]
      concatenates_S8x128_S120x128_S128x128_d0)
    (dynamicRotate 0 k none u rotates_S128x128_d0)

/-- The three taps of one chunk. -/
def taps (w0 w1 w2 : Vec Ideal S1x128 .f32) (ab ac ax : Vec Ideal S128x128 .f32) (pc px : Vec Ideal S8x128 .f32) : FVec Ideal S128x128 .f32 :=
  mulf ab (addf (addf (mulf (broadcastTo S128x128 w2 broadcasts_S1x128_S128x128) (mulf ac ax))
    (mulf (broadcastTo S128x128 w1 broadcasts_S1x128_S128x128) (shifted 1#32 (mulf ac ax) (mulf pc px))))
    (mulf (broadcastTo S128x128 w0 broadcasts_S1x128_S128x128) (shifted 2#32 (mulf ac ax) (mulf pc px))))

/-- The sum of squares of each row of a chunk. -/
def squares (y : FVec Ideal S128x128 .f32) : FVec Ideal S128x1 .f32 :=
  shapeCast S128x1 (multiReduction .add [1] S128 (mulf y y) 0x00000000#32 reduces_S128x128_S128 (.inl rfl) rfl) shapeCasts_S128_S128x1

/-- The reciprocal root mean square of the rows of eight chunks. -/
def inverses (y0 y1 y2 y3 y4 y5 y6 y7 : FVec Ideal S128x128 .f32) : FVec Ideal S128x1 .f32 :=
  rsqrt (addf (mulf (addf (addf (addf (addf (addf (addf (addf (addf (broadcast S128x1 (Scalar.ofBits .f32 0x00000000#32)) (squares y0)) (squares y1)) (squares y2))
    (squares y3)) (squares y4)) (squares y5)) (squares y6)) (squares y7)) (broadcast S128x1 (Scalar.ofBits .f32 0x3A800000#32)))
    (broadcast S128x1 (Scalar.ofBits .f32 0x358637BD#32)))

/-- A chunk of the result. -/
def gated (y : FVec Ideal S128x128 .f32) (r : FVec Ideal S128x1 .f32) (n : FVec Ideal S1x128 .f32) (g : Vec Ideal S128x128 .f32) : FVec Ideal S128x128 .f32 :=
  mulf (mulf (mulf y (broadcastTo S128x128 r broadcasts_S128x1_S128x128)) (broadcastTo S128x128 n broadcasts_S1x128_S128x128))
    (mulf g (divf (broadcast S128x128 (Scalar.ofBits .f32 0x3F800000#32))
      (addf (broadcast S128x128 (Scalar.ofBits .f32 0x3F800000#32)) (exp (subf (broadcast S128x128 (Scalar.ofBits .f32 0x00000000#32)) g)))))

variable (w0 w1 w2 : Vec Ideal S1x128 .f32) (ab ac ax : Vec Ideal S128x128 .f32) (pc px : Vec Ideal S8x128 .f32)

theorem taps0 : k0_pay120 (F := Ideal) w0 w1 w2 ab ac ax pc px = taps w0 w1 w2 ab ac ax pc px := rfl

theorem taps1 : k0_pay125 (F := Ideal) w0 ab (k0_pay121 ac ax) (k0_pay123 w1 w2 ac ax pc px) (k0_pay124 pc px) = taps w0 w1 w2 ab ac ax pc px := rfl

theorem taps2 : k0_pay126 (F := Ideal) w0 w1 w2 ab ac ax pc px = taps w0 w1 w2 ab ac ax pc px := rfl

theorem taps3 : k0_pay131 (F := Ideal) w0 w1 ab (k0_pay127 ac ax) (k0_pay128 pc px) (k0_pay129 w2 ac ax) (k0_pay130 pc px)
    (iota .tc S128x128 32 [0] iota_S128x128_d0_w32) 1#32 = taps w0 w1 w2 ab ac ax pc px := rfl

theorem taps4 : k0_pay132 (F := Ideal) w0 w1 w2 ab ac ax pc px = taps w0 w1 w2 ab ac ax pc px := rfl

theorem taps5 : k0_pay134 (F := Ideal) w0 w1 w2 ab pc px (k0_pay133 ac ax) = taps w0 w1 w2 ab ac ax pc px := rfl

theorem taps6 : k0_pay139 (F := Ideal) w0 ab (k0_pay135 ac ax) (k0_pay137 w1 w2 ac ax pc px) (k0_pay138 pc px)
    (iota .tc S128x128 32 [0] iota_S128x128_d0_w32) 2#32 = taps w0 w1 w2 ab ac ax pc px := rfl

theorem taps7 : k0_pay140 (F := Ideal) w0 w1 w2 ab ac ax pc px = taps w0 w1 w2 ab ac ax pc px := rfl

variable (y y0 y1 y2 y3 y4 y5 y6 y7 : FVec Ideal S128x128 .f32) (n : Vec Ideal S1x128 .f32) (r : FVec Ideal S128x1 .f32) (g : Vec Ideal S128x128 .f32)

theorem inverses_all : k0_pay143 (F := Ideal) y3 y4 y5 y6 y7 (k0_pay141 y0 y1) (k0_pay142 y2) = inverses y0 y1 y2 y3 y4 y5 y6 y7 := rfl

/-- A row moved down by `k`: from the end of `p` when the block has no such row. -/
theorem shifted_apply (k : ℕ) (h0 : 0 < k) (hk : k < 8) (u : FVec Ideal S128x128 .f32) (p : FVec Ideal S8x128 .f32) (j : S128x128.Idx) :
    shifted (BitVec.ofNat 32 k) u p j
      = if h : (j 0).val < k then p (pair ⟨8 + (j 0).val - k, by omega⟩ (j 1)) else u (pair ⟨(j 0).val - k, by have : (j 0).val < 128 := (j 0).isLt; omega⟩ (j 1)) := by
  have hj : (j 0).val < 128 := (j 0).isLt
  have hk' : (BitVec.ofNat 32 k).toNat = k := by rw [BitVec.toNat_ofNat]; exact Nat.mod_eq_of_lt (by omega)
  have hc : cmpi .slt (iota .tc S128x128 32 [0] iota_S128x128_d0_w32) (broadcast S128x128 (BitVec.ofNat 32 k)) j = BitVec.ofBool (decide ((j 0).val < k)) := by
    show IntOp.cmpi .slt (iota .tc S128x128 32 [0] iota_S128x128_d0_w32 j) (BitVec.ofNat 32 k) = _
    rw [iota_single_apply]
    exact WordCmp.cmpi_slt_ofNat (by omega) (by omega)
  unfold shifted
  show (if cmpi .slt (iota .tc S128x128 32 [0] iota_S128x128_d0_w32) (broadcast S128x128 (BitVec.ofNat 32 k)) j = 1 then _ else _) = _
  rw [hc]
  by_cases h : (j 0).val < k
  · rw [dif_pos h, decide_eq_true h, if_pos (by decide)]
    refine (concatenate_pair_apply_left (s₁ := S8x128) 0 _ _ _ j rfl (pair ⟨(j 0).val, by omega⟩ (j 1)) fun b => ?_).trans ?_
    · match b with
      | ⟨0, _⟩ => rfl
      | ⟨1, _⟩ => rfl
    · refine dynamicRotate_apply _ _ _ _ _ _ fun b => ?_
      rw [hk']
      match b with
      | ⟨0, _⟩ => show 8 + (j 0).val - k = ((j 0).val + 8 - k % 8) % 8; omega
      | ⟨1, _⟩ => rfl
  · rw [dif_neg h, decide_eq_false h, if_neg (by decide)]
    refine dynamicRotate_apply _ _ _ _ _ _ fun b => ?_
    rw [hk']
    match b with
    | ⟨0, _⟩ => show (j 0).val - k = ((j 0).val + 128 - k % 128) % 128; omega
    | ⟨1, _⟩ => rfl

/-- What the taps of a chunk are, when the block starts at row `s` of a sequence `h`, the chunk at column `o`. -/
theorem taps_apply (h w : ℕ → ℕ → EReal) (s o : ℕ) (hs : s = 0 ∨ 8 ≤ s)
    (h0 : ∀ i, w0 i = w 0 (o + (i 1).val)) (h1 : ∀ i, w1 i = w 1 (o + (i 1).val)) (h2 : ∀ i, w2 i = w 2 (o + (i 1).val))
    (hb : ∀ i, ab i = h (s + (i 0).val) (o + (i 1).val)) (hc : ∀ i, ac i = h (s + (i 0).val) (1024 + (o + (i 1).val)))
    (hx : ∀ i, ax i = h (s + (i 0).val) (2048 + (o + (i 1).val)))
    (hp : ∀ i, (pc i * px i : EReal) = if s = 0 then 0 else h (s + (i 0).val - 8) (1024 + (o + (i 1).val)) * h (s + (i 0).val - 8) (2048 + (o + (i 1).val)))
    (j : S128x128.Idx) : taps w0 w1 w2 ab ac ax pc px j = tapped h w (s + (j 0).val) (o + (j 1).val) := by
  have moved : ∀ k : ℕ, 0 < k → k < 8 → shifted (BitVec.ofNat 32 k) (mulf ac ax) (mulf pc px) j
      = before (fun q => h q (1024 + (o + (j 1).val)) * h q (2048 + (o + (j 1).val))) k (s + (j 0).val) := by
    intro k k0 k8
    rw [shifted_apply k k0 k8]
    unfold before
    by_cases hj : (j 0).val < k
    · rw [dif_pos hj]
      refine (hp _).trans ?_
      show (if s = 0 then (0 : EReal) else h (s + (8 + (j 0).val - k) - 8) (1024 + (o + (j 1).val)) * h (s + (8 + (j 0).val - k) - 8) (2048 + (o + (j 1).val))) = _
      by_cases h00 : s = 0
      · rw [if_pos h00, if_pos (by omega)]
      · rw [if_neg h00, if_neg (by omega), show s + (8 + (j 0).val - k) - 8 = s + (j 0).val - k from by omega]
    · rw [dif_neg hj, if_neg (by omega)]
      refine (congrArg₂ (fun x y : EReal => x * y) (hc _) (hx _)).trans ?_
      show h (s + ((j 0).val - k)) (1024 + (o + (j 1).val)) * h (s + ((j 0).val - k)) (2048 + (o + (j 1).val)) = _
      rw [show s + ((j 0).val - k) = s + (j 0).val - k from by omega]
  unfold taps tapped
  refine congrArg₂ (fun x y : EReal => x * y) (hb j) (congrArg₂ (fun x y : EReal => x + y) (congrArg₂ (fun x y : EReal => x + y) ?_ ?_) ?_)
  · exact congrArg₂ (fun x y : EReal => x * y) ((spread_row (by decide) w2 _ j).trans (h2 _)) (congrArg₂ (fun x y : EReal => x * y) (hc j) (hx j))
  · exact congrArg₂ (fun x y : EReal => x * y) ((spread_row (by decide) w1 _ j).trans (h1 _)) (moved 1 (by decide) (by decide))
  · exact congrArg₂ (fun x y : EReal => x * y) ((spread_row (by decide) w0 _ j).trans (h0 _)) (moved 2 (by decide) (by decide))

/-- A sum over 1024 columns is the sum over eight chunks of 128. -/
theorem chunk_sum (f : ℕ → EReal) : ∑ c : Fin 1024, f c
    = 0 + ∑ c : Fin 128, f (0 + c) + ∑ c : Fin 128, f (128 + c) + ∑ c : Fin 128, f (256 + c) + ∑ c : Fin 128, f (384 + c)
      + ∑ c : Fin 128, f (512 + c) + ∑ c : Fin 128, f (640 + c) + ∑ c : Fin 128, f (768 + c) + ∑ c : Fin 128, f (896 + c) := by
  rw [← (finProdFinEquiv (m := 8) (n := 128)).sum_comp, Fintype.sum_prod_type, Fin.sum_univ_eight, zero_add]
  simp only [finProdFinEquiv_apply_val]
  simp only [add_comm _ (128 * _)]
  rfl

/-- The reciprocal root mean square, the eight chunks being columns of one row each. -/
theorem inverses_apply (Y : ℕ → ℕ → EReal) (h0 : ∀ j, y0 j = Y (j 0).val (0 + (j 1).val)) (h1 : ∀ j, y1 j = Y (j 0).val (128 + (j 1).val))
    (h2 : ∀ j, y2 j = Y (j 0).val (256 + (j 1).val)) (h3 : ∀ j, y3 j = Y (j 0).val (384 + (j 1).val)) (h4 : ∀ j, y4 j = Y (j 0).val (512 + (j 1).val))
    (h5 : ∀ j, y5 j = Y (j 0).val (640 + (j 1).val)) (h6 : ∀ j, y6 j = Y (j 0).val (768 + (j 1).val)) (h7 : ∀ j, y7 j = Y (j 0).val (896 + (j 1).val))
    (i : S128x1.Idx) : inverses y0 y1 y2 y3 y4 y5 y6 y7 i = inverse (Y (i 0).val) := by
  have one : ∀ (y : FVec Ideal S128x128 .f32) (o : ℕ), (∀ j, y j = Y (j 0).val (o + (j 1).val))
      → squares y i = ∑ c : Fin 128, Y (i 0).val (o + c) * Y (i 0).val (o + c) := by
    intro y o hy
    unfold squares
    refine (row_sums _ _ _ _ _ i).trans (Finset.sum_congr rfl fun c _ => ?_)
    exact congrArg₂ (fun x y : EReal => x * y) (hy _) (hy _)
  unfold inverses inverse
  rw [chunk_sum fun c => Y (i 0).val c * Y (i 0).val c, ← one y0 0 h0, ← one y1 128 h1, ← one y2 256 h2, ← one y3 384 h3, ← one y4 512 h4, ← one y5 640 h5,
    ← one y6 768 h6, ← one y7 896 h7, ← Ideal.ofBits_zero_f32]
  rfl

theorem gated_apply (j : S128x128.Idx) : gated y r n g j = y j * r (pair (j 0) 0) * n (pair 0 (j 1)) * gate (g j) := by
  unfold gated gate
  refine congrArg₂ (fun x y : EReal => x * y) (congrArg₂ (fun x y : EReal => x * y) (congrArg₂ (fun x y : EReal => x * y) rfl ?_) ?_) rfl
  · exact spread_column (by decide) r _ j
  · exact spread_row (by decide) n _ j

/-- The taps of the chunk at column `o`, read off the block, the weights and the carried rows. -/
theorem chunk (X : Vec Ideal S128x10752 .f32) (W : Vec Ideal S3x1024 .f32) (P Q : Vec Ideal S8x1024 .f32) (h w : ℕ → ℕ → EReal) (s : ℕ) (hs : s = 0 ∨ 8 ≤ s)
    (hX : ∀ i, X i = h (s + (i 0).val) (i 1).val) (hW : ∀ i, W i = w (i 0).val (i 1).val)
    (hp : ∀ i, (P i * Q i : EReal) = if s = 0 then 0 else h (s + (i 0).val - 8) (1024 + (i 1).val) * h (s + (i 0).val - 8) (2048 + (i 1).val))
    (o : ℕ) (a0 a1 a2 b0 b1 b2 c0 c1) (j : S128x128.Idx) :
    taps (View.ld W (Rect.unit ![0, o] S1x128.size a0)) (View.ld W (Rect.unit ![1, o] S1x128.size a1)) (View.ld W (Rect.unit ![2, o] S1x128.size a2))
      (View.ld X (Rect.unit ![0, o] S128x128.size b0)) (View.ld X (Rect.unit ![0, 1024 + o] S128x128.size b1)) (View.ld X (Rect.unit ![0, 2048 + o] S128x128.size b2))
      (View.ld P (Rect.unit ![0, o] S8x128.size c0)) (View.ld Q (Rect.unit ![0, o] S8x128.size c1)) j = tapped h w (s + (j 0).val) (o + (j 1).val) := by
  have wt : ∀ (k : ℕ) (a) (i : S1x128.Idx), View.ld W (Rect.unit ![k, o] S1x128.size a) i = w k (o + (i 1).val) := by
    intro k a i
    have i0 : (i 0).val < 1 := (i 0).isLt
    refine (hW _).trans ?_
    show w (k + 1 * (i 0).val) (o + 1 * (i 1).val) = _
    rw [show k + 1 * (i 0).val = k from by omega, one_mul]
  have xt : ∀ (q : ℕ) (a) (i : S128x128.Idx), View.ld X (Rect.unit ![0, q] S128x128.size a) i = h (s + (i 0).val) (q + (i 1).val) := by
    intro q a i
    refine (hX _).trans ?_
    show h (s + (0 + 1 * (i 0).val)) (q + 1 * (i 1).val) = _
    rw [one_mul, one_mul, zero_add]
  refine taps_apply _ _ _ _ _ _ _ _ h w s o hs (wt 0 a0) (wt 1 a1) (wt 2 a2) (xt o b0) (fun i => (xt _ b1 i).trans ?_) (fun i => (xt _ b2 i).trans ?_) (fun i => ?_) j
  · rw [Nat.add_assoc]
  · rw [Nat.add_assoc]
  · refine (hp ((Rect.unit (s := S8x1024) ![0, o] S8x128.size c0).emb i)).trans ?_
    show (if s = 0 then (0 : EReal) else h (s + (0 + 1 * (i 0).val) - 8) (1024 + (o + 1 * (i 1).val)) * h (s + (0 + 1 * (i 0).val) - 8) (2048 + (o + 1 * (i 1).val))) = _
    rw [one_mul, one_mul, zero_add]

/-- A chunk of the result, its taps and the row's known. -/
theorem result (h w : ℕ → ℕ → EReal) (N : ℕ → EReal) (s o : ℕ) (h0 : ∀ j, y0 j = tapped h w (s + (j 0).val) (0 + (j 1).val)) (h1 : ∀ j, y1 j = tapped h w (s + (j 0).val) (128 + (j 1).val))
    (h2 : ∀ j, y2 j = tapped h w (s + (j 0).val) (256 + (j 1).val)) (h3 : ∀ j, y3 j = tapped h w (s + (j 0).val) (384 + (j 1).val)) (h4 : ∀ j, y4 j = tapped h w (s + (j 0).val) (512 + (j 1).val))
    (h5 : ∀ j, y5 j = tapped h w (s + (j 0).val) (640 + (j 1).val)) (h6 : ∀ j, y6 j = tapped h w (s + (j 0).val) (768 + (j 1).val)) (h7 : ∀ j, y7 j = tapped h w (s + (j 0).val) (896 + (j 1).val))
    (hy : ∀ j, y j = tapped h w (s + (j 0).val) (o + (j 1).val)) (hn : ∀ i, n i = N (o + (i 1).val)) (hg : ∀ j, g j = h (s + (j 0).val) (3072 + o + (j 1).val))
    (j : S128x128.Idx) : gated y (inverses y0 y1 y2 y3 y4 y5 y6 y7) n g j = branch h w N (s + (j 0).val) (o + (j 1).val) := by
  rw [gated_apply, inverses_apply _ _ _ _ _ _ _ _ (fun r => tapped h w (s + r)) h0 h1 h2 h3 h4 h5 h6 h7, hy, hn, hg, Nat.add_assoc]
  rfl

theorem out0 (j : S128x128.Idx) : k0_pay156 (F := Ideal) (k0_pay144 n g y0 y3 y4 y5 y6 y7 (k0_pay141 y0 y1) (k0_pay142 y2)) j
    = gated y0 (inverses y0 y1 y2 y3 y4 y5 y6 y7) n g j := rfl
theorem out1 (j : S128x128.Idx) : k0_pay157 (F := Ideal) (k0_pay147 g (k0_pay145 n y1 y3 y4 y5 y6 y7 (k0_pay141 y0 y1) (k0_pay142 y2)) (k0_pay146 g)) j
    = gated y1 (inverses y0 y1 y2 y3 y4 y5 y6 y7) n g j := rfl
theorem out2 (j : S128x128.Idx) : k0_pay158 (F := Ideal) (k0_pay148 n g y r) j = gated y r n g j := rfl
theorem out3 (j : S128x128.Idx) : k0_pay159 (F := Ideal) (k0_pay149 n g y r) j = gated y r n g j := rfl
theorem out4 (j : S128x128.Idx) : k0_pay160 (F := Ideal) (k0_pay150 n g y r) j = gated y r n g j := rfl
theorem out5 (j : S128x128.Idx) : k0_pay161 (F := Ideal) (k0_pay153 g (k0_pay151 n y r) (k0_pay152 g)) j = gated y r n g j := rfl
theorem out6 (j : S128x128.Idx) : k0_pay162 (F := Ideal) (k0_pay154 n g y r) j = gated y r n g j := rfl
theorem out7 (j : S128x128.Idx) : k0_pay163 (F := Ideal) (k0_pay155 n g y r) j = gated y r n g j := rfl

end Cert.MixerIdeal.Rows

end
-- ==== Proof.MixerBlock.lean ====
/-
  What the mixer kernel leaves in the short-convolution columns of one block of rows, at the first block of a sequence and at a later one.
-/
module

public import proofs.«01_k».proof.Proof.MixerPays
public import proofs.«01_k».proof.Proof.Gen.MixerIdeal.Frame
public import Idealize.ShloMosaic.Lib.Pipeline.ValueKit.Tiles

@[expose] public section

set_option maxRecDepth 16384

noncomputable section

open Idealize.ShloMosaic Idealize.ShloMosaic.TcCoe Idealize.ShloMosaic.Tactic Idealize.SL.Sem

namespace Cert.MixerIdeal.Rows

open Cert.MixerIdeal Cert.MixerIdeal.Gen Cert.Proof

variable (m : (ℓ : Loc nD τ sig) → Buf (Elt Ideal) ℓ) (ρ : Dev nD → PrngReg)

theorem row_at (R : Vec Ideal S1x1024 .f32) (N : ℕ → EReal) (hN : ∀ i, R i = N (i 1).val) (o : ℕ) (a) (i : S1x128.Idx) :
    View.ld R (Rect.unit ![0, o] S1x128.size a) i = N (o + (i 1).val) := by
  refine (hN _).trans ?_
  show N (o + 1 * (i 1).val) = _
  rw [one_mul]

theorem gate_at (X : Vec Ideal S128x10752 .f32) (h : ℕ → ℕ → EReal) (s : ℕ) (hX : ∀ i, X i = h (s + (i 0).val) (i 1).val) (o : ℕ) (a) (i : S128x128.Idx) :
    View.ld X (Rect.unit ![0, 3072 + o] S128x128.size a) i = h (s + (i 0).val) (3072 + o + (i 1).val) := by
  refine (hX _).trans ?_
  show h (s + (0 + 1 * (i 0).val)) (3072 + o + 1 * (i 1).val) = _
  rw [one_mul, one_mul, zero_add]

/-- The chunk at column `o` holds the index. -/
theorem spot (h w : ℕ → ℕ → EReal) (N : ℕ → EReal) (s o : ℕ) (x : S128x128.Idx) (y : S128x4096.Idx)
    (hx : ∀ a : Fin 2, (y a).val = (![0, o] : Fin 2 → ℕ) a + (x a).val) : branch h w N (s + (x 0).val) (o + (x 1).val) = branch h w N (s + (y 0).val) (y 1).val := by
  have e0 : (y 0).val = 0 + (x 0).val := hx 0
  have e1 : (y 1).val = o + (x 1).val := hx 1
  rw [e0, e1, zero_add]

/-- Rows set once and read back in part. -/
theorem carried (v : View sig .tc .vmem S8x1024 .f32) (P : Vec Ideal S8x1024 .f32) (a : ∀ a : Fin 2, (![0, 0] : Fin 2 → ℕ) a + (![8, 1024] : Fin 2 → ℕ) a ≤ S8x1024.size a) (o : Fin 2 → ℕ)
    (b : ∀ a : Fin 2, o a + (![8, 128] : Fin 2 → ℕ) a ≤ S8x1024.size a) :
    v.readCov [(⟨Rect.unit ![0, 0] ![8, 1024] a, P⟩ : View.Piece (Elt Ideal) S8x1024 .f32)] (Rect.unit o ![8, 128] b).toLoadRect
      = View.ld P (Rect.unit o S8x128.size b) := by
  rw [View.readCov_eq_canon', View.canon_unit_zero zeros2]

set_option maxHeartbeats 1000000 in
/-- The first block of a sequence: no rows come before it. -/
theorem first (c : Dev nD) (t : Fin cfg0.N) (h0 : t.val % 16 = 0) (h w : ℕ → ℕ → EReal) (N : ℕ → EReal) (s : ℕ) (h00 : s = 0)
    (hX : ∀ i : S128x10752.Idx, iblk m c 0 t i = h (s + (i 0).val) (i 1).val) (hW : ∀ i : S3x1024.Idx, iblk m c 2 t i = w (i 0).val (i 1).val)
    (hN : ∀ i : S1x1024.Idx, iblk m c 10 t i = N (i 1).val)
    (y : S128x4096.Idx) (hy : (y 1).val < 1024) : (outsAt0 m c t.val t.isLt).1 y = branch h w N (s + (y 0).val) (y 1).val := by
  have hs : s = 0 ∨ 8 ≤ s := Or.inl h00
  have hp : ∀ i : S8x1024.Idx, (k0_pay4 (F := Ideal) i * k0_pay5 (F := Ideal) i : EReal)
      = if s = 0 then 0 else h (s + (i 0).val - 8) (1024 + (i 1).val) * h (s + (i 0).val - 8) (2048 + (i 1).val) := by
    intro i
    rw [if_pos h00]
    show (Ideal.ofBits .f32 0x00000000#32 * Ideal.ofBits .f32 0x00000000#32 : EReal) = 0
    rw [Ideal.ofBits_zero_f32, zero_mul]
  have hy0 : (y 0).val < 128 := (y 0).isLt
  rw [outsAt0_A m c t h0]
  dsimp only
  unfold out0_A_14
  rw [View.read_writes_eq_canon _ _ _ (fun y => cover0_A_14 (y := y) ..)]
  refine View.canon_eq_of_allAt _ _ _ (cover0_A_14 ..) ?_
  unfold kernelRun0_A
  dsimp only
  sl_unfold_words
  iterate 24
    refine View.allAt_cons_unit _ _ _ _ _ (fun x hx => absurd (hx 1) (by
      intro h
      simp only [Matrix.cons_val_one, Matrix.cons_val_zero, Matrix.cons_val] at h
      omega)) ?_
  simp only [View.readAt_eq_ld, (hs0_0 t).read_unread, (hs0_2 t).read_unread, (hs0_10 t).read_unread, carried, shapeCast_self,
    taps0, taps1, taps2, taps4, taps5, taps7, inverses_all]
  rw [taps3, taps6]
  have T := chunk (iblk m c 0 t) (iblk m c 2 t) (k0_pay4 (F := Ideal)) (k0_pay5 (F := Ideal)) h w s hs hX hW hp
  refine View.allAt_cons_unit _ _ _ _ _ (fun x hx => (out7 _ _ _ _ x).trans ((result _ _ _ _ _ _ _ _ _ _ _ h w N s 896 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 896 _ _ _ _ _ _ _ _) (row_at _ N hN 896 _) (gate_at _ h s hX 896 _) x).trans
    (spot h w N s 896 x y hx))) ?_
  refine View.allAt_cons_unit _ _ _ _ _ (fun x hx => (out6 _ _ _ _ x).trans ((result _ _ _ _ _ _ _ _ _ _ _ h w N s 768 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 768 _ _ _ _ _ _ _ _) (row_at _ N hN 768 _) (gate_at _ h s hX 768 _) x).trans
    (spot h w N s 768 x y hx))) ?_
  refine View.allAt_cons_unit _ _ _ _ _ (fun x hx => (out5 _ _ _ _ x).trans ((result _ _ _ _ _ _ _ _ _ _ _ h w N s 640 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 640 _ _ _ _ _ _ _ _) (row_at _ N hN 640 _) (gate_at _ h s hX 640 _) x).trans
    (spot h w N s 640 x y hx))) ?_
  refine View.allAt_cons_unit _ _ _ _ _ (fun x hx => (out4 _ _ _ _ x).trans ((result _ _ _ _ _ _ _ _ _ _ _ h w N s 512 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 512 _ _ _ _ _ _ _ _) (row_at _ N hN 512 _) (gate_at _ h s hX 512 _) x).trans
    (spot h w N s 512 x y hx))) ?_
  refine View.allAt_cons_unit _ _ _ _ _ (fun x hx => (out3 _ _ _ _ x).trans ((result _ _ _ _ _ _ _ _ _ _ _ h w N s 384 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 384 _ _ _ _ _ _ _ _) (row_at _ N hN 384 _) (gate_at _ h s hX 384 _) x).trans
    (spot h w N s 384 x y hx))) ?_
  refine View.allAt_cons_unit _ _ _ _ _ (fun x hx => (out2 _ _ _ _ x).trans ((result _ _ _ _ _ _ _ _ _ _ _ h w N s 256 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 256 _ _ _ _ _ _ _ _) (row_at _ N hN 256 _) (gate_at _ h s hX 256 _) x).trans
    (spot h w N s 256 x y hx))) ?_
  refine View.allAt_cons_unit _ _ _ _ _ (fun x hx => (out1 _ _ _ _ _ _ _ _ _ _ x).trans ((result _ _ _ _ _ _ _ _ _ _ _ h w N s 128 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 128 _ _ _ _ _ _ _ _) (row_at _ N hN 128 _) (gate_at _ h s hX 128 _) x).trans
    (spot h w N s 128 x y hx))) ?_
  refine View.allAt_cons_unit _ _ _ _ _ (fun x hx => (out0 _ _ _ _ _ _ _ _ _ _ x).trans ((result _ _ _ _ _ _ _ _ _ _ _ h w N s 0 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 0 _ _ _ _ _ _ _ _) (row_at _ N hN 0 _) (gate_at _ h s hX 0 _) x).trans
    (spot h w N s 0 x y hx))) ?_
  exact View.allAt_nil _ _

set_option maxHeartbeats 1000000 in
/-- A later block: the rows before it are those the block before left. -/
theorem later (c : Dev nD) (t : Fin cfg0.N) (h0 : ¬ t.val % 16 = 0) (h w : ℕ → ℕ → EReal) (N : ℕ → EReal) (s : ℕ) (hs : s = 0 ∨ 8 ≤ s)
    (hX : ∀ i : S128x10752.Idx, iblk m c 0 t i = h (s + (i 0).val) (i 1).val) (hW : ∀ i : S3x1024.Idx, iblk m c 2 t i = w (i 0).val (i 1).val)
    (hN : ∀ i : S1x1024.Idx, iblk m c 10 t i = N (i 1).val)
    (hp : ∀ i : S8x1024.Idx, ((outsAt0 m c (t.val - 1) (Nat.lt_of_le_of_lt (Nat.sub_le _ _) t.isLt)).2.2.2.2.1 i
      * (outsAt0 m c (t.val - 1) (Nat.lt_of_le_of_lt (Nat.sub_le _ _) t.isLt)).2.2.2.2.2.1 i : EReal)
      = if s = 0 then 0 else h (s + (i 0).val - 8) (1024 + (i 1).val) * h (s + (i 0).val - 8) (2048 + (i 1).val))
    (y : S128x4096.Idx) (hy : (y 1).val < 1024) : (outsAt0 m c t.val t.isLt).1 y = branch h w N (s + (y 0).val) (y 1).val := by
  have hy0 : (y 0).val < 128 := (y 0).isLt
  rw [outsAt0_B m c t h0]
  dsimp only
  generalize (outsAt0 m c (t.val - 1) (Nat.lt_of_le_of_lt (Nat.sub_le _ _) t.isLt)).2.2.2.2.1 = P at hp ⊢
  generalize (outsAt0 m c (t.val - 1) (Nat.lt_of_le_of_lt (Nat.sub_le _ _) t.isLt)).2.2.2.2.2.1 = Q at hp ⊢
  unfold out0_B_14
  rw [View.read_writes_eq_canon _ _ _ (fun y => cover0_B_14 (y := y) ..)]
  refine View.canon_eq_of_allAt _ _ _ (cover0_B_14 ..) ?_
  unfold kernelRun0_B
  dsimp only
  sl_unfold_words
  iterate 24
    refine View.allAt_cons_unit _ _ _ _ _ (fun x hx => absurd (hx 1) (by
      intro h
      simp only [Matrix.cons_val_one, Matrix.cons_val_zero, Matrix.cons_val] at h
      omega)) ?_
  simp only [View.readAt_eq_ld, (hs0_0 t).read_unread, (hs0_2 t).read_unread, (hs0_10 t).read_unread, (Memref.isWhole_whole cc0_scratch2).read_unread, (Memref.isWhole_whole cc0_scratch3).read_unread, shapeCast_self,
    taps0, taps1, taps2, taps4, taps5, taps7, inverses_all]
  rw [taps3, taps6]
  have T := chunk (iblk m c 0 t) (iblk m c 2 t) (P) (Q) h w s hs hX hW hp
  refine View.allAt_cons_unit _ _ _ _ _ (fun x hx => (out7 _ _ _ _ x).trans ((result _ _ _ _ _ _ _ _ _ _ _ h w N s 896 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 896 _ _ _ _ _ _ _ _) (row_at _ N hN 896 _) (gate_at _ h s hX 896 _) x).trans
    (spot h w N s 896 x y hx))) ?_
  refine View.allAt_cons_unit _ _ _ _ _ (fun x hx => (out6 _ _ _ _ x).trans ((result _ _ _ _ _ _ _ _ _ _ _ h w N s 768 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 768 _ _ _ _ _ _ _ _) (row_at _ N hN 768 _) (gate_at _ h s hX 768 _) x).trans
    (spot h w N s 768 x y hx))) ?_
  refine View.allAt_cons_unit _ _ _ _ _ (fun x hx => (out5 _ _ _ _ x).trans ((result _ _ _ _ _ _ _ _ _ _ _ h w N s 640 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 640 _ _ _ _ _ _ _ _) (row_at _ N hN 640 _) (gate_at _ h s hX 640 _) x).trans
    (spot h w N s 640 x y hx))) ?_
  refine View.allAt_cons_unit _ _ _ _ _ (fun x hx => (out4 _ _ _ _ x).trans ((result _ _ _ _ _ _ _ _ _ _ _ h w N s 512 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 512 _ _ _ _ _ _ _ _) (row_at _ N hN 512 _) (gate_at _ h s hX 512 _) x).trans
    (spot h w N s 512 x y hx))) ?_
  refine View.allAt_cons_unit _ _ _ _ _ (fun x hx => (out3 _ _ _ _ x).trans ((result _ _ _ _ _ _ _ _ _ _ _ h w N s 384 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 384 _ _ _ _ _ _ _ _) (row_at _ N hN 384 _) (gate_at _ h s hX 384 _) x).trans
    (spot h w N s 384 x y hx))) ?_
  refine View.allAt_cons_unit _ _ _ _ _ (fun x hx => (out2 _ _ _ _ x).trans ((result _ _ _ _ _ _ _ _ _ _ _ h w N s 256 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 256 _ _ _ _ _ _ _ _) (row_at _ N hN 256 _) (gate_at _ h s hX 256 _) x).trans
    (spot h w N s 256 x y hx))) ?_
  refine View.allAt_cons_unit _ _ _ _ _ (fun x hx => (out1 _ _ _ _ _ _ _ _ _ _ x).trans ((result _ _ _ _ _ _ _ _ _ _ _ h w N s 128 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 128 _ _ _ _ _ _ _ _) (row_at _ N hN 128 _) (gate_at _ h s hX 128 _) x).trans
    (spot h w N s 128 x y hx))) ?_
  refine View.allAt_cons_unit _ _ _ _ _ (fun x hx => (out0 _ _ _ _ _ _ _ _ _ _ x).trans ((result _ _ _ _ _ _ _ _ _ _ _ h w N s 0 (T 0 _ _ _ _ _ _ _ _) (T 128 _ _ _ _ _ _ _ _) (T 256 _ _ _ _ _ _ _ _) (T 384 _ _ _ _ _ _ _ _) (T 512 _ _ _ _ _ _ _ _) (T 640 _ _ _ _ _ _ _ _) (T 768 _ _ _ _ _ _ _ _) (T 896 _ _ _ _ _ _ _ _) (T 0 _ _ _ _ _ _ _ _) (row_at _ N hN 0 _) (gate_at _ h s hX 0 _) x).trans
    (spot h w N s 0 x y hx))) ?_
  exact View.allAt_nil _ _

end Cert.MixerIdeal.Rows

end
-- ==== Proof.MixerRef.lean ====
/-
  The reference of the mixer's short-convolution branch, read at an index.
-/
module

public import proofs.«01_k».proof.Proof.Short
public import proofs.«01_k».proof.Proof.Gen.MixerRefIdeal.Read
public import Idealize.ShloMosaic.Lib.KernelVsHost

@[expose] public section

noncomputable section

open Idealize.ShloMosaic Idealize.ShloMosaic.TcCoe Idealize.SL.Sem

namespace Cert.MixerRefIdeal.Rows

open Cert.MixerRefIdeal Cert.MixerRefIdeal.Gen Cert.MixerRefIdeal.Read Cert.Proof

variable (x0 : Vec Ideal S4096x10752 .f32) (x1 : Vec Ideal S3x1024 .f32) (x9 : Vec Ideal S1024 .f32)

/-- Sequence `b` of the projected rows. -/
def seq (b : ℕ) (s k : ℕ) : EReal := cell x0 (b * 2048 + s) k

theorem whole (i : S2x2048x10752.Idx) : val_main_v0 (F := Ideal) x0 i = seq x0 (i 0) (i 1) (i 2) := by
  rw [val_main_v0_apply]
  have h2 : (i 2).val < 10752 := (i 2).isLt
  refine cell_eq x0 _ _ _ ?_ ?_
  · show (((i 0).val * 2048 + (i 1).val) * 10752 + (i 2).val) / 10752 = _
    omega
  · show (((i 0).val * 2048 + (i 1).val) * 10752 + (i 2).val) % 10752 = _
    omega

/-- The tapped product of two columns. -/
theorem product (i : S2x2048x1024.Idx) : val_main_v5 (F := Ideal) x0 i = seq x0 (i 0) (i 1) (1024 + (i 2).val) * seq x0 (i 0) (i 1) (2048 + (i 2).val) := by
  rw [val_main_v5_apply, val_main_v2_apply, val_main_v3_apply, whole, whole]
  rfl

/-- The padded product, two rows late. -/
theorem padded (i : S2x2050x1024.Idx) : val_main_v6 (F := Ideal) x0 i
    = before (fun q => seq x0 (i 0) q (1024 + (i 2).val) * seq x0 (i 0) q (2048 + (i 2).val)) 2 (i 1) := by
  have h1 : (i 1).val < 2050 := (i 1).isLt
  unfold val_main_v6 before
  by_cases h : (i 1).val < 2
  · rw [if_pos h]
    refine (pad_apply_of_not_inside _ _ _ _ _ _ _ i 1 ?_).trans ?_
    · intro hh
      have : 2 ≤ (i 1).val := hh.1
      omega
    · rw [val_main_call0_v0_apply, val_main_c_apply]
      show ((((0#32 : BitVec 32).toInt : ℤ) : ℝ) : EReal) = 0
      simp
  · rw [if_neg h]
    refine (pad_apply_of_inside _ _ _ _ _ _ _ i (show S2x2048x1024.Idx from fun a => match a with
      | ⟨0, _⟩ => ⟨(i 0).val, (i 0).isLt⟩
      | ⟨1, _⟩ => ⟨(i 1).val - 2, by show (i 1).val - 2 < 2048; omega⟩
      | ⟨2, _⟩ => ⟨(i 2).val, (i 2).isLt⟩) ?_).trans ?_
    · intro a
      match a with
      | ⟨0, _⟩ => show (i 0).val = 0 + (i 0).val * (0 + 1); omega
      | ⟨1, _⟩ => show (i 1).val = 2 + ((i 1).val - 2) * (0 + 1); omega
      | ⟨2, _⟩ => show (i 2).val = 0 + (i 2).val * (0 + 1); omega
    · rw [product]

theorem tap0 (i : S2x2048x1024.Idx) : val_main_v11 (F := Ideal) x1 i = cell x1 0 (i 2) := by
  have h2 : (i 2).val < 1024 := (i 2).isLt
  rw [val_main_v11_apply, val_main_v10_apply, val_main_v9_apply, val_main_v8_apply]
  refine cell_eq x1 _ _ _ rfl ?_
  show (i 2).val % 1024 = _
  omega

theorem tap1 (i : S2x2048x1024.Idx) : val_main_v17 (F := Ideal) x1 i = cell x1 1 (i 2) := by
  have h2 : (i 2).val < 1024 := (i 2).isLt
  rw [val_main_v17_apply, val_main_v16_apply, val_main_v15_apply, val_main_v14_apply]
  refine cell_eq x1 _ _ _ rfl ?_
  show (i 2).val % 1024 = _
  omega

theorem tap2 (i : S2x2048x1024.Idx) : val_main_v24 (F := Ideal) x1 i = cell x1 2 (i 2) := by
  have h2 : (i 2).val < 1024 := (i 2).isLt
  rw [val_main_v24_apply, val_main_v23_apply, val_main_v22_apply, val_main_v21_apply]
  refine cell_eq x1 _ _ _ rfl ?_
  show (i 2).val % 1024 = _
  omega

/-- The taps, in the reference's order. -/
theorem taps (i : S2x2048x1024.Idx) : val_main_v27 (F := Ideal) x0 x1 i = tapped (seq x0 (i 0)) (cell x1) (i 1) (i 2) := by
  rw [val_main_v27_apply, val_main_v26_apply, val_main_v19_apply, val_main_v12_apply, val_main_v18_apply, val_main_v25_apply,
    val_main_v1_apply, whole, val_main_v7_apply, val_main_v13_apply, val_main_v20_apply, padded, padded, padded, tap0, tap1, tap2]
  unfold tapped
  refine congrArg₂ (fun x y : EReal => x * y) rfl ?_
  have a : before (fun q => seq x0 (i 0) q (1024 + (i 2).val) * seq x0 (i 0) q (2048 + (i 2).val)) 2 (1 + (i 1).val)
      = before (fun q => seq x0 (i 0) q (1024 + (i 2).val) * seq x0 (i 0) q (2048 + (i 2).val)) 1 (i 1) := by
    unfold before
    by_cases h : (i 1).val < 1
    · rw [if_pos h, if_pos (by omega)]
    · rw [if_neg h, if_neg (by omega), show 1 + (i 1).val - 2 = (i 1).val - 1 from by omega]
  have b : before (fun q => seq x0 (i 0) q (1024 + (i 2).val) * seq x0 (i 0) q (2048 + (i 2).val)) 2 (2 + (i 1).val)
      = seq x0 (i 0) (i 1) (1024 + (i 2).val) * seq x0 (i 0) (i 1) (2048 + (i 2).val) := by
    unfold before
    rw [if_neg (by omega), show 2 + (i 1).val - 2 = (i 1).val from by omega]
  show (before _ 2 (i 1).val * cell x1 0 (i 2).val + before _ 2 (1 + (i 1).val) * cell x1 1 (i 2).val + before _ 2 (2 + (i 1).val) * cell x1 2 (i 2).val : EReal) = _
  rw [show before _ 2 (1 + (i 1).val) = _ from a, show before _ 2 (2 + (i 1).val) = _ from b]
  rw [mul_comm (cell x1 2 _), mul_comm (cell x1 1 _), mul_comm (cell x1 0 _), add_comm, ← add_assoc, add_right_comm]

theorem inverses (i : S2x2048x1.Idx) : val_main_v35 (F := Ideal) x0 x1 i = inverse (tapped (seq x0 (i 0)) (cell x1) (i 1)) := by
  rw [val_main_v35_apply, val_main_v34_apply, val_main_v32_apply, val_main_v30_apply, val_main_v29_apply, val_main_v31_apply, val_main_v33_apply,
    val_main_cst_apply, val_main_cst_0_apply, val_main_cst_1_apply]
  unfold inverse
  refine congrArg (FloatOps.rsqrt (F := Ideal) (φ := .f32)) (congrArg₂ (fun x y : EReal => x + y) ?_ rfl)
  refine (divide_1024 _).trans (congrArg₂ (fun x y : EReal => x * y) ?_ rfl)
  refine (congrArg (· + _) Ideal.ofBits_zero_f32).trans ((zero_add _).trans (Finset.sum_congr rfl fun k _ => ?_))
  rw [val_main_v28_apply, taps]
  rfl

theorem gates (i : S2x2048x1024.Idx) : val_main_v41 (F := Ideal) x0 i = gate (seq x0 (i 0) (i 1) (3072 + (i 2).val)) := by
  rw [val_main_v41_apply, val_main_call1_v5_apply, val_main_call1_v4_apply, val_main_call1_v3_apply, val_main_call1_v2_apply, val_main_call1_v1_apply,
    val_main_call1_v0_apply, val_main_call1_cst_apply, val_main_call1_cst_0_apply, val_main_v4_apply, whole]
  unfold gate
  rw [Ideal.ofBits_zero_f32, zero_sub]
  rfl

theorem values (i : S4096x1024.Idx) : val_main_v44 (F := Ideal) x0 x1 x9 i
    = branch (seq x0 ((i 0).val / 2048)) (cell x1) (fun k => if h : k < 1024 then x9 (single ⟨k, h⟩) else 0) ((i 0).val % 2048) (i 1) := by
  have h0 : (i 0).val < 4096 := (i 0).isLt
  have h1 : (i 1).val < 1024 := (i 1).isLt
  rw [val_main_v44_apply, val_main_v43_apply, val_main_v42_apply, val_main_v40_apply, val_main_v37_apply, val_main_v36_apply, inverses, taps, gates,
    val_main_v39_apply, val_main_v38_apply]
  have e0 : ((idx_main_v43 i) 0).val = (i 0).val / 2048 := by
    show ((i 0).val * 1024 + (i 1).val) / 2097152 = _
    omega
  have e1 : ((idx_main_v43 i) 1).val = (i 0).val % 2048 := by
    show ((i 0).val * 1024 + (i 1).val) / 1024 % 2048 = _
    omega
  have e2 : ((idx_main_v43 i) 2).val = (i 1).val := by
    show ((i 0).val * 1024 + (i 1).val) % 1024 = _
    omega
  unfold branch
  show (tapped (seq x0 ((idx_main_v43 i) 0).val) (cell x1) ((idx_main_v43 i) 1).val ((idx_main_v43 i) 2).val
    * inverse (tapped (seq x0 ((idx_main_v43 i) 0).val) (cell x1) ((idx_main_v43 i) 1).val) * x9 _
    * gate (seq x0 ((idx_main_v43 i) 0).val ((idx_main_v43 i) 1).val (3072 + ((idx_main_v43 i) 2).val)) : EReal) = _
  rw [e0, e1, e2]
  beta_reduce
  rw [dif_pos h1]
  refine congrArg₂ (fun x y : EReal => x * y) (congrArg₂ (fun x y : EReal => x * y) rfl (congrArg x9 (funext fun a => Fin.ext ?_))) rfl
  match a with
  | ⟨0, _⟩ => exact e2

end Cert.MixerRefIdeal.Rows

end
-- ==== Proof.Mixer.lean ====
/-
  The forward mixer: the columns of its short-convolution branch, over both sequences.
-/
module

public import proofs.«01_k».proof.Defs
public import proofs.«01_k».proof.Proof.MixerBlock
public import proofs.«01_k».proof.Proof.MixerRef
public import proofs.«01_k».proof.Proof.Gen.Mixer
public import proofs.«01_k».proof.Proof.Gen.MixerRefIdeal.Run
public import Idealize.ShloMosaic.Lib.StableHlo.Run
public import Idealize.ShloMosaic.Lib.Quiescent
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.MixerIdeal.Rows

open Cert.MixerIdeal Cert.MixerIdeal.Gen Cert.Proof
open Cert.MixerRefIdeal.Rows (seq)

variable (m : (ℓ : Loc nD τ sig) → Buf (Elt Ideal) ℓ) (ρ : Dev nD → PrngReg)

/-! ### The rows a block hands to the next -/

theorem tail_at (X : Vec Ideal S128x10752 .f32) (h : ℕ → ℕ → EReal) (s o : ℕ) (hX : ∀ i, X i = h (s + (i 0).val) (i 1).val) (a) (i : S8x1024.Idx) :
    View.ld X (Rect.unit ![120, o] S8x1024.size a) i = h (s + 120 + (i 0).val) (o + (i 1).val) := by
  refine (hX _).trans ?_
  show h (s + (120 + 1 * (i 0).val)) (o + 1 * (i 1).val) = _
  rw [one_mul, one_mul, Nat.add_assoc]

set_option maxHeartbeats 1000000 in
theorem left_first2 (c : Dev nD) (t : Fin cfg0.N) (h0 : t.val % 16 = 0) (h : ℕ → ℕ → EReal) (s : ℕ)
    (hX : ∀ i : S128x10752.Idx, iblk m c 0 t i = h (s + (i 0).val) (i 1).val) (i : S8x1024.Idx) :
    (outsAt0 m c t.val t.isLt).2.2.2.2.1 i = h (s + 120 + (i 0).val) (1024 + (i 1).val) := by
  rw [outsAt0_A m c t h0]
  dsimp only
  unfold sout0_A_2
  rw [View.read_writes_eq_canon _ _ _ (fun y => scover0_A_2 (y := y) ..)]
  unfold kernelRun0_A
  dsimp only
  sl_unfold_words
  rw [View.canon_cons_unit_zero zeros2]
  unfold k0_pay504
  rw [shapeCast_self, View.readAt_eq_ld, (hs0_0 t).read_unread]
  exact tail_at _ h s 1024 hX _ i

set_option maxHeartbeats 1000000 in
theorem left_first3 (c : Dev nD) (t : Fin cfg0.N) (h0 : t.val % 16 = 0) (h : ℕ → ℕ → EReal) (s : ℕ)
    (hX : ∀ i : S128x10752.Idx, iblk m c 0 t i = h (s + (i 0).val) (i 1).val) (i : S8x1024.Idx) :
    (outsAt0 m c t.val t.isLt).2.2.2.2.2.1 i = h (s + 120 + (i 0).val) (2048 + (i 1).val) := by
  rw [outsAt0_A m c t h0]
  dsimp only
  unfold sout0_A_3
  rw [View.read_writes_eq_canon _ _ _ (fun y => scover0_A_3 (y := y) ..)]
  unfold kernelRun0_A
  dsimp only
  sl_unfold_words
  rw [View.canon_cons_unit_zero zeros2]
  unfold k0_pay505
  rw [shapeCast_self, View.readAt_eq_ld, (hs0_0 t).read_unread]
  exact tail_at _ h s 2048 hX _ i

set_option maxHeartbeats 1000000 in
theorem left_later2 (c : Dev nD) (t : Fin cfg0.N) (h0 : ¬ t.val % 16 = 0) (h : ℕ → ℕ → EReal) (s : ℕ)
    (hX : ∀ i : S128x10752.Idx, iblk m c 0 t i = h (s + (i 0).val) (i 1).val) (i : S8x1024.Idx) :
    (outsAt0 m c t.val t.isLt).2.2.2.2.1 i = h (s + 120 + (i 0).val) (1024 + (i 1).val) := by
  rw [outsAt0_B m c t h0]
  dsimp only
  unfold sout0_B_2
  rw [View.read_writes_eq_canon _ _ _ (fun y => scover0_B_2 (y := y) ..)]
  unfold kernelRun0_B
  dsimp only
  sl_unfold_words
  rw [View.canon_unit_zero zeros2]
  unfold k0_pay504
  rw [shapeCast_self, View.readAt_eq_ld, (hs0_0 t).read_unread]
  exact tail_at _ h s 1024 hX _ i

set_option maxHeartbeats 1000000 in
theorem left_later3 (c : Dev nD) (t : Fin cfg0.N) (h0 : ¬ t.val % 16 = 0) (h : ℕ → ℕ → EReal) (s : ℕ)
    (hX : ∀ i : S128x10752.Idx, iblk m c 0 t i = h (s + (i 0).val) (i 1).val) (i : S8x1024.Idx) :
    (outsAt0 m c t.val t.isLt).2.2.2.2.2.1 i = h (s + 120 + (i 0).val) (2048 + (i 1).val) := by
  rw [outsAt0_B m c t h0]
  dsimp only
  unfold sout0_B_3
  rw [View.read_writes_eq_canon _ _ _ (fun y => scover0_B_3 (y := y) ..)]
  unfold kernelRun0_B
  dsimp only
  sl_unfold_words
  rw [View.canon_unit_zero zeros2]
  unfold k0_pay505
  rw [shapeCast_self, View.readAt_eq_ld, (hs0_0 t).read_unread]
  exact tail_at _ h s 2048 hX _ i

/-! ### Blocks of the inputs -/

theorem bands : ∀ t : Fin cfg0.N, win0_0.index t 0 = t.val ∧ win0_0.index t 1 = 0 ∧ win0_2.index t 0 = 0 ∧ win0_2.index t 1 = 0 ∧ win0_10.index t 0 = 0 ∧ win0_10.index t 1 = 0
      ∧ win0_14.index t 0 = t.val ∧ win0_14.index t 1 = 0 ∧ (cfg0.win 14).flush t = true :=
  (by decide +kernel : ∀ t : Fin grid0.N, win0_0.index t 0 = t.val ∧ win0_0.index t 1 = 0 ∧ win0_2.index t 0 = 0 ∧ win0_2.index t 1 = 0 ∧ win0_10.index t 0 = 0 ∧ win0_10.index t 1 = 0
      ∧ win0_14.index t 0 = t.val ∧ win0_14.index t 1 = 0 ∧ (cfg0.win 14).flush t = true)

/-- The projected rows of a device. -/
abbrev rows (c : Dev nD) : Vec Ideal S4096x10752 .f32 := m ((c : Thread nD τ).loc main_arg0)

/-- The weights of its norm, by column. -/
def weights (c : Dev nD) (k : ℕ) : EReal :=
  if h : k < 1024 then (m ((c : Thread nD τ).loc main_arg9) : Vec Ideal S1024 .f32) (single ⟨k, h⟩) else 0

theorem block_rows (c : Dev nD) (t : Fin cfg0.N) (i : S128x10752.Idx) :
    iblk m c 0 t i = seq (rows m c) (t.val / 16) (t.val % 16 * 128 + (i 0).val) (i 1).val := by
  obtain ⟨h0, h1, -⟩ := bands t
  unfold iblk
  rw [View.read_apply]
  show V m c main_arg0 _ = cell _ _ _
  rw [V_main_arg0]
  refine cell_eq _ _ _ _ ?_ ?_
  · show win0_0.index t 0 * 128 + 1 * (i 0).val = _
    rw [h0]; omega
  · show win0_0.index t 1 * 10752 + 1 * (i 1).val = _
    rw [h1]; omega

theorem block_taps (c : Dev nD) (t : Fin cfg0.N) (i : S3x1024.Idx) :
    iblk m c 2 t i = cell (m ((c : Thread nD τ).loc main_arg1) : Vec Ideal S3x1024 .f32) (i 0).val (i 1).val := by
  obtain ⟨-, -, h0, h1, -⟩ := bands t
  unfold iblk
  rw [View.read_apply]
  show V m c main_arg1 _ = cell _ _ _
  rw [V_main_arg1]
  refine cell_eq _ _ _ _ ?_ ?_
  · show win0_2.index t 0 * 3 + 1 * (i 0).val = _
    rw [h0]; omega
  · show win0_2.index t 1 * 1024 + 1 * (i 1).val = _
    rw [h1]; omega

theorem block_weights (c : Dev nD) (t : Fin cfg0.N) (i : S1x1024.Idx) : iblk m c 10 t i = weights m c (i 1).val := by
  obtain ⟨-, -, -, -, h0, h1, -⟩ := bands t
  have i1 : (i 1).val < 1024 := (i 1).isLt
  have h : V m c main_v4 = (broadcastInDim S1x1024 ![1] bcast_S1024_S1x1024_1 (m ((c : Thread nD τ).loc main_arg9)) : Vec Ideal S1x1024 .f32) := by
    unfold V V0
    simp only [hostOps0, hostOps0_1, hostOps0_2, hostOps0_3, hostOps0_4, List.flatten_cons, List.flatten_nil, List.append_nil, List.cons_append, List.nil_append]
    after_results
  unfold iblk
  rw [View.read_apply]
  show V m c main_v4 _ = _
  rw [h]
  unfold weights
  rw [dif_pos i1]
  refine broadcastInDim_apply _ bcast_S1024_S1x1024_1 _ _ (single ⟨(i 1).val, i1⟩) (fun a => ?_)
  match a with
  | ⟨0, _⟩ =>
    show (i 1).val = if (1024 : Nat) = 1 then 0 else win0_10.index t 1 * 1024 + 1 * (i 1).val
    rw [if_neg (by decide), h1]; omega

/-! ### One block of the result, then the array -/

theorem left (c : Dev nD) (t : Fin cfg0.N) (i : S8x1024.Idx) :
    (outsAt0 m c t.val t.isLt).2.2.2.2.1 i = seq (rows m c) (t.val / 16) (t.val % 16 * 128 + 120 + (i 0).val) (1024 + (i 1).val)
      ∧ (outsAt0 m c t.val t.isLt).2.2.2.2.2.1 i = seq (rows m c) (t.val / 16) (t.val % 16 * 128 + 120 + (i 0).val) (2048 + (i 1).val) := by
  by_cases h0 : t.val % 16 = 0
  · exact ⟨left_first2 m c t h0 _ (t.val % 16 * 128) (block_rows m c t) i, left_first3 m c t h0 _ (t.val % 16 * 128) (block_rows m c t) i⟩
  · exact ⟨left_later2 m c t h0 _ (t.val % 16 * 128) (block_rows m c t) i, left_later3 m c t h0 _ (t.val % 16 * 128) (block_rows m c t) i⟩

theorem block (c : Dev nD) (t : Fin cfg0.N) (y : S128x4096.Idx) (hy : (y 1).val < 1024) :
    (outsAt0 m c t.val t.isLt).1 y = branch (seq (rows m c) (t.val / 16)) (cell (m ((c : Thread nD τ).loc main_arg1) : Vec Ideal S3x1024 .f32)) (weights m c)
      (t.val % 16 * 128 + (y 0).val) (y 1).val := by
  by_cases h0 : t.val % 16 = 0
  · exact first m c t h0 _ _ _ (t.val % 16 * 128) (by omega) (block_rows m c t) (block_taps m c t) (block_weights m c t) y hy
  · refine later m c t h0 _ _ _ (t.val % 16 * 128) (Or.inr (by omega)) (block_rows m c t) (block_taps m c t) (block_weights m c t) ?_ y hy
    intro i
    have e := left m c ⟨t.val - 1, Nat.lt_of_le_of_lt (Nat.sub_le _ _) t.isLt⟩ i
    have ed : (t.val - 1) / 16 = t.val / 16 := by omega
    have er : (t.val - 1) % 16 * 128 + 120 + (i 0).val = t.val % 16 * 128 + (i 0).val - 8 := by omega
    dsimp only at e
    rw [ed, er] at e
    rw [if_neg (by omega), e.1, e.2]

theorem flushed14 (c : Dev nD) (t : Fin cfg0.N) :
    (dats m 0 c).flushed 14 t = (cfg0.win 14).cut (grid0.coords t) ((outsAt0 m c t.val t.isLt).1) := by
  show (cfg0.win 14).cut (grid0.coords t) ((dats m 0 c).after 14 t) = _
  rw [after0_14]

theorem idx_inj14 : ∀ t t' : Fin cfg0.N, win0_14.index t = win0_14.index t' → t = t' :=
  (by decide +kernel : ∀ t t' : Fin grid0.N, win0_14.index t = win0_14.index t' → t = t')

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- A short-convolution column of the array the region leaves. -/
theorem array (c : Dev nD) (i : S4096x4096.Idx) (hi : (i 1).val < 1024) :
    (dats m 0 c).arrAt 14 cfg0.N i = branch (seq (rows m c) ((i 0).val / 2048)) (cell (m ((c : Thread nD τ).loc main_arg1) : Vec Ideal S3x1024 .f32)) (weights m c)
      ((i 0).val % 2048) (i 1).val := by
  have i0 : (i 0).val < 4096 := (i 0).isLt
  let t : Fin cfg0.N := ⟨(i 0).val / 128, by show _ < 32; omega⟩
  obtain ⟨-, -, -, -, -, -, h0, h1, f⟩ := bands t
  let j : S128x4096.Idx := pair ⟨(i 0).val % 128, by omega⟩ (i 1)
  have e := congrFun ((dats m 0 c).read_blk_arrAt_eq_flushed 14 disjoint14 cfg0.N t t.isLt f) j
  rw [View.read_apply, flushed14] at e
  have b : (cfg0.win 14).cut (grid0.coords t) ((outsAt0 m c t.val t.isLt).1) j = _ := block m c t j hi
  refine Eq.trans (congrArg ((dats m 0 c).arrAt 14 cfg0.N) (funext fun a => Fin.ext ?_)) (e.trans (b.trans ?_))
  · match a with
    | ⟨0, _⟩ => show (i 0).val = win0_14.index t 0 * 128 + 1 * ((i 0).val % 128); rw [h0]; dsimp only [t]; omega
    | ⟨1, _⟩ => show (i 1).val = win0_14.index t 1 * 4096 + 1 * (i 1).val; rw [h1]; omega
  · show branch (seq (rows m c) ((i 0).val / 128 / 16)) _ _ ((i 0).val / 128 % 16 * 128 + (i 0).val % 128) (i 1).val = _
    rw [show (i 0).val / 128 / 16 = (i 0).val / 2048 from by omega, show (i 0).val / 128 % 16 * 128 + (i 0).val % 128 = (i 0).val % 2048 from by omega]

/-- What the lines after the region make of it. -/
theorem tail (c : Dev nD) : Pipeline.afterTail₀ cfgs (dats m) 0 (V0 m) [hostOps1] c main_v34
    = (extractStridedSlice S4096x1024 ![0, 0] ((dats m 0 c).arrAt 14 cfg0.N : Vec Ideal S4096x4096 .bf16) slices_S4096x4096_S4096x1024_0_0 : Vec Ideal S4096x1024 .bf16) := by
  unfold Pipeline.afterTail₀
  have w : Pipeline.withArrays (cfgs 0).spec c (V0 m c) (fun w => (dats m 0 c).arrAt w (cfgs 0).N) (Proc.devRef .tc main_v33_0) = (dats m 0 c).arrAt 14 cfg0.N :=
    Pipeline.withArrays_arr (cfgs 0).spec (by decide) c (V0 m c) _ 14
  rw [← w]
  simp only [List.flatten_cons, List.flatten_nil, List.append_nil]
  after_results

theorem final (c : Dev nD) : Pipeline.afterTail₀ cfgs (dats m) 0 (V0 m) [hostOps1] c main_v34
    = Cert.MixerRefIdeal.Read.val_main_v44 (F := Ideal) (m ((c : Thread nD τ).loc main_arg0)) (m ((c : Thread nD τ).loc main_arg1)) (m ((c : Thread nD τ).loc main_arg9)) := by
  rw [tail]
  funext i
  have i1 : (i 1).val < 1024 := (i 1).isLt
  rw [Cert.MixerRefIdeal.Rows.values]
  refine (congrArg ((dats m 0 c).arrAt 14 cfg0.N) (funext fun a => Fin.ext ?_)).trans (array m c (pair ⟨(i 0).val, (i 0).isLt⟩ ⟨(i 1).val, by omega⟩) i1)
  match a with
  | ⟨0, _⟩ => show 0 + (i 0).val = (i 0).val; rw [zero_add]
  | ⟨1, _⟩ => show 0 + (i 1).val = (i 1).val; rw [zero_add]

end Cert.MixerIdeal.Rows

namespace Cert.Proof.Mixer

set_option maxHeartbeats 4000000 in
theorem bodies : @Cert.Mixer.defs₀ Bits _ _ = @Cert.MixerIdeal.defs₀ Bits _ _ := by
  unfold Cert.Mixer.defs₀ Cert.MixerIdeal.defs₀
  refine congrArg Defs.onTc (funext fun l => ?_)
  match l with
  | 0 => rfl

theorem table : @Cert.Mixer.defs Bits _ _ = @Cert.MixerIdeal.defs Bits _ _ := congrArg (Pipeline.defs _) bodies

set_option maxHeartbeats 4000000 in
theorem frame_kernel : Cert.quiescent_Mixer := fun m ρ _ => by rw [table]; exact Cert.MixerIdeal.Gen.frame (F := Bits) m ρ
theorem frame_ideal : Cert.quiescent_MixerIdeal := fun m ρ _ => Cert.MixerIdeal.Gen.frame m ρ
theorem frame_ref : Cert.quiescent_MixerRefIdeal := fun m ρ _ =>
  (θ_run Cert.MixerRefIdeal.defs _ _).mono (fun r h => ⟨fun c => (h c).2, Idealize.ShloMosaic.sem_eq_zero_of_no_sems (by decide) r.2⟩) (Cert.MixerRefIdeal.Value.run (F := Ideal) m ρ)

theorem value : Cert.algebraic_MixerIdeal_MixerRefIdeal := fun m ρ m' ρ' _ hag =>
  ⟨fun c => Cert.MixerRefIdeal.Read.val_main_v44 (F := Ideal) (m ((c.tc : Thread _ _).loc Cert.MixerIdeal.main_arg0)) (m ((c.tc : Thread _ _).loc Cert.MixerIdeal.main_arg1)) (m ((c.tc : Thread _ _).loc Cert.MixerIdeal.main_arg9)),
    (θ_run Cert.MixerIdeal.defs _ _).mono
      (fun _ h c => ⟨((h.1 c).2 Cert.MixerIdeal.main_v34 (by decide)).trans (Cert.MixerIdeal.Rows.final m c), h.2 c⟩)
      (θ_run_and (Cert.MixerIdeal.Gen.run_main m ρ) (Cert.MixerIdeal.Gen.unchanged m ρ)),
    (θ_run Cert.MixerRefIdeal.defs _ _).mono
      (fun _ h c => ⟨(h c).1.trans ((Cert.MixerRefIdeal.Read.val_main_v44_eq _ _).trans (by
        rw [(hag c).1, (hag c).2.1, (hag c).2.2.2.2.2.2.2.2.2.1])), (h c).2⟩)
      (Cert.MixerRefIdeal.Value.run m' ρ')⟩

end Cert.Proof.Mixer

end
-- ==== Proof.lean ====
/-
  The certificate: each call's frames, that idealizing rewrites nothing in it, and what it computes.
-/
module

public import proofs.«01_k».proof.Defs
public import proofs.«01_k».proof.Proof.Dmix
public import proofs.«01_k».proof.Proof.Dwo
public import proofs.«01_k».proof.Proof.Dwt
public import proofs.«01_k».proof.Proof.Dx
public import proofs.«01_k».proof.Proof.In
public import proofs.«01_k».proof.Proof.Out
public import proofs.«01_k».proof.Proof.LnBwd
public import proofs.«01_k».proof.Proof.LnFwd
public import proofs.«01_k».proof.Proof.Loss
public import proofs.«01_k».proof.Proof.AdamwIn
public import proofs.«01_k».proof.Proof.AdamwOut
public import proofs.«01_k».proof.Proof.Adamw
public import proofs.«01_k».proof.Proof.PairIn
public import proofs.«01_k».proof.Proof.PairOut
public import proofs.«01_k».proof.Proof.Mixer

@[expose] public section

namespace Cert.Proof

theorem claim : Cert.Claim :=
  ⟨Cert.Dmix.Gen.facts, Cert.DmixIdeal.Gen.facts, Cert.DmixRefIdeal.Gen.facts, Cert.Dwo.Gen.facts, Cert.DwoIdeal.Gen.facts, Cert.DwoRefIdeal.Gen.facts, Cert.Dwt.Gen.facts, Cert.DwtIdeal.Gen.facts, Cert.DwtRefIdeal.Gen.facts, Cert.Dx.Gen.facts, Cert.DxIdeal.Gen.facts, Cert.DxRefIdeal.Gen.facts, Cert.In.Gen.facts, Cert.InIdeal.Gen.facts, Cert.InRefIdeal.Gen.facts, Cert.Out.Gen.facts, Cert.OutIdeal.Gen.facts, Cert.OutRefIdeal.Gen.facts, Cert.LnBwd.Gen.facts, Cert.LnBwdIdeal.Gen.facts, Cert.LnBwdRefIdeal.Gen.facts, Cert.LnFwd.Gen.facts, Cert.LnFwdIdeal.Gen.facts, Cert.LnFwdRefIdeal.Gen.facts, Cert.Loss.Gen.facts, Cert.LossIdeal.Gen.facts, Cert.LossRefIdeal.Gen.facts, Cert.AdamwIn.Gen.facts, Cert.AdamwInIdeal.Gen.facts, Cert.AdamwInRefIdeal.Gen.facts, Cert.AdamwOut.Gen.facts, Cert.AdamwOutIdeal.Gen.facts, Cert.AdamwOutRefIdeal.Gen.facts, Cert.Adamw.Gen.facts, Cert.AdamwIdeal.Gen.facts, Cert.AdamwRefIdeal.Gen.facts, Cert.PairIn.Gen.facts, Cert.PairInIdeal.Gen.facts, Cert.PairInRefIdeal.Gen.facts, Cert.PairInRef.Gen.facts, Cert.PairOut.Gen.facts, Cert.PairOutIdeal.Gen.facts, Cert.PairOutRefIdeal.Gen.facts, Cert.PairOutRef.Gen.facts, Cert.Mixer.Gen.facts, Cert.MixerIdeal.Gen.facts, Cert.MixerRefIdeal.Gen.facts, LnBwd.pre_facts,
    Dmix.frame_kernel,
    Dmix.frame_ideal,
    Dmix.frame_ref,
    Dwo.frame_kernel,
    Dwo.frame_ideal,
    Dwo.frame_ref,
    Dwt.frame_kernel,
    Dwt.frame_ideal,
    Dwt.frame_ref,
    Dx.frame_kernel,
    Dx.frame_ideal,
    Dx.frame_ref,
    In.frame_kernel,
    In.frame_ideal,
    In.frame_ref,
    Out.frame_kernel,
    Out.frame_ideal,
    Out.frame_ref,
    LnBwd.frame_kernel,
    LnBwd.frame_ideal,
    LnBwd.frame_ideal_pre (hPre_finite := LnBwd.pre_facts),
    LnBwd.frame_ref,
    LnBwd.frame_ref_pre (hPre_finite := LnBwd.pre_facts),
    LnFwd.frame_kernel,
    LnFwd.frame_ideal,
    LnFwd.frame_ref,
    Loss.frame_kernel,
    Loss.frame_ideal,
    Loss.frame_ref,
    AdamwIn.frame_kernel,
    AdamwIn.frame_ideal,
    AdamwIn.frame_ref,
    AdamwOut.frame_kernel,
    AdamwOut.frame_ideal,
    AdamwOut.frame_ref,
    Adamw.frame_kernel,
    Adamw.frame_ideal,
    Adamw.frame_ref,
    PairIn.frame_kernel,
    PairIn.frame_ideal,
    PairIn.frame_ref,
    PairIn.frame_ref_bits,
    PairOut.frame_kernel,
    PairOut.frame_ideal,
    PairOut.frame_ref,
    PairOut.frame_ref_bits,
    Mixer.frame_kernel,
    Mixer.frame_ideal,
    Mixer.frame_ref,
    trivial,
    Dmix.value,
    trivial,
    Dwo.value,
    trivial,
    Dwt.value,
    trivial,
    Dx.value,
    trivial,
    In.value,
    trivial,
    Out.value,
    trivial,
    LnBwd.value (hPre_finite := LnBwd.pre_facts),
    trivial,
    LnFwd.value,
    trivial,
    Loss.value,
    trivial,
    AdamwIn.value,
    trivial,
    AdamwOut.value,
    trivial,
    Adamw.value,
    trivial,
    PairIn.value,
    PairIn.same,
    trivial,
    PairOut.value,
    PairOut.same,
    trivial,
    Mixer.value⟩

end Cert.Proof
